-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_symmetric_zero_diagonal [hPre_symmetric_zero_diagonal : Cert.Pre_symmetric_zero_diagonal.Facts] (m : (ℓ : Loc Cert.KernelIdeal.nD Cert.KernelIdeal.τ Cert.KernelIdeal.sig) → Buf (Elt Ideal) ℓ) : Prop :=
  ∀ c : Dev Cert.KernelIdeal.nD,
    (Cert.Pre_symmetric_zero_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_symmetric_zero_diagonal [hPre_symmetric_zero_diagonal : Cert.Pre_symmetric_zero_diagonal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symmetric_zero_diagonal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Flip [hPre_selected_entry : Cert.Pre_selected_entry.Facts] (m : (ℓ : Loc Cert.Flip.nD Cert.Flip.τ Cert.Flip.sig) → Buf (Elt Bits) ℓ) : Prop :=
  ∀ c : Dev Cert.Flip.nD,
    (Cert.Pre_selected_entry.fn (F := Bits) (m ((c.tc : Thread Cert.Flip.nD Cert.Flip.τ).loc Cert.Flip.main_arg0)) (m ((c.tc : Thread Cert.Flip.nD Cert.Flip.τ).loc Cert.Flip.main_arg1)) (m ((c.tc : Thread Cert.Flip.nD Cert.Flip.τ).loc Cert.Flip.main_arg2))) = (fun _ => 1#1)

def Pre_FlipIdeal [hPre_selected_entry : Cert.Pre_selected_entry.Facts] (m : (ℓ : Loc Cert.FlipIdeal.nD Cert.FlipIdeal.τ Cert.FlipIdeal.sig) → Buf (Elt Ideal) ℓ) : Prop :=
  ∀ c : Dev Cert.FlipIdeal.nD,
    (Cert.Pre_selected_entry.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2))) = (fun _ => 1#1)

def Pre_FlipReferenceIdeal (m : (ℓ : Loc Cert.FlipReferenceIdeal.nD Cert.FlipReferenceIdeal.τ Cert.FlipReferenceIdeal.sig) → Buf (Elt Ideal) ℓ) : Prop :=
  True

def Pre_FlipReferenceIdeal_selected_entry [hPre_selected_entry : Cert.Pre_selected_entry.Facts] (m : (ℓ : Loc Cert.FlipReferenceIdeal.nD Cert.FlipReferenceIdeal.τ Cert.FlipReferenceIdeal.sig) → Buf (Elt Ideal) ℓ) : Prop :=
  ∀ c : Dev Cert.FlipReferenceIdeal.nD,
    (Cert.Pre_selected_entry.fn (F := Ideal) (m ((c.tc : Thread Cert.FlipReferenceIdeal.nD Cert.FlipReferenceIdeal.τ).loc Cert.FlipReferenceIdeal.main_arg0)) (m ((c.tc : Thread Cert.FlipReferenceIdeal.nD Cert.FlipReferenceIdeal.τ).loc Cert.FlipReferenceIdeal.main_arg1)) (m ((c.tc : Thread Cert.FlipReferenceIdeal.nD Cert.FlipReferenceIdeal.τ).loc Cert.FlipReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_symmetric_zero_diagonal [hKernelIdeal : Cert.KernelIdeal.Facts] [hPre_symmetric_zero_diagonal : Cert.Pre_symmetric_zero_diagonal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_symmetric_zero_diagonal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_symmetric_zero_diagonal [hReferenceIdeal : Cert.ReferenceIdeal.Facts] [hPre_symmetric_zero_diagonal : Cert.Pre_symmetric_zero_diagonal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_symmetric_zero_diagonal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Flip [hFlip : Cert.Flip.Facts] [hPre_selected_entry : Cert.Pre_selected_entry.Facts] : Prop :=
  ∀ (m : (ℓ : Loc Cert.Flip.nD Cert.Flip.τ Cert.Flip.sig) → Buf (Elt Bits) ℓ) (g : Dev Cert.Flip.nD → PrngReg), Pre_Flip m →
    θ_run (Cert.Flip.defs (F := Bits)) (onTc (τ := Cert.Flip.τ) (Cert.Flip.main (F := Bits))) ⟨m, fun _ => 0, g⟩ (fun r => (∀ c : Dev Cert.Flip.nD,
      r.2.mem ((c.tc : Thread Cert.Flip.nD Cert.Flip.τ).loc Cert.Flip.main_arg0) = m ((c.tc : Thread Cert.Flip.nD Cert.Flip.τ).loc Cert.Flip.main_arg0)
      ∧ r.2.mem ((c.tc : Thread Cert.Flip.nD Cert.Flip.τ).loc Cert.Flip.main_arg1) = m ((c.tc : Thread Cert.Flip.nD Cert.Flip.τ).loc Cert.Flip.main_arg1)
      ∧ r.2.mem ((c.tc : Thread Cert.Flip.nD Cert.Flip.τ).loc Cert.Flip.main_arg2) = m ((c.tc : Thread Cert.Flip.nD Cert.Flip.τ).loc Cert.Flip.main_arg2))
      ∧ r.2.sem = fun _ => 0)

def quiescent_FlipIdeal [hFlipIdeal : Cert.FlipIdeal.Facts] [hPre_selected_entry : Cert.Pre_selected_entry.Facts] : Prop :=
  ∀ (m : (ℓ : Loc Cert.FlipIdeal.nD Cert.FlipIdeal.τ Cert.FlipIdeal.sig) → Buf (Elt Ideal) ℓ) (g : Dev Cert.FlipIdeal.nD → PrngReg), Pre_FlipIdeal m →
    θ_run (Cert.FlipIdeal.defs (F := Ideal)) (onTc (τ := Cert.FlipIdeal.τ) (Cert.FlipIdeal.main (F := Ideal))) ⟨m, fun _ => 0, g⟩ (fun r => (∀ c : Dev Cert.FlipIdeal.nD,
      r.2.mem ((c.tc : Thread Cert.FlipIdeal.nD Cert.FlipIdeal.τ).loc Cert.FlipIdeal.main_arg0) = m ((c.tc : Thread Cert.FlipIdeal.nD Cert.FlipIdeal.τ).loc Cert.FlipIdeal.main_arg0)
      ∧ r.2.mem ((c.tc : Thread Cert.FlipIdeal.nD Cert.FlipIdeal.τ).loc Cert.FlipIdeal.main_arg1) = m ((c.tc : Thread Cert.FlipIdeal.nD Cert.FlipIdeal.τ).loc Cert.FlipIdeal.main_arg1)
      ∧ r.2.mem ((c.tc : Thread Cert.FlipIdeal.nD Cert.FlipIdeal.τ).loc Cert.FlipIdeal.main_arg2) = m ((c.tc : Thread Cert.FlipIdeal.nD Cert.FlipIdeal.τ).loc Cert.FlipIdeal.main_arg2))
      ∧ r.2.sem = fun _ => 0)

def quiescent_FlipReferenceIdeal [hFlipReferenceIdeal : Cert.FlipReferenceIdeal.Facts] : Prop :=
  ∀ (m : (ℓ : Loc Cert.FlipReferenceIdeal.nD Cert.FlipReferenceIdeal.τ Cert.FlipReferenceIdeal.sig) → Buf (Elt Ideal) ℓ) (g : Dev Cert.FlipReferenceIdeal.nD → PrngReg), Pre_FlipReferenceIdeal m →
    θ_run (Cert.FlipReferenceIdeal.defs (F := Ideal)) (onTc (τ := Cert.FlipReferenceIdeal.τ) (Cert.FlipReferenceIdeal.main (F := Ideal))) ⟨m, fun _ => 0, g⟩ (fun r => (∀ c : Dev Cert.FlipReferenceIdeal.nD,
      r.2.mem ((c.tc : Thread Cert.FlipReferenceIdeal.nD Cert.FlipReferenceIdeal.τ).loc Cert.FlipReferenceIdeal.main_arg0) = m ((c.tc : Thread Cert.FlipReferenceIdeal.nD Cert.FlipReferenceIdeal.τ).loc Cert.FlipReferenceIdeal.main_arg0)
      ∧ r.2.mem ((c.tc : Thread Cert.FlipReferenceIdeal.nD Cert.FlipReferenceIdeal.τ).loc Cert.FlipReferenceIdeal.main_arg1) = m ((c.tc : Thread Cert.FlipReferenceIdeal.nD Cert.FlipReferenceIdeal.τ).loc Cert.FlipReferenceIdeal.main_arg1)
      ∧ r.2.mem ((c.tc : Thread Cert.FlipReferenceIdeal.nD Cert.FlipReferenceIdeal.τ).loc Cert.FlipReferenceIdeal.main_arg2) = m ((c.tc : Thread Cert.FlipReferenceIdeal.nD Cert.FlipReferenceIdeal.τ).loc Cert.FlipReferenceIdeal.main_arg2))
      ∧ r.2.sem = fun _ => 0)

def quiescent_FlipReferenceIdeal_pre_selected_entry [hFlipReferenceIdeal : Cert.FlipReferenceIdeal.Facts] [hPre_selected_entry : Cert.Pre_selected_entry.Facts] : Prop :=
  ∀ (m : (ℓ : Loc Cert.FlipReferenceIdeal.nD Cert.FlipReferenceIdeal.τ Cert.FlipReferenceIdeal.sig) → Buf (Elt Ideal) ℓ) (g : Dev Cert.FlipReferenceIdeal.nD → PrngReg), Pre_FlipReferenceIdeal_selected_entry m →
    θ_run (Cert.FlipReferenceIdeal.defs (F := Ideal)) (onTc (τ := Cert.FlipReferenceIdeal.τ) (Cert.FlipReferenceIdeal.main (F := Ideal))) ⟨m, fun _ => 0, g⟩ (fun r => (∀ c : Dev Cert.FlipReferenceIdeal.nD,
      r.2.mem ((c.tc : Thread Cert.FlipReferenceIdeal.nD Cert.FlipReferenceIdeal.τ).loc Cert.FlipReferenceIdeal.main_arg0) = m ((c.tc : Thread Cert.FlipReferenceIdeal.nD Cert.FlipReferenceIdeal.τ).loc Cert.FlipReferenceIdeal.main_arg0)
      ∧ r.2.mem ((c.tc : Thread Cert.FlipReferenceIdeal.nD Cert.FlipReferenceIdeal.τ).loc Cert.FlipReferenceIdeal.main_arg1) = m ((c.tc : Thread Cert.FlipReferenceIdeal.nD Cert.FlipReferenceIdeal.τ).loc Cert.FlipReferenceIdeal.main_arg1)
      ∧ r.2.mem ((c.tc : Thread Cert.FlipReferenceIdeal.nD Cert.FlipReferenceIdeal.τ).loc Cert.FlipReferenceIdeal.main_arg2) = m ((c.tc : Thread Cert.FlipReferenceIdeal.nD Cert.FlipReferenceIdeal.τ).loc Cert.FlipReferenceIdeal.main_arg2))
      ∧ r.2.sem = fun _ => 0)

def preserves_Kernel_KernelIdeal : Prop :=
  True

def algebraic_KernelIdeal_ReferenceIdeal_pre_symmetric_zero_diagonal [hKernelIdeal : Cert.KernelIdeal.Facts] [hReferenceIdeal : Cert.ReferenceIdeal.Facts] [hPre_symmetric_zero_diagonal : Cert.Pre_symmetric_zero_diagonal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_symmetric_zero_diagonal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Flip_FlipIdeal : Prop :=
  True

def algebraic_FlipIdeal_FlipReferenceIdeal [hFlipIdeal : Cert.FlipIdeal.Facts] [hFlipReferenceIdeal : Cert.FlipReferenceIdeal.Facts] [hPre_selected_entry : Cert.Pre_selected_entry.Facts] : Prop :=
  ∀ (m : (ℓ : Loc Cert.FlipIdeal.nD Cert.FlipIdeal.τ Cert.FlipIdeal.sig) → Buf (Elt Ideal) ℓ) (g : Dev Cert.FlipIdeal.nD → PrngReg)
    (m' : (ℓ : Loc Cert.FlipReferenceIdeal.nD Cert.FlipReferenceIdeal.τ Cert.FlipReferenceIdeal.sig) → Buf (Elt Ideal) ℓ) (g' : Dev Cert.FlipReferenceIdeal.nD → PrngReg), Pre_FlipIdeal m →
    (∀ c : Dev Cert.FlipIdeal.nD,
      m' ((c.tc : Thread Cert.FlipReferenceIdeal.nD Cert.FlipReferenceIdeal.τ).loc Cert.FlipReferenceIdeal.main_arg0) = m ((c.tc : Thread Cert.FlipIdeal.nD Cert.FlipIdeal.τ).loc Cert.FlipIdeal.main_arg0)
      ∧ m' ((c.tc : Thread Cert.FlipReferenceIdeal.nD Cert.FlipReferenceIdeal.τ).loc Cert.FlipReferenceIdeal.main_arg1) = m ((c.tc : Thread Cert.FlipIdeal.nD Cert.FlipIdeal.τ).loc Cert.FlipIdeal.main_arg1)
      ∧ m' ((c.tc : Thread Cert.FlipReferenceIdeal.nD Cert.FlipReferenceIdeal.τ).loc Cert.FlipReferenceIdeal.main_arg2) = m ((c.tc : Thread Cert.FlipIdeal.nD Cert.FlipIdeal.τ).loc Cert.FlipIdeal.main_arg2)) →
    ∃ (v0 : (c : Dev Cert.FlipIdeal.nD) → Buf (Elt Ideal) ((c.tc : Thread Cert.FlipIdeal.nD Cert.FlipIdeal.τ).loc Cert.FlipIdeal.main_v17)),
      θ_run (Cert.FlipIdeal.defs (F := Ideal)) (onTc (τ := Cert.FlipIdeal.τ) (Cert.FlipIdeal.main (F := Ideal))) ⟨m, fun _ => 0, g⟩ (fun r => ∀ c : Dev Cert.FlipIdeal.nD,
          r.2.mem ((c.tc : Thread Cert.FlipIdeal.nD Cert.FlipIdeal.τ).loc Cert.FlipIdeal.main_v17) = v0 c
          ∧ r.2.mem ((c.tc : Thread Cert.FlipIdeal.nD Cert.FlipIdeal.τ).loc Cert.FlipIdeal.main_arg0) = m ((c.tc : Thread Cert.FlipIdeal.nD Cert.FlipIdeal.τ).loc Cert.FlipIdeal.main_arg0)
          ∧ r.2.mem ((c.tc : Thread Cert.FlipIdeal.nD Cert.FlipIdeal.τ).loc Cert.FlipIdeal.main_arg1) = m ((c.tc : Thread Cert.FlipIdeal.nD Cert.FlipIdeal.τ).loc Cert.FlipIdeal.main_arg1)
          ∧ r.2.mem ((c.tc : Thread Cert.FlipIdeal.nD Cert.FlipIdeal.τ).loc Cert.FlipIdeal.main_arg2) = m ((c.tc : Thread Cert.FlipIdeal.nD Cert.FlipIdeal.τ).loc Cert.FlipIdeal.main_arg2))
      ∧ θ_run (Cert.FlipReferenceIdeal.defs (F := Ideal)) (onTc (τ := Cert.FlipReferenceIdeal.τ) (Cert.FlipReferenceIdeal.main (F := Ideal))) ⟨m', fun _ => 0, g'⟩ (fun r => ∀ c : Dev Cert.FlipReferenceIdeal.nD,
          r.2.mem ((c.tc : Thread Cert.FlipReferenceIdeal.nD Cert.FlipReferenceIdeal.τ).loc Cert.FlipReferenceIdeal.main_v32) = v0 c
          ∧ r.2.mem ((c.tc : Thread Cert.FlipReferenceIdeal.nD Cert.FlipReferenceIdeal.τ).loc Cert.FlipReferenceIdeal.main_arg0) = m' ((c.tc : Thread Cert.FlipReferenceIdeal.nD Cert.FlipReferenceIdeal.τ).loc Cert.FlipReferenceIdeal.main_arg0)
          ∧ r.2.mem ((c.tc : Thread Cert.FlipReferenceIdeal.nD Cert.FlipReferenceIdeal.τ).loc Cert.FlipReferenceIdeal.main_arg1) = m' ((c.tc : Thread Cert.FlipReferenceIdeal.nD Cert.FlipReferenceIdeal.τ).loc Cert.FlipReferenceIdeal.main_arg1)
          ∧ r.2.mem ((c.tc : Thread Cert.FlipReferenceIdeal.nD Cert.FlipReferenceIdeal.τ).loc Cert.FlipReferenceIdeal.main_arg2) = m' ((c.tc : Thread Cert.FlipReferenceIdeal.nD Cert.FlipReferenceIdeal.τ).loc Cert.FlipReferenceIdeal.main_arg2))

def Claim : Prop :=
  ∃ (hKernel : Cert.Kernel.Facts) (hKernelIdeal : Cert.KernelIdeal.Facts) (hReferenceIdeal : Cert.ReferenceIdeal.Facts) (hFlip : Cert.Flip.Facts) (hFlipIdeal : Cert.FlipIdeal.Facts) (hFlipReferenceIdeal : Cert.FlipReferenceIdeal.Facts) (hPre_symmetric_zero_diagonal : Cert.Pre_symmetric_zero_diagonal.Facts) (hPre_selected_entry : Cert.Pre_selected_entry.Facts),
    quiescent_Kernel (hKernel := hKernel)
    ∧ quiescent_KernelIdeal (hKernelIdeal := hKernelIdeal)
    ∧ quiescent_KernelIdeal_pre_symmetric_zero_diagonal (hKernelIdeal := hKernelIdeal) (hPre_symmetric_zero_diagonal := hPre_symmetric_zero_diagonal)
    ∧ quiescent_ReferenceIdeal (hReferenceIdeal := hReferenceIdeal)
    ∧ quiescent_ReferenceIdeal_pre_symmetric_zero_diagonal (hReferenceIdeal := hReferenceIdeal) (hPre_symmetric_zero_diagonal := hPre_symmetric_zero_diagonal)
    ∧ quiescent_Flip (hFlip := hFlip) (hPre_selected_entry := hPre_selected_entry)
    ∧ quiescent_FlipIdeal (hFlipIdeal := hFlipIdeal) (hPre_selected_entry := hPre_selected_entry)
    ∧ quiescent_FlipReferenceIdeal (hFlipReferenceIdeal := hFlipReferenceIdeal)
    ∧ quiescent_FlipReferenceIdeal_pre_selected_entry (hFlipReferenceIdeal := hFlipReferenceIdeal) (hPre_selected_entry := hPre_selected_entry)
    ∧ preserves_Kernel_KernelIdeal
    ∧ algebraic_KernelIdeal_ReferenceIdeal_pre_symmetric_zero_diagonal (hKernelIdeal := hKernelIdeal) (hReferenceIdeal := hReferenceIdeal) (hPre_symmetric_zero_diagonal := hPre_symmetric_zero_diagonal)
    ∧ preserves_Flip_FlipIdeal
    ∧ algebraic_FlipIdeal_FlipReferenceIdeal (hFlipIdeal := hFlipIdeal) (hFlipReferenceIdeal := hFlipReferenceIdeal) (hPre_selected_entry := hPre_selected_entry)
-- ==== Pre_selected_entry.lean ====
abbrev S4096x4096 : Shape := ⟨2, ![4096, 4096]⟩
abbrev S1x1 : Shape := ⟨2, ![1, 1]⟩
abbrev S_ : Shape := ⟨0, ![]⟩

class Facts : Prop where
  shapeCasts_S1x1_S_ : S1x1.ShapeCasts S_
  bcast_S_S4096x4096 : S_.BroadcastsInDim S4096x4096 (![] : Fin 0 → Fin S4096x4096.rank)

variable [Facts]

def fn_where {F : FTy → Type} [FloatOps F] (arg0 : IVec S_ 1) (arg1 : FVec F S_ .f32) (arg2 : FVec F S_ .f32) : FVec F S_ .f32 :=
  let v0 : FVec F S_ .f32 := select arg0 arg1 arg2
  v0

def fn_part1 {F : FTy → Type} [FloatOps F] (main_v13 : IVec S_ 1) (main_v16 : IVec S4096x4096 1) (main_v17 : IVec S4096x4096 1) : IVec S4096x4096 1 :=
  let main_v18 : IVec S4096x4096 1 := ori main_v16 main_v17
  let main_v19 : IVec S4096x4096 1 := broadcastInDim S4096x4096 ![] bcast_S_S4096x4096 main_v13
  let main_v20 : IVec S4096x4096 1 := andi main_v19 main_v18
  main_v20

def fn {F : FTy → Type} [FloatOps F] (main_arg0 : FVec F S4096x4096 .f32) (main_arg1 : FVec F S1x1 .f32) (main_arg2 : IVec S1x1 32) : IVec S4096x4096 1 :=
  let main_v0 : IVec S4096x4096 32 := iotaInDim S4096x4096 32 0
  let main_v1 : IVec S4096x4096 32 := iotaInDim S4096x4096 32 1
  let main_v2 : IVec S_ 32 := shapeCast S_ main_arg2 shapeCasts_S1x1_S_
  let main_c : IVec S_ 32 := constantI S_ 32 4096#32
  let main_v3 : IVec S4096x4096 32 := broadcastInDim S4096x4096 ![] bcast_S_S4096x4096 main_c
  let main_v4 : IVec S4096x4096 32 := muli main_v0 main_v3
  let main_v5 : IVec S4096x4096 32 := addi main_v4 main_v1
  let main_v6 : IVec S4096x4096 32 := broadcastInDim S4096x4096 ![] bcast_S_S4096x4096 main_v2
  let main_v7 : IVec S4096x4096 1 := cmpi .eq main_v5 main_v6
  let main_v8 : FVec F S_ .f32 := shapeCast S_ main_arg1 shapeCasts_S1x1_S_
  let main_cst : FVec F S_ .f32 := constant S_ .f32 0x00000000#32
  let main_v9 : IVec S_ 1 := cmpf .ogt main_v8 main_cst
  let main_cst_0 : FVec F S_ .f32 := constant S_ .f32 0x3F800000#32
  let main_cst_1 : FVec F S_ .f32 := constant S_ .f32 0x00000000#32
  let main_v10 : FVec F S_ .f32 := fn_where (F := F) main_v9 main_cst_0 main_cst_1
  let main_c_2 : IVec S_ 32 := constantI S_ 32 0#32
  let main_v11 : IVec S_ 1 := cmpi .sge main_v2 main_c_2
  let main_c_3 : IVec S_ 32 := constantI S_ 32 16777216#32
  let main_v12 : IVec S_ 1 := cmpi .slt main_v2 main_c_3
  let main_v13 : IVec S_ 1 := andi main_v11 main_v12
  let main_v14 : FVec F S_ .f32 := id main_v10
  let main_v15 : FVec F S4096x4096 .f32 := broadcastInDim S4096x4096 ![] bcast_S_S4096x4096 main_v14
  let main_v16 : IVec S4096x4096 1 := cmpf .oeq main_arg0 main_v15
  let main_v17 : IVec S4096x4096 1 := noti main_v7
  fn_part1 (F := F) main_v13 main_v16 main_v17
-- ==== Pre_symmetric_zero_diagonal.lean ====
abbrev S4096x4096 : Shape := ⟨2, ![4096, 4096]⟩
abbrev S4096x128 : Shape := ⟨2, ![4096, 128]⟩
abbrev S4096 : Shape := ⟨1, ![4096]⟩
abbrev S512 : Shape := ⟨1, ![512]⟩
abbrev S_ : Shape := ⟨0, ![]⟩

class Facts : Prop where
  transposes_S4096x4096_S4096x4096_1_0 : S4096x4096.Transposes [1, 0] S4096x4096
  bcast_S_S4096x4096 : S_.BroadcastsInDim S4096x4096 (![] : Fin 0 → Fin S4096x4096.rank)

variable [Facts]

def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn {F : FTy → Type} [FloatOps F] (main_arg0 : FVec F S4096x4096 .f32) (main_arg1 : FVec F S4096x4096 .f32) (main_arg2 : FVec F S4096x4096 .f32) (main_arg3 : FVec F S4096x128 .f32) (main_arg4 : IVec S4096 32) (main_arg5 : IVec S512 32) (main_arg6 : IVec S512 32) : IVec S4096x4096 1 :=
  let main_v0 : IVec S4096x4096 32 := iotaInDim S4096x4096 32 0
  let main_v1 : IVec S4096x4096 32 := iotaInDim S4096x4096 32 1
  let main_v2 : IVec S4096x4096 1 := cmpi .eq main_v0 main_v1
  let main_v3 : FVec F S4096x4096 .f32 := (transpose S4096x4096 [1, 0] · transposes_S4096x4096_S4096x4096_1_0) main_arg0
  let main_v4 : IVec S4096x4096 1 := cmpf .oeq main_arg0 main_v3
  let main_cst : FVec F S_ .f32 := constant S_ .f32 0x00000000#32
  let main_v5 : FVec F S4096x4096 .f32 := fn_where (F := F) main_v2 main_arg0 main_cst
  let main_cst_0 : FVec F S_ .f32 := constant S_ .f32 0x00000000#32
  let main_v6 : FVec F S4096x4096 .f32 := broadcastInDim S4096x4096 ![] bcast_S_S4096x4096 main_cst_0
  let main_v7 : IVec S4096x4096 1 := cmpf .oeq main_v5 main_v6
  let main_v8 : IVec S4096x4096 1 := andi main_v4 main_v7
  main_v8
-- ==== Kernel.lean ====
abbrev S4096x4096 : Shape := ⟨2, ![4096, 4096]⟩
abbrev S4096x128 : Shape := ⟨2, ![4096, 128]⟩
abbrev S4096 : Shape := ⟨1, ![4096]⟩
abbrev S512 : Shape := ⟨1, ![512]⟩
abbrev S4096x16 : Shape := ⟨2, ![4096, 16]⟩
abbrev S32x16 : Shape := ⟨2, ![32, 16]⟩
abbrev S4x4096 : Shape := ⟨2, ![4, 4096]⟩
abbrev S4x16 : Shape := ⟨2, ![4, 16]⟩
abbrev S16 : Shape := ⟨1, ![16]⟩
abbrev S_ : Shape := ⟨0, ![]⟩
abbrev S1x16 : Shape := ⟨2, ![1, 16]⟩
abbrev S256x4096 : Shape := ⟨2, ![256, 4096]⟩
abbrev S4096x256 : Shape := ⟨2, ![4096, 256]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩
abbrev S256x16 : Shape := ⟨2, ![256, 16]⟩
abbrev S256 : Shape := ⟨1, ![256]⟩
abbrev S256x1 : Shape := ⟨2, ![256, 1]⟩
abbrev S1x4096 : Shape := ⟨2, ![1, 4096]⟩
abbrev S1x256x4096 : Shape := ⟨3, ![1, 256, 4096]⟩

abbrev nBuf : Table → Nat
  | .hbm => 14
  | .local .tc .vmem => 18
  | .local .tc .smem => 2
  | .local .scVector .vmem => 6
  | _ => 0

abbrev bufTy : (tb : Table) → Fin (nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x128, .f32⟩
  | .hbm, ⟨4, _⟩ => ⟨S4096, .i32⟩
  | .hbm, ⟨5, _⟩ => ⟨S512, .i32⟩
  | .hbm, ⟨6, _⟩ => ⟨S512, .i32⟩
  | .hbm, ⟨7, _⟩ => ⟨S4096x16, .f32⟩
  | .hbm, ⟨8, _⟩ => ⟨S32x16, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1x1, .f32⟩
  | .hbm, ⟨13, _⟩ => ⟨S1x1, .i32⟩
  | .local .tc .vmem, ⟨0, _⟩ => ⟨S256x4096, .f32⟩
  | .local .tc .vmem, ⟨1, _⟩ => ⟨S256x4096, .f32⟩
  | .local .tc .vmem, ⟨2, _⟩ => ⟨S256x4096, .f32⟩
  | .local .tc .vmem, ⟨3, _⟩ => ⟨S256x4096, .f32⟩
  | .local .tc .vmem, ⟨4, _⟩ => ⟨S4096x256, .f32⟩
  | .local .tc .vmem, ⟨5, _⟩ => ⟨S4096x256, .f32⟩
  | .local .tc .vmem, ⟨6, _⟩ => ⟨S256x4096, .f32⟩
  | .local .tc .vmem, ⟨7, _⟩ => ⟨S256x4096, .f32⟩
  | .local .tc .vmem, ⟨8, _⟩ => ⟨S256x4096, .f32⟩
  | .local .tc .vmem, ⟨9, _⟩ => ⟨S256x4096, .f32⟩
  | .local .tc .vmem, ⟨10, _⟩ => ⟨S256x4096, .f32⟩
  | .local .tc .vmem, ⟨11, _⟩ => ⟨S256x4096, .f32⟩
  | .local .tc .vmem, ⟨12, _⟩ => ⟨S256x4096, .f32⟩
  | .local .tc .vmem, ⟨13, _⟩ => ⟨S256x4096, .f32⟩
  | .local .tc .vmem, ⟨14, _⟩ => ⟨S4096x16, .f32⟩
  | .local .tc .vmem, ⟨15, _⟩ => ⟨S32x16, .f32⟩
  | .local .tc .vmem, ⟨16, _⟩ => ⟨S256x4096, .f32⟩
  | .local .tc .vmem, ⟨17, _⟩ => ⟨S256x4096, .f32⟩
  | .local .tc .smem, ⟨0, _⟩ => ⟨S1x1, .f32⟩
  | .local .tc .smem, ⟨1, _⟩ => ⟨S1x1, .i32⟩
  | .local .scVector .vmem, ⟨0, _⟩ => ⟨S4x4096, .f32⟩
  | .local .scVector .vmem, ⟨1, _⟩ => ⟨S4x4096, .f32⟩
  | .local .scVector .vmem, ⟨2, _⟩ => ⟨S4x4096, .f32⟩
  | .local .scVector .vmem, ⟨3, _⟩ => ⟨S4x4096, .f32⟩
  | .local .scVector .vmem, ⟨4, _⟩ => ⟨S4x16, .f32⟩
  | .local .scVector .vmem, ⟨5, _⟩ => ⟨S16, .f32⟩
  | _, _ => ⟨S4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_arg0_scv : Ref sig .scVector := ⟨.hbm, 0, rfl⟩
abbrev main_arg2_scv : Ref sig .scVector := ⟨.hbm, 2, rfl⟩
abbrev main_v0_0_scv : Ref sig .scVector := ⟨.hbm, 7, rfl⟩
abbrev main_v0_1_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.smem, 0, rfl⟩
abbrev cc2_stg6_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem6_0 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v3 : BitVec 32 := Scalar.addi v2 c0_i32
  let c0_i32_0 : BitVec 32 := 0#32
  ![v3.toNat, 0]
@[reducible] def k0_t1_loop : Scf.Loop 32 :=
  let c0_i32_4 : BitVec 32 := 0#32
  let c16_i32 : BitVec 32 := 16#32
  let v9 : BitVec 32 := Scalar.addi c0_i32_4 c16_i32
  let c1_i32 : BitVec 32 := 1#32
  ⟨c0_i32_4, v9, c1_i32⟩
def k0_cond1 (k0_t1 : Fin k0_t1_loop.trips) : BitVec 1 :=
  let c2_i32_6 : BitVec 32 := 2#32
  let c0_i32_4 : BitVec 32 := 0#32
  let c1_i32 : BitVec 32 := 1#32
  let arg14 : BitVec 32 := Scf.iv c0_i32_4 c1_i32 k0_t1
  let v14 : BitVec 32 := Scalar.muli c2_i32_6 arg14
  let c0_i32_7 : BitVec 32 := 0#32
  let v15 : BitVec 32 := Scalar.addi v14 c0_i32_7
  let c1_i32_16 : BitVec 32 := 1#32
  let v20 : BitVec 32 := Scalar.addi v15 c1_i32_16
  let c32_i32 : BitVec 32 := 32#32
  let v21 : BitVec 1 := Scalar.cmpi .slt v20 c32_i32
  let v22 : BitVec 32 := Scalar.extui v21
  let c0_i32_17 : BitVec 32 := 0#32
  let v23 : BitVec 1 := Scalar.cmpi .ne v22 c0_i32_17
  v23

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_6 : BitVec 32 := 2#32
  let c0_i32_4 : BitVec 32 := 0#32
  let c1_i32 : BitVec 32 := 1#32
  let arg14 : BitVec 32 := Scf.iv c0_i32_4 c1_i32 k0_t1
  let v14 : BitVec 32 := Scalar.muli c2_i32_6 arg14
  let c0_i32_7 : BitVec 32 := 0#32
  let v15 : BitVec 32 := Scalar.addi v14 c0_i32_7
  let c1_i32_87 : BitVec 32 := 1#32
  let v94 : BitVec 32 := Scalar.addi v15 c1_i32_87
  let c4_i32_88 : BitVec 32 := 4#32
  let v95 : BitVec 32 := Scalar.muli v94 c4_i32_88
  let v96 : BitVec 32 := Scalar.addi v2 v95
  let c0_i32_89 : BitVec 32 := 0#32
  ![v96.toNat, 0]
@[reducible] def k0_t2_loop : Scf.Loop 32 :=
  let c0_i32_19 : BitVec 32 := 0#32
  let c32_i32_20 : BitVec 32 := 32#32
  let v25 : BitVec 32 := Scalar.addi c0_i32_19 c32_i32_20
  let c1_i32_21 : BitVec 32 := 1#32
  ⟨c0_i32_19, v25, c1_i32_21⟩
def k0_off3 (k0_t2 : Fin k0_t2_loop.trips) (c0_i32_87 : BitVec 32) : Fin 2 → Nat :=
  let c0_i32_89 : BitVec 32 := 0#32
  let v97 : Index := Scalar.indexCast c0_i32_89
  let c0_i32_19 : BitVec 32 := 0#32
  let c1_i32_21 : BitVec 32 := 1#32
  let arg16 : BitVec 32 := Scf.iv c0_i32_19 c1_i32_21 k0_t2
  let c8_i32 : BitVec 32 := 8#32
  let v94 : BitVec 32 := Scalar.muli arg16 c8_i32
  let v95 : BitVec 32 := Scalar.addi v94 c0_i32_87
  let c16_i32_88 : BitVec 32 := 16#32
  let v96 : BitVec 32 := Scalar.muli v95 c16_i32_88
  let v98 : Index := Scalar.indexCast v96
  ![0, v98.toNat]
@[reducible] def k0_t3_loop : Scf.Loop 32 :=
  let c0_i32_26 : BitVec 32 := 0#32
  let c32_i32_27 : BitVec 32 := 32#32
  let v32 : BitVec 32 := Scalar.addi c0_i32_26 c32_i32_27
  let c1_i32_28 : BitVec 32 := 1#32
  ⟨c0_i32_26, v32, c1_i32_28⟩
def k0_off4 (k0_t3 : Fin k0_t3_loop.trips) (c0_i32_87 : BitVec 32) : Fin 2 → Nat :=
  let c1_i32_89 : BitVec 32 := 1#32
  let v97 : Index := Scalar.indexCast c1_i32_89
  let c0_i32_26 : BitVec 32 := 0#32
  let c1_i32_28 : BitVec 32 := 1#32
  let arg16 : BitVec 32 := Scf.iv c0_i32_26 c1_i32_28 k0_t3
  let c8_i32 : BitVec 32 := 8#32
  let v94 : BitVec 32 := Scalar.muli arg16 c8_i32
  let v95 : BitVec 32 := Scalar.addi v94 c0_i32_87
  let c16_i32_88 : BitVec 32 := 16#32
  let v96 : BitVec 32 := Scalar.muli v95 c16_i32_88
  let v98 : Index := Scalar.indexCast v96
  ![1, v98.toNat]
@[reducible] def k0_t4_loop : Scf.Loop 32 :=
  let c0_i32_33 : BitVec 32 := 0#32
  let c32_i32_34 : BitVec 32 := 32#32
  let v39 : BitVec 32 := Scalar.addi c0_i32_33 c32_i32_34
  let c1_i32_35 : BitVec 32 := 1#32
  ⟨c0_i32_33, v39, c1_i32_35⟩
def k0_off5 (k0_t4 : Fin k0_t4_loop.trips) (c0_i32_87 : BitVec 32) : Fin 2 → Nat :=
  let c2_i32_89 : BitVec 32 := 2#32
  let v97 : Index := Scalar.indexCast c2_i32_89
  let c0_i32_33 : BitVec 32 := 0#32
  let c1_i32_35 : BitVec 32 := 1#32
  let arg16 : BitVec 32 := Scf.iv c0_i32_33 c1_i32_35 k0_t4
  let c8_i32 : BitVec 32 := 8#32
  let v94 : BitVec 32 := Scalar.muli arg16 c8_i32
  let v95 : BitVec 32 := Scalar.addi v94 c0_i32_87
  let c16_i32_88 : BitVec 32 := 16#32
  let v96 : BitVec 32 := Scalar.muli v95 c16_i32_88
  let v98 : Index := Scalar.indexCast v96
  ![2, v98.toNat]
@[reducible] def k0_t5_loop : Scf.Loop 32 :=
  let c0_i32_40 : BitVec 32 := 0#32
  let c32_i32_41 : BitVec 32 := 32#32
  let v46 : BitVec 32 := Scalar.addi c0_i32_40 c32_i32_41
  let c1_i32_42 : BitVec 32 := 1#32
  ⟨c0_i32_40, v46, c1_i32_42⟩
def k0_off6 (k0_t5 : Fin k0_t5_loop.trips) (c0_i32_87 : BitVec 32) : Fin 2 → Nat :=
  let c3_i32_89 : BitVec 32 := 3#32
  let v97 : Index := Scalar.indexCast c3_i32_89
  let c0_i32_40 : BitVec 32 := 0#32
  let c1_i32_42 : BitVec 32 := 1#32
  let arg16 : BitVec 32 := Scf.iv c0_i32_40 c1_i32_42 k0_t5
  let c8_i32 : BitVec 32 := 8#32
  let v94 : BitVec 32 := Scalar.muli arg16 c8_i32
  let v95 : BitVec 32 := Scalar.addi v94 c0_i32_87
  let c16_i32_88 : BitVec 32 := 16#32
  let v96 : BitVec 32 := Scalar.muli v95 c16_i32_88
  let v98 : Index := Scalar.indexCast v96
  ![3, v98.toNat]
def k0_off7 (i : grid0.Coords) (k0_t1 : Fin k0_t1_loop.trips) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_6 : BitVec 32 := 2#32
  let c0_i32_4 : BitVec 32 := 0#32
  let c1_i32 : BitVec 32 := 1#32
  let arg14 : BitVec 32 := Scf.iv c0_i32_4 c1_i32 k0_t1
  let v14 : BitVec 32 := Scalar.muli c2_i32_6 arg14
  let v15 : BitVec 32 := Scalar.addi v14 c0_i32_7
  let c4_i32 : BitVec 32 := 4#32
  let v52 : BitVec 32 := Scalar.muli v15 c4_i32
  let v53 : BitVec 32 := Scalar.addi v2 v52
  let c0_i32_87_r0 : BitVec 32 := 0#32
  ![v53.toNat, 0]
def k0_cond2 (k0_t1 : Fin k0_t1_loop.trips) : BitVec 1 :=
  let c2_i32_45 : BitVec 32 := 2#32
  let c0_i32_4 : BitVec 32 := 0#32
  let c1_i32 : BitVec 32 := 1#32
  let arg14 : BitVec 32 := Scf.iv c0_i32_4 c1_i32 k0_t1
  let v54 : BitVec 32 := Scalar.muli c2_i32_45 arg14
  let c1_i32_46 : BitVec 32 := 1#32
  let v55 : BitVec 32 := Scalar.addi v54 c1_i32_46
  let c1_i32_55 : BitVec 32 := 1#32
  let v60 : BitVec 32 := Scalar.addi v55 c1_i32_55
  let c32_i32_56 : BitVec 32 := 32#32
  let v61 : BitVec 1 := Scalar.cmpi .slt v60 c32_i32_56
  let v62 : BitVec 32 := Scalar.extui v61
  let c0_i32_57 : BitVec 32 := 0#32
  let v63 : BitVec 1 := Scalar.cmpi .ne v62 c0_i32_57
  v63

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_45 : BitVec 32 := 2#32
  let c0_i32_4 : BitVec 32 := 0#32
  let c1_i32 : BitVec 32 := 1#32
  let arg14 : BitVec 32 := Scf.iv c0_i32_4 c1_i32 k0_t1
  let v54 : BitVec 32 := Scalar.muli c2_i32_45 arg14
  let c1_i32_46 : BitVec 32 := 1#32
  let v55 : BitVec 32 := Scalar.addi v54 c1_i32_46
  let c1_i32_87 : BitVec 32 := 1#32
  let v94 : BitVec 32 := Scalar.addi v55 c1_i32_87
  let c4_i32_88 : BitVec 32 := 4#32
  let v95 : BitVec 32 := Scalar.muli v94 c4_i32_88
  let v96 : BitVec 32 := Scalar.addi v2 v95
  let c0_i32_89 : BitVec 32 := 0#32
  ![v96.toNat, 0]
@[reducible] def k0_t6_loop : Scf.Loop 32 :=
  let c0_i32_59 : BitVec 32 := 0#32
  let c32_i32_60 : BitVec 32 := 32#32
  let v65 : BitVec 32 := Scalar.addi c0_i32_59 c32_i32_60
  let c1_i32_61 : BitVec 32 := 1#32
  ⟨c0_i32_59, v65, c1_i32_61⟩
def k0_off9 (k0_t6 : Fin k0_t6_loop.trips) (c0_i32_87 : BitVec 32) : Fin 2 → Nat :=
  let c0_i32_89 : BitVec 32 := 0#32
  let v97 : Index := Scalar.indexCast c0_i32_89
  let c0_i32_59 : BitVec 32 := 0#32
  let c1_i32_61 : BitVec 32 := 1#32
  let arg16 : BitVec 32 := Scf.iv c0_i32_59 c1_i32_61 k0_t6
  let c8_i32 : BitVec 32 := 8#32
  let v94 : BitVec 32 := Scalar.muli arg16 c8_i32
  let v95 : BitVec 32 := Scalar.addi v94 c0_i32_87
  let c16_i32_88 : BitVec 32 := 16#32
  let v96 : BitVec 32 := Scalar.muli v95 c16_i32_88
  let v98 : Index := Scalar.indexCast v96
  ![0, v98.toNat]
@[reducible] def k0_t7_loop : Scf.Loop 32 :=
  let c0_i32_66 : BitVec 32 := 0#32
  let c32_i32_67 : BitVec 32 := 32#32
  let v72 : BitVec 32 := Scalar.addi c0_i32_66 c32_i32_67
  let c1_i32_68 : BitVec 32 := 1#32
  ⟨c0_i32_66, v72, c1_i32_68⟩
def k0_off10 (k0_t7 : Fin k0_t7_loop.trips) (c0_i32_87 : BitVec 32) : Fin 2 → Nat :=
  let c1_i32_89 : BitVec 32 := 1#32
  let v97 : Index := Scalar.indexCast c1_i32_89
  let c0_i32_66 : BitVec 32 := 0#32
  let c1_i32_68 : BitVec 32 := 1#32
  let arg16 : BitVec 32 := Scf.iv c0_i32_66 c1_i32_68 k0_t7
  let c8_i32 : BitVec 32 := 8#32
  let v94 : BitVec 32 := Scalar.muli arg16 c8_i32
  let v95 : BitVec 32 := Scalar.addi v94 c0_i32_87
  let c16_i32_88 : BitVec 32 := 16#32
  let v96 : BitVec 32 := Scalar.muli v95 c16_i32_88
  let v98 : Index := Scalar.indexCast v96
  ![1, v98.toNat]
@[reducible] def k0_t8_loop : Scf.Loop 32 :=
  let c0_i32_73 : BitVec 32 := 0#32
  let c32_i32_74 : BitVec 32 := 32#32
  let v79 : BitVec 32 := Scalar.addi c0_i32_73 c32_i32_74
  let c1_i32_75 : BitVec 32 := 1#32
  ⟨c0_i32_73, v79, c1_i32_75⟩
def k0_off11 (k0_t8 : Fin k0_t8_loop.trips) (c0_i32_87 : BitVec 32) : Fin 2 → Nat :=
  let c2_i32_89 : BitVec 32 := 2#32
  let v97 : Index := Scalar.indexCast c2_i32_89
  let c0_i32_73 : BitVec 32 := 0#32
  let c1_i32_75 : BitVec 32 := 1#32
  let arg16 : BitVec 32 := Scf.iv c0_i32_73 c1_i32_75 k0_t8
  let c8_i32 : BitVec 32 := 8#32
  let v94 : BitVec 32 := Scalar.muli arg16 c8_i32
  let v95 : BitVec 32 := Scalar.addi v94 c0_i32_87
  let c16_i32_88 : BitVec 32 := 16#32
  let v96 : BitVec 32 := Scalar.muli v95 c16_i32_88
  let v98 : Index := Scalar.indexCast v96
  ![2, v98.toNat]
@[reducible] def k0_t9_loop : Scf.Loop 32 :=
  let c0_i32_80 : BitVec 32 := 0#32
  let c32_i32_81 : BitVec 32 := 32#32
  let v86 : BitVec 32 := Scalar.addi c0_i32_80 c32_i32_81
  let c1_i32_82 : BitVec 32 := 1#32
  ⟨c0_i32_80, v86, c1_i32_82⟩
def k0_off12 (k0_t9 : Fin k0_t9_loop.trips) (c0_i32_87 : BitVec 32) : Fin 2 → Nat :=
  let c3_i32_89 : BitVec 32 := 3#32
  let v97 : Index := Scalar.indexCast c3_i32_89
  let c0_i32_80 : BitVec 32 := 0#32
  let c1_i32_82 : BitVec 32 := 1#32
  let arg16 : BitVec 32 := Scf.iv c0_i32_80 c1_i32_82 k0_t9
  let c8_i32 : BitVec 32 := 8#32
  let v94 : BitVec 32 := Scalar.muli arg16 c8_i32
  let v95 : BitVec 32 := Scalar.addi v94 c0_i32_87
  let c16_i32_88 : BitVec 32 := 16#32
  let v96 : BitVec 32 := Scalar.muli v95 c16_i32_88
  let v98 : Index := Scalar.indexCast v96
  ![3, v98.toNat]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r2 : BitVec 32 := 0#32
  ![v1.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def k2_off1 (i : grid2.Coords) : Fin 2 → Nat :=
  let arg0 : BitVec 32 := BitVec.ofNat 32 (i 0).val
  let c256_i32_9 : BitVec 32 := 256#32
  let v20 : BitVec 32 := Scalar.muli arg0 c256_i32_9
  let v21 : Index := Scalar.indexCast v20
  let c0_10 : Index := 0#32
  ![v21.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .smem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .smem S1x1 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x4096 : Shape := ⟨2, ![4096, 4096]⟩
abbrev S4096x128 : Shape := ⟨2, ![4096, 128]⟩
abbrev S4096 : Shape := ⟨1, ![4096]⟩
abbrev S512 : Shape := ⟨1, ![512]⟩
abbrev S_ : Shape := ⟨0, ![]⟩
abbrev S1x4096 : Shape := ⟨2, ![1, 4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x128, .f32⟩
  | .hbm, ⟨4, _⟩ => ⟨S4096, .i32⟩
  | .hbm, ⟨5, _⟩ => ⟨S512, .i32⟩
  | .hbm, ⟨6, _⟩ => ⟨S512, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .i1⟩
  | .hbm, ⟨55, _⟩ => ⟨S4096, .f32⟩
  | .hbm, ⟨56, _⟩ => ⟨S1x4096, .f32⟩
  | .hbm, ⟨57, _⟩ => ⟨S4096x4096, .f32⟩
  | .hbm, ⟨58, _⟩ => ⟨S4096x4096, .f32⟩
  | .hbm, ⟨59, _⟩ => ⟨S4096x1, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_cst_3 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v9 : Ref sig .tc := ⟨.hbm, 33, rfl⟩
abbrev main_cst_4 : Ref sig .tc := ⟨.hbm, 34, rfl⟩
abbrev main_v10 : Ref sig .tc := ⟨.hbm, 35, rfl⟩
abbrev main_v11 : Ref sig .tc := ⟨.hbm, 36, rfl⟩
abbrev main_cst_5 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_6 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_7 : Ref sig .tc := ⟨.hbm, 45, rfl⟩
abbrev main_call3_v0 : Ref sig .tc := ⟨.hbm, 46, rfl⟩
abbrev main_call3_v1 : Ref sig .tc := ⟨.hbm, 47, rfl⟩
abbrev main_v18 : Ref sig .tc := ⟨.hbm, 48, rfl⟩
abbrev main_v19 : Ref sig .tc := ⟨.hbm, 49, rfl⟩
abbrev main_cst_8 : Ref sig .tc := ⟨.hbm, 50, rfl⟩
abbrev main_v20 : Ref sig .tc := ⟨.hbm, 51, rfl⟩
abbrev main_cst_9 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩

abbrev nD : Nat := 1
abbrev τ : Topo := Topo.v7x

variable {F : FTy → Type} [FloatOps F]
-- ==== Flip.lean ====
abbrev S4096x4096 : Shape := ⟨2, ![4096, 4096]⟩
abbrev S1x1 : Shape := ⟨2, ![1, 1]⟩
abbrev S_ : Shape := ⟨0, ![]⟩
abbrev S1 : Shape := ⟨1, ![1]⟩
abbrev S2 : Shape := ⟨1, ![2]⟩
abbrev S1x2 : Shape := ⟨2, ![1, 2]⟩
abbrev S2x2 : Shape := ⟨2, ![2, 2]⟩
abbrev S8x128 : Shape := ⟨2, ![8, 128]⟩

abbrev nBuf : Space → Nat
  | .hbm => 51
  | .vmem => 4
  | .smem => 2
  | _ => 0

abbrev bufTy : (tb : Table) → Fin (tcTables nBuf tb) → BufTy
  | .hbm, ⟨0, _⟩ => ⟨S4096x4096, .f32⟩
  | .hbm, ⟨1, _⟩ => ⟨S1x1, .f32⟩
  | .hbm, ⟨2, _⟩ => ⟨S1x1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i1⟩
  | .hbm, ⟨30, _⟩ => ⟨S_, .i1⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1, .i32⟩
  | .hbm, ⟨35, _⟩ => ⟨S1, .i32⟩
  | .hbm, ⟨36, _⟩ => ⟨S2, .i32⟩
  | .hbm, ⟨37, _⟩ => ⟨S1, .i32⟩
  | .hbm, ⟨38, _⟩ => ⟨S1, .i32⟩
  | .hbm, ⟨39, _⟩ => ⟨S2, .i32⟩
  | .hbm, ⟨40, _⟩ => ⟨S1x2, .i32⟩
  | .hbm, ⟨41, _⟩ => ⟨S1x2, .i32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1x1, .f32⟩
  | .hbm, ⟨49, _⟩ => ⟨S1x1, .f32⟩
  | .hbm, ⟨50, _⟩ => ⟨S4096x4096, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .smem, ⟨0, _⟩ => ⟨S2x2, .i32⟩
  | .local _ .smem, ⟨1, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c : Ref sig .tc := ⟨.hbm, 11, rfl⟩
abbrev main_call0_v6 : Ref sig .tc := ⟨.hbm, 12, rfl⟩
abbrev main_call0_v7 : Ref sig .tc := ⟨.hbm, 13, rfl⟩
abbrev main_call0_c_0 : Ref sig .tc := ⟨.hbm, 14, rfl⟩
abbrev main_call0_v8 : Ref sig .tc := ⟨.hbm, 15, rfl⟩
abbrev main_v1 : Ref sig .tc := ⟨.hbm, 16, rfl⟩
abbrev main_c_0 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_c_1 : Ref sig .tc := ⟨.hbm, 24, rfl⟩
abbrev main_call1_v4 : Ref sig .tc := ⟨.hbm, 25, rfl⟩
abbrev main_call1_c_2 : Ref sig .tc := ⟨.hbm, 26, rfl⟩
abbrev main_call1_v5 : Ref sig .tc := ⟨.hbm, 27, rfl⟩
abbrev main_call1_c_3 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_cst_1 : Ref sig .tc := ⟨.hbm, 45, rfl⟩
abbrev main_cst_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v11 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v19 : Index := Scalar.indexCast arg0
  let c1 : Index := 1#32
  ![v19.toNat, 1]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1x1.size a ≤ S2x2.size a) (numel1_S1x1 : S1x1.numel = 1) (k0_off2_inb : ∀ i : grid0.Coords, ∀ a, (k0_off2 i) a + S1x1.size a ≤ S2x2.size a) (pf : pre0.Contents (Elt F)) (i : grid0.Coords) : Fin 2 → Nat :=
  let arg0 : BitVec 32 := BitVec.ofNat 32 (i 0).val
  let v0 : Index := Scalar.indexCast arg0
  let c0 : Index := 0#32
  let v1 : BitVec 32 := pf.at 0 (Rect.unit (s := S2x2) ![v0.toNat, 0] S1x1.size (k0_off1_inb i)) numel1_S1x1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c1 : Index := 1#32
  let v20 : BitVec 32 := pf.at 0 (Rect.unit (s := S2x2) ![v19.toNat, 1] S1x1.size (k0_off2_inb i)) numel1_S1x1
  let c128_i32 : BitVec 32 := 128#32
  let v21 : BitVec 32 := Scalar.divsi v20 c128_i32
  let c0_i32_4 : BitVec 32 := 0#32
  let v22 : BitVec 1 := Scalar.cmpi .sgt v20 c0_i32_4
  let v23 : BitVec 32 := Scalar.extui v22
  let c0_i32_5 : BitVec 32 := 0#32
  let v24 : BitVec 1 := Scalar.cmpi .slt v20 c0_i32_5
  let v25 : BitVec 32 := Scalar.extui v24
  let v26 : BitVec 32 := Scalar.subi v23 v25
  let c0_i32_6 : BitVec 32 := 0#32
  let v27 : BitVec 1 := Scalar.cmpi .sgt c128_i32 c0_i32_6
  let v28 : BitVec 32 := Scalar.extui v27
  let c0_i32_7 : BitVec 32 := 0#32
  let v29 : BitVec 1 := Scalar.cmpi .slt c128_i32 c0_i32_7
  let v30 : BitVec 32 := Scalar.extui v29
  let v31 : BitVec 32 := Scalar.subi v28 v30
  let v32 : BitVec 1 := Scalar.cmpi .ne v26 v31
  let v33 : BitVec 32 := Scalar.remsi v20 c128_i32
  let c0_i32_8 : BitVec 32 := 0#32
  let v34 : BitVec 1 := Scalar.cmpi .ne v33 c0_i32_8
  let v35 : BitVec 1 := Scalar.andi v32 v34
  let c1_i32_9 : BitVec 32 := 1#32
  let v36 : BitVec 32 := Scalar.subi v21 c1_i32_9
  let v37 : BitVec 32 := Scalar.select v35 v36 v21
  let c0_i32_10 : BitVec 32 := 0#32
  ![v18.toNat, v37.toNat]

def cc0_transform_2 (k0_off1_inb : ∀ i : grid0.Coords, ∀ a, (k0_off1 i) a + S1x1.size a ≤ S2x2.size a) (numel1_S1x1 : S1x1.numel = 1) (k0_off2_inb : ∀ i : grid0.Coords, ∀ a, (k0_off2 i) a + S1x1.size a ≤ S2x2.size a) (pf : pre0.Contents (Elt F)) (i : grid0.Coords) : Fin 2 → Nat :=
  let arg0 : BitVec 32 := BitVec.ofNat 32 (i 0).val
  let v0 : Index := Scalar.indexCast arg0
  let c0 : Index := 0#32
  let v1 : BitVec 32 := pf.at 0 (Rect.unit (s := S2x2) ![v0.toNat, 0] S1x1.size (k0_off1_inb i)) numel1_S1x1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c1 : Index := 1#32
  let v20 : BitVec 32 := pf.at 0 (Rect.unit (s := S2x2) ![v19.toNat, 1] S1x1.size (k0_off2_inb i)) numel1_S1x1
  let c128_i32 : BitVec 32 := 128#32
  let v21 : BitVec 32 := Scalar.divsi v20 c128_i32
  let c0_i32_4 : BitVec 32 := 0#32
  let v22 : BitVec 1 := Scalar.cmpi .sgt v20 c0_i32_4
  let v23 : BitVec 32 := Scalar.extui v22
  let c0_i32_5 : BitVec 32 := 0#32
  let v24 : BitVec 1 := Scalar.cmpi .slt v20 c0_i32_5
  let v25 : BitVec 32 := Scalar.extui v24
  let v26 : BitVec 32 := Scalar.subi v23 v25
  let c0_i32_6 : BitVec 32 := 0#32
  let v27 : BitVec 1 := Scalar.cmpi .sgt c128_i32 c0_i32_6
  let v28 : BitVec 32 := Scalar.extui v27
  let c0_i32_7 : BitVec 32 := 0#32
  let v29 : BitVec 1 := Scalar.cmpi .slt c128_i32 c0_i32_7
  let v30 : BitVec 32 := Scalar.extui v29
  let v31 : BitVec 32 := Scalar.subi v28 v30
  let v32 : BitVec 1 := Scalar.cmpi .ne v26 v31
  let v33 : BitVec 32 := Scalar.remsi v20 c128_i32
  let c0_i32_8 : BitVec 32 := 0#32
  let v34 : BitVec 1 := Scalar.cmpi .ne v33 c0_i32_8
  let v35 : BitVec 1 := Scalar.andi v32 v34
  let c1_i32_9 : BitVec 32 := 1#32
  let v36 : BitVec 32 := Scalar.subi v21 c1_i32_9
  let v37 : BitVec 32 := Scalar.select v35 v36 v21
  let c0_i32_10 : BitVec 32 := 0#32
  ![v18.toNat, v37.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FlipReferenceIdeal.lean ====
abbrev S4096x4096 : Shape := ⟨2, ![4096, 4096]⟩
abbrev S1x1 : Shape := ⟨2, ![1, 1]⟩
abbrev S_ : Shape := ⟨0, ![]⟩
abbrev S1 : Shape := ⟨1, ![1]⟩
abbrev S2 : Shape := ⟨1, ![2]⟩

abbrev nBuf : Space → Nat
  | .hbm => 77
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x1, .f32⟩
  | .hbm, ⟨2, _⟩ => ⟨S1x1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i1⟩
  | .hbm, ⟨30, _⟩ => ⟨S_, .i1⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1, .i32⟩
  | .hbm, ⟨60, _⟩ => ⟨S1, .i32⟩
  | .hbm, ⟨61, _⟩ => ⟨S2, .i32⟩
  | .hbm, ⟨62, _⟩ => ⟨S4096x4096, .f32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1, .i32⟩
  | .hbm, ⟨74, _⟩ => ⟨S1, .i32⟩
  | .hbm, ⟨75, _⟩ => ⟨S2, .i32⟩
  | .hbm, ⟨76, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c : Ref sig .tc := ⟨.hbm, 11, rfl⟩
abbrev main_call0_v6 : Ref sig .tc := ⟨.hbm, 12, rfl⟩
abbrev main_call0_v7 : Ref sig .tc := ⟨.hbm, 13, rfl⟩
abbrev main_call0_c_0 : Ref sig .tc := ⟨.hbm, 14, rfl⟩
abbrev main_call0_v8 : Ref sig .tc := ⟨.hbm, 15, rfl⟩
abbrev main_v1 : Ref sig .tc := ⟨.hbm, 16, rfl⟩
abbrev main_c_0 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_c_1 : Ref sig .tc := ⟨.hbm, 24, rfl⟩
abbrev main_call1_v4 : Ref sig .tc := ⟨.hbm, 25, rfl⟩
abbrev main_call1_c_2 : Ref sig .tc := ⟨.hbm, 26, rfl⟩
abbrev main_call1_v5 : Ref sig .tc := ⟨.hbm, 27, rfl⟩
abbrev main_call1_c_3 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_v2 : Ref sig .tc := ⟨.hbm, 33, rfl⟩
abbrev main_c_1 : Ref sig .tc := ⟨.hbm, 34, rfl⟩
abbrev main_v3 : Ref sig .tc := ⟨.hbm, 35, rfl⟩
abbrev main_c_2 : Ref sig .tc := ⟨.hbm, 36, rfl⟩
abbrev main_v4 : Ref sig .tc := ⟨.hbm, 37, rfl⟩
abbrev main_v5 : Ref sig .tc := ⟨.hbm, 38, rfl⟩
abbrev main_c_3 : Ref sig .tc := ⟨.hbm, 39, rfl⟩
abbrev main_v6 : Ref sig .tc := ⟨.hbm, 40, rfl⟩
abbrev main_c_4 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst : Ref sig .tc := ⟨.hbm, 46, rfl⟩
abbrev main_v11 : Ref sig .tc := ⟨.hbm, 47, rfl⟩
abbrev main_v12 : Ref sig .tc := ⟨.hbm, 48, rfl⟩
abbrev main_c_5 : Ref sig .tc := ⟨.hbm, 49, rfl⟩
abbrev main_v13 : Ref sig .tc := ⟨.hbm, 50, rfl⟩
abbrev main_c_6 : Ref sig .tc := ⟨.hbm, 51, rfl⟩
abbrev main_v14 : Ref sig .tc := ⟨.hbm, 52, rfl⟩
abbrev main_v15 : Ref sig .tc := ⟨.hbm, 53, rfl⟩
abbrev main_c_7 : Ref sig .tc := ⟨.hbm, 54, rfl⟩
abbrev main_v16 : Ref sig .tc := ⟨.hbm, 55, rfl⟩
abbrev main_c_8 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_9 : Ref sig .tc := ⟨.hbm, 63, rfl⟩
abbrev main_v23 : Ref sig .tc := ⟨.hbm, 64, rfl⟩
abbrev main_c_10 : Ref sig .tc := ⟨.hbm, 65, rfl⟩
abbrev main_v24 : Ref sig .tc := ⟨.hbm, 66, rfl⟩
abbrev main_v25 : Ref sig .tc := ⟨.hbm, 67, rfl⟩
abbrev main_c_11 : Ref sig .tc := ⟨.hbm, 68, rfl⟩
abbrev main_v26 : Ref sig .tc := ⟨.hbm, 69, rfl⟩
abbrev main_c_12 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩

abbrev nD : Nat := 1
abbrev τ : Topo := Topo.v7x

variable {F : FTy → Type} [FloatOps F]
-- ==== Proof.Idealized.Setup.lean ====
/- The program as the launch theorem sees it: its SparseCore call and its two TensorCore pipelines, the ghost state the
   proof uses, and the arrays and scratch buffers by name. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Idealized

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the pipelines' rounds, the handshakes' rounds, the transfers' counters -/

abbrev UP : Type := URounds (GSem nD τ sig) Unit
abbrev UH : Type := URounds (GSem nD τ sig) ℕ
abbrev UU : Type := UP × (UH × Counters)

local notation "𝕄" => MT nD τ sig (HIx 1) (Elt F) ℕ UU ℕ

abbrev EP : Emb UP (MT nD τ sig (HIx 1) (Elt F) ℕ UU ℕ) := embL
abbrev EH : Emb UH (MT nD τ sig (HIx 1) (Elt F) ℕ UU ℕ) := ((UEmb.inl.trans UEmb.inr).trans uEmb).toEmb

/-! ## The subcore's place in the grid -/

abbrev cV (L : grid0.Coords) : Fin τ.nSC := (L 0).castLE hcore0
abbrev jV (L : grid0.Coords) : Fin τ.nSub := (L 1).castLE hsub0
/-- The thread of vector subcore `(L 0, L 1)` of device `d`. -/
abbrev thr (d : Dev nD) (L : grid0.Coords) : Thread nD τ := V d (cV L) (jV L)

/-! ## The arrays and the scratch buffers -/

abbrev adjV : Memref sig .scVector .hbm S4096x4096 .f32 := Memref.whole main_arg0_scv
abbrev mgV : Memref sig .scVector .hbm S4096x4096 .f32 := Memref.whole main_arg2_scv
abbrev degV : Memref sig .scVector .hbm S4096x16 .f32 := Memref.whole main_v0_0_scv
abbrev pmnV : Memref sig .scVector .hbm S32x16 .f32 := Memref.whole main_v0_1_scv
abbrev a0V : Memref sig .scVector .vmem S4x4096 .f32 := Memref.whole cc0_scratch0
abbrev m0V : Memref sig .scVector .vmem S4x4096 .f32 := Memref.whole cc0_scratch1
abbrev a1V : Memref sig .scVector .vmem S4x4096 .f32 := Memref.whole cc0_scratch2
abbrev m1V : Memref sig .scVector .vmem S4x4096 .f32 := Memref.whole cc0_scratch3
abbrev dgV : Memref sig .scVector .vmem S4x16 .f32 := Memref.whole cc0_scratch4
abbrev mnV : Memref sig .scVector .vmem S16 .f32 := Memref.whole cc0_scratch5

/-- The subcore's kernel at its own arrays and scratch. -/
abbrev kernelAt [FloatOps F] (L : grid0.Coords) :=
  cc0__sc_pass1 (F := F) L adjV (Memref.isWhole_whole _) mgV (Memref.isWhole_whole _) degV (Memref.isWhole_whole _) pmnV (Memref.isWhole_whole _)
    a0V (Memref.isWhole_whole _) m0V (Memref.isWhole_whole _) a1V (Memref.isWhole_whole _) m1V (Memref.isWhole_whole _)
    dgV (Memref.isWhole_whole _) mnV (Memref.isWhole_whole _) cc0_scratch6 cc0_scratch7 cc0_scoped0 cc0_scoped1 cc0_scoped2

end Cert.Proof.Idealized

end
-- ==== Proof.Idealized.Blocks.lean ====
/- The bodies of the two TensorCore calls, run once: what each leaves in its result blocks, as a function of the blocks it reads. -/
module

public import proofs.«01_k».proof.Proof.Idealized.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Pipeline.RegionArrays

@[expose] public section

noncomputable section

namespace Cert.Proof.Idealized

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat RDat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

omit [FloatOps F] in
/-- What a store of a whole memref leaves there, read back. -/
theorem read_store_whole [∀ e, Nonempty (Elt F e)] {κ : Kind} {sp : Space} {s : Shape} {e : EltTy} (v : View sig κ sp s e) (f : v.ty.Contents (Elt F)) {off : Fin s.rank → Nat}
    (h : off = fun _ => 0) (inb : ∀ a, off a + s.size a ≤ s.size a) (w : s.Idx → Elt F e) (L : List (View.Piece (Elt F) s e)) :
    v.read (Elt F) (v.writes (Elt F) f (⟨Rect.unit off s.size inb, w⟩ :: L)) = w := by
  rw [View.read_writes_eq_canon v f _ fun y => ⟨_, List.mem_cons_self .., View.mem_set_unit_zero h inb y⟩]
  exact View.canon_cons_unit_zero h inb w L

omit [FloatOps F] in
/-- A load of a whole memref reads its contents. -/
theorem load_whole {κ : Kind} {sp : Space} {s : Shape} {e : EltTy} (v : View sig κ sp s e) (f : v.ty.Contents (Elt F)) {off : Fin s.rank → Nat}
    (h : off = fun _ => 0) (inb : ∀ a, off a + s.size a ≤ s.size a) :
    v.readAt (Elt F) (Rect.unit off s.size inb).toLoadRect f = v.read (Elt F) f :=
  View.ld_unit_zero h inb _

theorem zz : (![0, 0] : Fin 2 → Nat) = fun _ => 0 := by decide

/-- One block of the first call: the updated adjacency rows and a copy of the adjacency rows. -/
theorem runA [∀ e, Nonempty (Elt F e)] (c : Dev nD) (i : grid1.Coords)
    (M1 : Memref sig .tc .vmem S256x4096 .f32) (h1 : M1.IsWhole) (M2 : Memref sig .tc .vmem S256x4096 .f32) (h2 : M2.IsWhole)
    (M3 : Memref sig .tc .vmem S4096x256 .f32) (h3 : M3.IsWhole) (M4 : Memref sig .tc .vmem S256x4096 .f32) (h4 : M4.IsWhole)
    (M5 : Memref sig .tc .vmem S256x4096 .f32) (h5 : M5.IsWhole)
    (X1 X2 : Vec F S256x4096 .f32) (X3 : Vec F S4096x256 .f32) (Q : PUnit → sProp 𝕄) :
    iprop(owns (c : Thread nD τ) M1 fullShare X1 ∗ owns (c : Thread nD τ) M2 fullShare X2 ∗ owns (c : Thread nD τ) M3 fullShare X3
        ∗ (∃ Y, owns (c : Thread nD τ) M4 fullShare Y) ∗ (∃ Y, owns (c : Thread nD τ) M5 fullShare Y)
        ∗ (iprop(owns (c : Thread nD τ) M1 fullShare X1 ∗ owns (c : Thread nD τ) M2 fullShare X2 ∗ owns (c : Thread nD τ) M3 fullShare X3
            ∗ owns (c : Thread nD τ) M4 fullShare (k1_pay1 i X1 X2 X3) ∗ owns (c : Thread nD τ) M5 fullShare X1) -∗ Q ⟨⟩))
      ⊢ wp frame (wpE (defs₀ (F := F)) Variants.none c none) Set.univ (cc1__p2a_body i M1 h1 M2 h2 M3 h3 M4 h4 M5 h5) Q := by
  simp only [cc1__p2a_body_eq_skeleton]; unfold cc1__p2a_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  sl_exec
  sl_step
  iapply Hk
  subst hf1; subst hf2; subst hf3
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr; swap; · iexact H4
    ipureintro
    rw [read_store_whole _ _ zz, load_whole _ _ zz, load_whole _ _ zz, load_whole _ _ zz]
  iexists _; isplitr; swap; · iexact H5
  ipureintro
  rw [read_store_whole _ _ zz, load_whole _ _ zz]

/-- The masked scores of one block of rows: from the adjacency rows, the gradient rows, all rows' partial sums, and all partial minima. -/
def scoreBlock (i : grid2.Coords) (X1 X2 : Vec F S256x4096 .f32) (X3 : Vec F S4096x16 .f32) (X4 : Vec F S32x16 .f32) : FVec F S256x4096 .f32 :=
  k2_pay1 (k2_pay5 X1 X3 (View.ld X3 (Rect.unit (s := S4096x16) (k2_off1 i) S256x16.size (k2_off1_inb i)))) (k2_pay6 X1 X2) (k2_pay7 X4)

set_option maxHeartbeats 1000000 in
/-- One block of the second call: the masked scores; the two running scalars end at something. -/
theorem runB [∀ e, Nonempty (Elt F e)] (c : Dev nD) (i : grid2.Coords)
    (M1 : Memref sig .tc .vmem S256x4096 .f32) (h1 : M1.IsWhole) (M2 : Memref sig .tc .vmem S256x4096 .f32) (h2 : M2.IsWhole)
    (M3 : Memref sig .tc .vmem S4096x16 .f32) (h3 : M3.IsWhole) (M4 : Memref sig .tc .vmem S32x16 .f32) (h4 : M4.IsWhole)
    (M5 : Memref sig .tc .vmem S256x4096 .f32) (h5 : M5.IsWhole) (M6 : Memref sig .tc .smem S1x1 .f32) (h6 : M6.IsWhole)
    (M7 : Memref sig .tc .smem S1x1 .i32) (h7 : M7.IsWhole)
    (X1 X2 : Vec F S256x4096 .f32) (X3 : Vec F S4096x16 .f32) (X4 : Vec F S32x16 .f32) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4
        ∗ (∃ Y, owns (c : Thread nD τ) M5 fullShare Y) ∗ (∃ Y, owns (c : Thread nD τ) M6 fullShare Y) ∗ (∃ Y, owns (c : Thread nD τ) M7 fullShare Y)
        ∗ (iprop(owns (c : Thread nD τ) M1 fullShare X1 ∗ owns (c : Thread nD τ) M2 fullShare X2 ∗ owns (c : Thread nD τ) M3 fullShare X3
            ∗ owns (c : Thread nD τ) M4 fullShare X4
            ∗ owns (c : Thread nD τ) M5 fullShare (scoreBlock i X1 X2 X3 X4) ∗ (∃ Y, owns (c : Thread nD τ) M6 fullShare Y)
            ∗ (∃ Y, owns (c : Thread nD τ) M7 fullShare Y)) -∗ Q ⟨⟩))
      ⊢ wp frame (wpE (defs₀ (F := F)) Variants.none c none) Set.univ (cc2__p2b_body i M1 h1 M2 h2 M3 h3 M4 h4 M5 h5 M6 h6 M7 h7) Q := by
  simp only [cc2__p2b_body_eq_skeleton]; unfold cc2__p2b_body_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  sl_exec
  sl_step
  iapply Hk
  subst hf1; subst hf2; subst hf3; subst hf4
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    sl_unfold_words
    rw [read_store_whole _ _ zz, load_whole _ _ zz, load_whole _ _ zz, load_whole _ _ zz, load_whole _ _ zz]
    rfl
  isplitl [H6]
  · iexists _, _; isplitr; swap; · iexact H6
    ipureintro; rfl
  iexists _, _; isplitr; swap; · iexact H7
  ipureintro; rfl

end Cert.Proof.Idealized

end
-- ==== Proof.Idealized.RegionA.lean ====
/- The two TensorCore calls as regions of the program: their arrays before and after, block by block. -/
module

public import proofs.«01_k».proof.Proof.Idealized.Blocks
public import Idealize.ShloMosaic.Lib.Pipeline.RegionArraysF

@[expose] public section

noncomputable section

namespace Cert.Proof.Idealized

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat RDat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Proof data for a pipeline that is not looked at. -/
def junkDat [∀ e, Nonempty (Elt F e)] {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The pairs a TensorCore may have waited on by the time it enters a region. -/
abbrev waited (c : Dev nD) : Set (SemLoc sig × HIx 1) := {p | (K (F := F)).lev ((c : Thread nD τ), p.1) p.2 ≤ 8}

/-- What a TensorCore owes between its calls: nothing, having waited on such pairs only. -/
def idle (c : Dev nD) : sProp 𝕄 :=
  iprop(∃ W, ⌜(K (F := F)).WBelow (c : Thread nD τ) W 8⌝ ∗ owes (c : Thread nD τ) (0 : CellTallies nD τ sig (HIx 1)) W)

section A

variable [∀ e, Nonempty (Elt F e)]
variable (A : (c : Dev nD) → (w : Fin cfg1.W) → Buf (Elt F) ((cfg1.win w).arr.view.loc (c : Thread nD τ)))

/-- The blocks the first call reads at point `t`. -/
def rowsA (c : Dev nD) (t : Fin cfg1.N) : Vec F S256x4096 .f32 := ((cfg1.win 0).blk t).view.read (Elt F) (A c 0)
def rowsC (c : Dev nD) (t : Fin cfg1.N) : Vec F S256x4096 .f32 := ((cfg1.win 1).blk t).view.read (Elt F) (A c 1)
def colsC (c : Dev nD) (t : Fin cfg1.N) : Vec F S4096x256 .f32 := ((cfg1.win 2).blk t).view.read (Elt F) (A c 2)

/-- The first call's proof data: the array read through two windows is held by halves. -/
def datA (c : Dev nD) : Dat τ (Elt F) (HIx 1) ℕ UU ℕ cfg1 c where
  A w := A c w
  after w t := match w with
    | ⟨0, _⟩ => rowsA A c t
    | ⟨1, _⟩ => rowsC A c t
    | ⟨2, _⟩ => colsC A c t
    | ⟨3, _⟩ => k1_pay1 (grid1.coords t) (rowsA A c t) (rowsC A c t) (colsC A c t)
    | ⟨4, _⟩ => rowsA A c t
  Φ _ := Pipeline.scopedRest (Ix := HIx 1) (Name := ℕ) (U := UU) (Lvl := ℕ) (Val := Elt F) spec1 c
  q w := match w with
    | ⟨1, _⟩ => fullShare.left
    | ⟨2, _⟩ => fullShare.right
    | _ => fullShare
  owed _ := 0
  recorded _ := waited (F := F) c

theorem beforeA0 (c : Dev nD) (t : Fin cfg1.N) (d : (cfg1.win 0).block.Idx → Elt F (cfg1.win 0).elt) : (datA A c).before 0 t d = rowsA A c t := by
  rw [Dat.before_fetched _ 0 t (fetch1_0 t)]; rfl
theorem beforeA1 (c : Dev nD) (t : Fin cfg1.N) (d : (cfg1.win 1).block.Idx → Elt F (cfg1.win 1).elt) : (datA A c).before 1 t d = rowsC A c t := by
  rw [Dat.before_fetched _ 1 t (fetch1_1 t)]; rfl
theorem beforeA2 (c : Dev nD) (t : Fin cfg1.N) (d : (cfg1.win 2).block.Idx → Elt F (cfg1.win 2).elt) : (datA A c).before 2 t d = colsC A c t := by
  rw [Dat.before_fetched _ 2 t (fetch1_2 t)]; rfl

/-- The body's table row at a point is the body as called there. -/
theorem rowA (t : Fin cfg1.N) : defs₀ (F := F) .tc cfg1.body (cfg1.bodyArgs t (cfg1.slots t)) = bodyAt1 t := rfl

theorem obligationA (c : Dev nD) : BodyObligation (datA A c) (defs₀ (F := F)) 𝒱₀ none Set.univ := fun t => by
  rw [bigSep_W1, bigSep_W1, rowA]
  rw [show (datA A c).Φ t.succ = (datA A c).Φ t.castSucc from rfl, show (datA A c).owesAt none t.succ = (datA A c).owesAt none t.castSucc from rfl]
  show iprop(_ ∗ _ ∗ (∃ d, owns (c : Thread nD τ) (st1_0 t) fullShare ((datA A c).before 0 t d)) ∗ (∃ d, owns (c : Thread nD τ) (st1_1 t) fullShare ((datA A c).before 1 t d))
    ∗ (∃ d, owns (c : Thread nD τ) (st1_2 t) fullShare ((datA A c).before 2 t d)) ∗ (∃ d, owns (c : Thread nD τ) (st1_3 t) fullShare ((datA A c).before 3 t d))
    ∗ (∃ d, owns (c : Thread nD τ) (st1_4 t) fullShare ((datA A c).before 4 t d))) ⊢ wp frame _ _ _ fun _ => iprop(_ ∗ _
    ∗ owns (c : Thread nD τ) (st1_0 t) fullShare (rowsA A c t) ∗ owns (c : Thread nD τ) (st1_1 t) fullShare (rowsC A c t)
    ∗ owns (c : Thread nD τ) (st1_2 t) fullShare (colsC A c t)
    ∗ owns (c : Thread nD τ) (st1_3 t) fullShare (k1_pay1 (grid1.coords t) (rowsA A c t) (rowsC A c t) (colsC A c t))
    ∗ owns (c : Thread nD τ) (st1_4 t) fullShare (rowsA A c t))
  simp only [beforeA0, beforeA1, beforeA2]
  iintro ⟨HΦ, Howes, ⟨%d0, H0⟩, ⟨%d1, H1⟩, ⟨%d2, H2⟩, ⟨%d3, H3⟩, ⟨%d4, H4⟩⟩
  iapply (runA c (grid1.coords t) _ _ _ _ _ _ _ _ _ _ (rowsA A c t) (rowsC A c t) (colsC A c t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

end A

end Cert.Proof.Idealized

end
-- ==== Proof.Idealized.SegA.lean ====
/- The first TensorCore call as a region of the program, entered from its arrays and left with them. -/
module

public import proofs.«01_k».proof.Proof.Idealized.RegionA

@[expose] public section

noncomputable section

namespace Cert.Proof.Idealized

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat RDat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable [∀ e, Nonempty (Elt F e)]

/-- What the program's arrays hold, device by device. -/
abbrev Held (F : FTy → Type) : Type := (c : Dev nD) → (b : Ref sig .tc) → Buf (Elt F) ((c : Thread nD τ).loc b)

/-- The arrays of the first call's windows. -/
abbrev heldA (V : Held F) (c : Dev nD) (w : Fin cfg1.W) : Buf (Elt F) ((cfg1.win w).arr.view.loc (c : Thread nD τ)) := V c (Pipeline.arrRef spec1 w)

abbrev adm : (p : Fin 2) → (pcfgs (F := F) p).Adm := fun p => (cfgs p).toPCfg_adm

/-- The first call's proof data, the second pipeline's left alone. -/
def datsA (V : Held F) : (p : Fin 2) → (c : Dev nD) → Dat τ (Elt F) (HIx 1) ℕ UU ℕ (Pipeline.pin (pcfgs (F := F)) adm p) c
  | ⟨0, _⟩ => datA (heldA V)
  | ⟨1, _⟩ => junkDat

theorem arraysA (V : Held F) (c : Dev nD) (G : (w : Fin cfg1.W) → Buf (Elt F) ((cfg1.win w).arr.view.loc (c : Thread nD τ))) :
    ((datA (heldA V) c).arrays G : sProp 𝕄) = iprop(((c : Thread nD τ).loc main_arg0 ↦{fullShare} G 0) ∗ ((c : Thread nD τ).loc main_arg1 ↦{fullShare.left} G 1)
      ∗ ((c : Thread nD τ).loc main_arg1 ↦{fullShare.right} G 2) ∗ ((c : Thread nD τ).loc main_v1_0 ↦{fullShare} G 3) ∗ ((c : Thread nD τ).loc main_v1_1 ↦{fullShare} G 4)) := by
  have hw (w : Fin 5) (q : PosShare TreeShare) (hq : (datA (heldA V) c).share w = q) :
      (((cfg1.win w).arr.view.loc (c : Thread nD τ)) ↦[(cfg1.win w).arr.view.set]{(datA (heldA V) c).share w} G w : sProp 𝕄)
        = iprop(((cfg1.win w).arr.view.loc (c : Thread nD τ)) ↦{q} G w) := by
    rw [(show (cfg1.win w).arr.IsWhole from arr_whole1 w).set_eq_univ, hq]
  unfold Dat.arrays
  rw [bigSep_W1, hw 0 fullShare rfl, hw 1 fullShare.left rfl, hw 2 fullShare.right rfl, hw 3 fullShare rfl, hw 4 fullShare rfl]

/-- The region of the first call: entered with its four arrays whole, left with the two results written. -/
def segA (V : Held F) : Pipeline.RegionSeg (pcfgs (F := F)) adm (datsA V) none defs₀ 𝒱₀ (K (F := F)).L (K (F := F)).lev 0 where
  win := winFacts₀1
  block_pos := block_pos1
  stage_whole := stage_whole1
  K := PEmpty
  osem k := k.elim
  ho := Pipeline.OwnSemFacts.none _
  hbody c := (obligationA (heldA V) c).loose
  hwaits := Pipeline.hwaits_of_owed_zero _ _ _ _ _ _ 0 fun _ _ => rfl
  pre c := iprop(((c : Thread nD τ).loc main_arg0 ↦{fullShare} V c main_arg0) ∗ ((c : Thread nD τ).loc main_arg1 ↦{fullShare} V c main_arg1)
    ∗ ((c : Thread nD τ).loc main_v1_0 ↦{fullShare} V c main_v1_0) ∗ ((c : Thread nD τ).loc main_v1_1 ↦{fullShare} V c main_v1_1) ∗ idle (F := F) c)
  post c := iprop(((c : Thread nD τ).loc main_arg0 ↦{fullShare} V c main_arg0) ∗ ((c : Thread nD τ).loc main_arg1 ↦{fullShare} V c main_arg1)
    ∗ ((c : Thread nD τ).loc main_v1_0 ↦{fullShare} (datA (heldA V) c).arrAt 3 cfg1.N)
    ∗ ((c : Thread nD τ).loc main_v1_1 ↦{fullShare} (datA (heldA V) c).arrAt 4 cfg1.N) ∗ idle (F := F) c)
  X _ := BI.emp
  Y _ := BI.emp
  Z _ := BI.emp
  hentry c := by
    show _ ⊢ |={Set.univ}=> iprop((datA (heldA V) c).arrays ((datA (heldA V) c).arrAt · 0) ∗ _ ∗ (datA (heldA V) c).owesAt none 0 ∗ _ ∗ _)
    rw [Pipeline.ownSems0_none, arraysA]
    iintro ⟨⟨H0, H1, H3, H4, HO⟩, -, -⟩
    ihave H1' := (pointsTo_share (PosShare.mem_left_op_right fullShare)).1 $$ H1
    icases H1' with ⟨H1, H2⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin idle
      icases HO with ⟨%W, %hW, HO⟩; iexists W; isplitr; · ipureintro; exact fun q hq => Or.inl (hW q hq)
      iexact HO
    isplitr <;> iempintro
  hin c := by
    rw [show (datsA V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (datsA V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    show iprop((datA (heldA V) c).arrays ((datA (heldA V) c).arrAt · cfg1.N) ∗ (datA (heldA V) c).owesAt none (Fin.last cfg1.N) ∗ _ ∗ _) ⊢ _
    rw [arraysA, (datA (heldA V) c).arrAt_in 0 rfl, (datA (heldA V) c).arrAt_in 1 rfl, (datA (heldA V) c).arrAt_in 2 rfl]
    iintro ⟨⟨H0, H1, H2, H3, H4⟩, HO, -, -⟩
    ihave H1' := (pointsTo_share (PosShare.mem_left_op_right fullShare)).2 $$ [H1 H2]
    · isplitl [H1]; · iexact H1
      iexact H2
    imodintro
    isplitl [H0]; · iexact H0
    isplitl [H1']; · iexact H1'
    isplitl [H3]; · iexact H3
    isplitl [H4]; · iexact H4
    unfold Pipeline.Dat.owesAt Pipeline.owesWithin idle
    icases HO with ⟨%W, %hW, HO⟩; iexists W; isplitr
    · ipureintro
      intro q hq
      rcases hW hq with h | h
      · exact h
      · obtain ⟨w, s, rfl⟩ := h
        exact Nat.zero_le _
    iexact HO

end Cert.Proof.Idealized

end
-- ==== Proof.Idealized.SegB.lean ====
/- The second TensorCore call as a region of the program. Its running best and its index, which the next call does not
   read here, are left unnamed. -/
module

public import proofs.«01_k».proof.Proof.Idealized.SegA

@[expose] public section

noncomputable section

namespace Cert.Proof.Idealized

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat RDat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable [∀ e, Nonempty (Elt F e)]

/-- The arrays of the second call's windows. -/
abbrev heldB (V : Held F) (c : Dev nD) (w : Fin cfg2.W) : Buf (Elt F) ((cfg2.win w).arr.view.loc (c : Thread nD τ)) := V c (Pipeline.arrRef spec2 w)

/-- The blocks the second call reads at point `t`. -/
def rowsB (V : Held F) (c : Dev nD) (t : Fin cfg2.N) : Vec F S256x4096 .f32 := ((cfg2.win 0).blk t).view.read (Elt F) (heldB V c 0)
def rowsM (V : Held F) (c : Dev nD) (t : Fin cfg2.N) : Vec F S256x4096 .f32 := ((cfg2.win 1).blk t).view.read (Elt F) (heldB V c 1)
def degsB (V : Held F) (c : Dev nD) (t : Fin cfg2.N) : Vec F S4096x16 .f32 := ((cfg2.win 2).blk t).view.read (Elt F) (heldB V c 2)
def minsB (V : Held F) (c : Dev nD) (t : Fin cfg2.N) : Vec F S32x16 .f32 := ((cfg2.win 3).blk t).view.read (Elt F) (heldB V c 3)

/-- The second call's proof data. -/
def datB (V : Held F) (c : Dev nD) : Dat τ (Elt F) (HIx 1) ℕ UU ℕ cfg2 c where
  A w := heldB V c w
  after w t := match w with
    | ⟨0, _⟩ => rowsB V c t
    | ⟨1, _⟩ => rowsM V c t
    | ⟨2, _⟩ => degsB V c t
    | ⟨3, _⟩ => minsB V c t
    | ⟨4, _⟩ => scoreBlock (grid2.coords t) (rowsB V c t) (rowsM V c t) (degsB V c t) (minsB V c t)
    | ⟨5, _⟩ => Dat.unnamed (cfg := cfg2) 5 t
    | ⟨6, _⟩ => Dat.unnamed (cfg := cfg2) 6 t
  Φ _ := Pipeline.scopedRest (Ix := HIx 1) (Name := ℕ) (U := UU) (Lvl := ℕ) (Val := Elt F) spec2 c
  q _ := fullShare
  owed _ := 0
  recorded _ := waited (F := F) c

/-- The windows left unnamed: the two results of one element. -/
def fgtB : Fin 7 → Bool := fun | 5 => true | 6 => true | _ => false

theorem beforeB0 (V : Held F) (c : Dev nD) (t : Fin cfg2.N) (d : (cfg2.win 0).block.Idx → Elt F (cfg2.win 0).elt) : (datB V c).before 0 t d = rowsB V c t := by
  rw [Dat.before_fetched _ 0 t (fetch2_0 t)]; rfl
theorem beforeB1 (V : Held F) (c : Dev nD) (t : Fin cfg2.N) (d : (cfg2.win 1).block.Idx → Elt F (cfg2.win 1).elt) : (datB V c).before 1 t d = rowsM V c t := by
  rw [Dat.before_fetched _ 1 t (fetch2_1 t)]; rfl
theorem beforeB2 (V : Held F) (c : Dev nD) (t : Fin cfg2.N) (d : (cfg2.win 2).block.Idx → Elt F (cfg2.win 2).elt) : (datB V c).before 2 t d = degsB V c t := by
  rw [Dat.before_in_eq_fetched _ 2 rfl (fun _ => rfl) (fun _ _ _ => rfl) (fun _ => rfl) t d]; rfl
theorem beforeB3 (V : Held F) (c : Dev nD) (t : Fin cfg2.N) (d : (cfg2.win 3).block.Idx → Elt F (cfg2.win 3).elt) : (datB V c).before 3 t d = minsB V c t := by
  rw [Dat.before_in_eq_fetched _ 3 rfl (fun _ => rfl) (fun _ _ _ => rfl) (fun _ => rfl) t d]; rfl

theorem rowB (t : Fin cfg2.N) : defs₀ (F := F) .tc cfg2.body (cfg2.bodyArgs t (cfg2.slots t)) = bodyAt2 t := rfl

theorem obligationB (V : Held F) (c : Dev nD) : BodyObligation (datB V c) (defs₀ (F := F)) 𝒱₀ none Set.univ fgtB := fun t => by
  rw [bigSep_W2, bigSep_W2, rowB]
  rw [show (datB V c).Φ t.succ = (datB V c).Φ t.castSucc from rfl, show (datB V c).owesAt none t.succ = (datB V c).owesAt none t.castSucc from rfl]
  show iprop(_ ∗ _ ∗ (∃ d, owns (c : Thread nD τ) (st2_0 t) fullShare ((datB V c).before 0 t d)) ∗ (∃ d, owns (c : Thread nD τ) (st2_1 t) fullShare ((datB V c).before 1 t d))
    ∗ (∃ d, owns (c : Thread nD τ) (st2_2 t) fullShare ((datB V c).before 2 t d)) ∗ (∃ d, owns (c : Thread nD τ) (st2_3 t) fullShare ((datB V c).before 3 t d))
    ∗ (∃ d, owns (c : Thread nD τ) (st2_4 t) fullShare ((datB V c).before 4 t d)) ∗ (∃ Y, owns (c : Thread nD τ) (st2_5 t) fullShare Y)
    ∗ (∃ Y, owns (c : Thread nD τ) (st2_6 t) fullShare Y)) ⊢ wp frame _ _ _ fun _ => iprop(_ ∗ _
    ∗ owns (c : Thread nD τ) (st2_0 t) fullShare (rowsB V c t) ∗ owns (c : Thread nD τ) (st2_1 t) fullShare (rowsM V c t)
    ∗ owns (c : Thread nD τ) (st2_2 t) fullShare (degsB V c t) ∗ owns (c : Thread nD τ) (st2_3 t) fullShare (minsB V c t)
    ∗ owns (c : Thread nD τ) (st2_4 t) fullShare (scoreBlock (grid2.coords t) (rowsB V c t) (rowsM V c t) (degsB V c t) (minsB V c t))
    ∗ (∃ Y, owns (c : Thread nD τ) (st2_5 t) fullShare Y) ∗ (∃ Y, owns (c : Thread nD τ) (st2_6 t) fullShare Y))
  simp only [beforeB0, beforeB1, beforeB2, beforeB3]
  iintro ⟨HΦ, Howes, ⟨%d0, H0⟩, ⟨%d1, H1⟩, ⟨%d2, H2⟩, ⟨%d3, H3⟩, ⟨%d4, H4⟩, H5, H6⟩
  iapply (runB c (grid2.coords t) _ _ _ _ _ _ _ _ _ _ _ _ _ _ (rowsB V c t) (rowsM V c t) (degsB V c t) (minsB V c t) _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-- The second call's proof data, the first pipeline's left alone. -/
def datsB (V : Held F) : (p : Fin 2) → (c : Dev nD) → Dat τ (Elt F) (HIx 1) ℕ UU ℕ (Pipeline.pin (pcfgs (F := F)) adm p) c
  | ⟨0, _⟩ => junkDat
  | ⟨1, _⟩ => datB V

def fgts : (p : Fin 2) → Fin (Pipeline.pin (pcfgs (F := F)) adm p).W → Bool
  | ⟨0, _⟩ => fun _ => false
  | ⟨1, _⟩ => fgtB

theorem arraysB (V : Held F) (c : Dev nD) (G : (w : Fin cfg2.W) → Buf (Elt F) ((cfg2.win w).arr.view.loc (c : Thread nD τ))) :
    ((datB V c).arrays G : sProp 𝕄) = iprop(((c : Thread nD τ).loc main_arg0 ↦{fullShare} G 0) ∗ ((c : Thread nD τ).loc main_arg2 ↦{fullShare} G 1)
      ∗ ((c : Thread nD τ).loc main_v0_0 ↦{fullShare} G 2) ∗ ((c : Thread nD τ).loc main_v0_1 ↦{fullShare} G 3)
      ∗ ((c : Thread nD τ).loc main_v2_0 ↦{fullShare} G 4) ∗ ((c : Thread nD τ).loc main_v2_1 ↦{fullShare} G 5)
      ∗ ((c : Thread nD τ).loc main_v2_2 ↦{fullShare} G 6)) := by
  have hw (w : Fin 7) (q : PosShare TreeShare) (hq : (datB V c).share w = q) :
      (((cfg2.win w).arr.view.loc (c : Thread nD τ)) ↦[(cfg2.win w).arr.view.set]{(datB V c).share w} G w : sProp 𝕄)
        = iprop(((cfg2.win w).arr.view.loc (c : Thread nD τ)) ↦{q} G w) := by
    rw [(show (cfg2.win w).arr.IsWhole from arr_whole2 w).set_eq_univ, hq]
  unfold Dat.arrays
  rw [bigSep_W2, hw 0 fullShare rfl, hw 1 fullShare rfl, hw 2 fullShare rfl, hw 3 fullShare rfl, hw 4 fullShare rfl, hw 5 fullShare rfl, hw 6 fullShare rfl]

/-- The region of the second call: entered with its seven arrays whole, left with the scores written. -/
def segB (V : Held F) : Pipeline.RDat.RegionSeg (pcfgs (F := F)) adm (Pipeline.toRsF (pcfgs (F := F)) adm (datsB V) fgts) none defs₀ 𝒱₀ (K (F := F)).L (K (F := F)).lev 1 where
  win := winFacts2.to₀
  block_pos := block_pos2
  stage_whole := stage_whole2
  K := PEmpty
  osem k := k.elim
  ho := Pipeline.OwnSemFacts.none _
  hbody c := (show Pipeline.BodyObligationLoose (datsB V 1 c) defs₀ 𝒱₀ none Set.univ (fgts 1) from (obligationB V c).loose).toRForget
  hwaits := Pipeline.RDat.hwaits_of_owed_zero _ _ _ _ _ _ 1 fun _ _ => rfl
  pre c := iprop(((c : Thread nD τ).loc main_arg0 ↦{fullShare} V c main_arg0) ∗ ((c : Thread nD τ).loc main_arg2 ↦{fullShare} V c main_arg2)
    ∗ ((c : Thread nD τ).loc main_v0_0 ↦{fullShare} V c main_v0_0) ∗ ((c : Thread nD τ).loc main_v0_1 ↦{fullShare} V c main_v0_1)
    ∗ ((c : Thread nD τ).loc main_v2_0 ↦{fullShare} V c main_v2_0) ∗ ((c : Thread nD τ).loc main_v2_1 ↦{fullShare} V c main_v2_1)
    ∗ ((c : Thread nD τ).loc main_v2_2 ↦{fullShare} V c main_v2_2) ∗ idle (F := F) c)
  post c := iprop(((c : Thread nD τ).loc main_arg0 ↦{fullShare} V c main_arg0) ∗ ((c : Thread nD τ).loc main_arg2 ↦{fullShare} V c main_arg2)
    ∗ ((c : Thread nD τ).loc main_v2_0 ↦{fullShare} (datB V c).arrAt 4 cfg2.N) ∗ idle (F := F) c)
  X _ := BI.emp
  Y _ := BI.emp
  Z _ := BI.emp
  hentry c := by
    show _ ⊢ |={Set.univ}=> iprop((datB V c).arrays (heldB V c) ∗ _ ∗ (datB V c).owesAt none 0 ∗ _ ∗ _)
    rw [Pipeline.ownSems0_none, arraysB]
    iintro ⟨⟨H0, H1, H2, H3, H4, H5, H6, HO⟩, -, -⟩
    imodintro
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]
    · unfold Pipeline.Dat.owesAt Pipeline.owesWithin idle
      icases HO with ⟨%W, %hW, HO⟩; iexists W; isplitr; · ipureintro; exact fun q hq => Or.inl (hW q hq)
      iexact HO
    isplitr <;> iempintro
  hin c := by
    show _ ⊢ Pipeline.scopedRest (Ix := HIx 1) (Name := ℕ) (U := UU) (Lvl := ℕ) (Val := Elt F) spec2 c
    iintro ⟨-, -, Hr⟩; iexact Hr
  hout c := by
    show Pipeline.scopedRest (Ix := HIx 1) (Name := ℕ) (U := UU) (Lvl := ℕ) (Val := Elt F) spec2 c ⊢ _
    rw [Pipeline.ownSems0_none]
    iintro Hr
    isplitr; · iempintro
    isplitr; · iempintro
    iexact Hr
  hexit c := by
    show iprop(((datB V c).toRForget fgtB).arraysAt cfg2.N ∗ (datB V c).owesAt none (Fin.last cfg2.N) ∗ _ ∗ _) ⊢ _
    iintro ⟨Ha, HO, -, -⟩
    ihave Ha' := ((datB V c).arraysAt_forget fgtB cfg2.N) $$ Ha
    icases Ha' with ⟨%G, %hG, Ha⟩
    ihave Ha' := (Entails.of_eq (arraysB V c G)) $$ Ha
    rw [hG 0 rfl, hG 1 rfl, hG 4 rfl, (datB V c).arrAt_in 0 rfl, (datB V c).arrAt_in 1 rfl]
    icases Ha' with ⟨H0, H1, -, -, H4, -, -⟩
    imodintro
    isplitl [H0]; · iexact H0
    isplitl [H1]; · iexact H1
    isplitl [H4]; · iexact H4
    unfold Pipeline.Dat.owesAt Pipeline.owesWithin idle
    icases HO with ⟨%W, %hW, HO⟩; iexists W; isplitr
    · ipureintro
      intro q hq
      rcases hW hq with h | h
      · exact h
      · obtain ⟨w, s, rfl⟩ := h
        exact Nat.zero_le _
    iexact HO

end Cert.Proof.Idealized

end
-- ==== Proof.Idealized.Rows.lean ====
/- One row of a chunk: 256 vectors of 16 lanes, scanned eight at a time. The row's running sum and the running
   minimum after `n` vectors, and the eight row loops of the subcore's kernel as that recursion. -/
module

public import proofs.«01_k».proof.Proof.Idealized.Setup
public import Idealize.ShloMosaic.Lib.ValueIdxCore
public import Idealize.ShloMosaic.Lib.Pipeline.Value

@[expose] public section

noncomputable section

namespace Cert.Proof.Idealized

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The 16 lanes of vector `n` of row `r` of a chunk. -/
def vec (b : FVec F S4x4096 .f32) (r : Fin 4) (n : ℕ) : FVec F S16 .f32 :=
  fun j => b (ix2 r ⟨(16 * n + (j 0).val) % 4096, Nat.mod_lt _ (by decide)⟩)

variable [FloatOps F]

/-- One vector's step: the running minimum takes in `y * (1 - 2 * x)`, the row's sum takes in `x`. -/
def stepV (x y : FVec F S16 .f32) (s : FVec F S16 .f32 × FVec F S16 .f32) : FVec F S16 .f32 × FVec F S16 .f32 :=
  (addf s.1 x,
    minimumf s.2 (mulf y (subf (broadcast S16 (Scalar.ofBits .f32 0x3F800000#32)) (mulf (broadcast S16 (Scalar.ofBits .f32 0x40000000#32)) x))))

/-- The step by vector `n` of row `r`. -/
def step (a m : FVec F S4x4096 .f32) (r : Fin 4) (n : ℕ) (s : FVec F S16 .f32 × FVec F S16 .f32) : FVec F S16 .f32 × FVec F S16 .f32 :=
  stepV (vec a r n) (vec m r n) s

/-- The sum and the minimum after `n` vectors of row `r`. -/
def scan (a m : FVec F S4x4096 .f32) (r : Fin 4) (s : FVec F S16 .f32 × FVec F S16 .f32) : ℕ → FVec F S16 .f32 × FVec F S16 .f32
  | 0 => s
  | n + 1 => step a m r n (scan a m r s n)

/-- Vector `n` of row `r`, loaded as a one-row block and flattened. -/
theorem cast_load (b : FVec F S4x4096 .f32) (r : Fin 4) (n : ℕ) (hn : n < 256) (off : Fin 2 → ℕ)
    (inb : ∀ a, off a + S1x16.size a ≤ S4x4096.size a) (h : off = ![r.val, 16 * n]) (hc : S1x16.ShapeCasts S16) :
    shapeCast S16 (fun x : S1x16.Idx => b ((Rect.unit (s := S4x4096) off S1x16.size inb).emb x)) hc = vec b r n := by
  subst h
  funext j
  rw [shapeCast_dropUnit_apply (d := ![16])]
  unfold vec
  congr 1
  funext a
  match a with
  | ⟨0, _⟩ => exact Fin.ext (by simp [Rect.emb, Rect.unit]; rfl)
  | ⟨1, _⟩ =>
    have hj : (j 0).val < 16 := (j 0).isLt
    refine Fin.ext (Eq.trans (b := 16 * n + (j 0).val) ?_ (Nat.mod_eq_of_lt (by omega)).symm)
    show 16 * n + 1 * (j 0).val = 16 * n + (j 0).val
    rw [one_mul]

/-- Eight steps in a row, their vectors given one by one, are the scan from `8 * k` to `8 * (k + 1)`. -/
theorem scan_eight (a m : FVec F S4x4096 .f32) (r : Fin 4) (s : FVec F S16 .f32 × FVec F S16 .f32) (k : ℕ)
    (x y : Fin 8 → FVec F S16 .f32) (hx : ∀ u, x u = vec a r (8 * k + u.val)) (hy : ∀ u, y u = vec m r (8 * k + u.val)) :
    stepV (x 7) (y 7) (stepV (x 6) (y 6) (stepV (x 5) (y 5) (stepV (x 4) (y 4) (stepV (x 3) (y 3) (stepV (x 2) (y 2)
      (stepV (x 1) (y 1) (stepV (x 0) (y 0) (scan a m r s (8 * k))))))))) = scan a m r s (8 * (k + 1)) := by
  simp only [hx, hy]
  rfl

section Loops

variable (d : Dev nD) (L : grid0.Coords)

/-- A buffer of the subcore held whole, as an access through its whole view reads it. -/
theorem held_eq (r : Ref sig .scVector) (f : Buf (Elt F) ((V d (cV L) (jV L)).loc r)) :
    ((V d (cV L) (jV L)).loc r ↦{fullShare} f : sProp 𝕄) = ((Memref.whole r).view.loc (V d (cV L) (jV L)) ↦{fullShare} f) := rfl

/-- One trip of the loop over row 0 of the first chunk: eight vectors. -/
theorem trip_t2 (v2 : BitVec 32) (c0_i32_4 : BitVec 32) (c1_i32 : BitVec 32) (k0_t1 : Fin k0_t1_loop.trips) (arg15 : FVec F S16 .f32) (a m : FVec F S4x4096 .f32)
    (s : FVec F S16 .f32 × FVec F S16 .f32) (k : Fin k0_t2_loop.trips) :
    (iprop(((V d (cV L) (jV L)).loc cc0_scratch0 ↦{fullShare} a) ∗ ((V d (cV L) (jV L)).loc cc0_scratch1 ↦{fullShare} m)) : sProp 𝕄)
      ⊢ wp frame (wpE (defs₀ (F := F)) 𝒱₀ (V d (cV L) (jV L)) none) Set.univ
          (k0_t2_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 c0_i32_4 c1_i32 k0_t1 arg15 k (scan a m 0 s (8 * k.val)))
          fun c => iprop(⌜c = scan a m 0 s (8 * (k.val + 1))⌝ ∗ ((V d (cV L) (jV L)).loc cc0_scratch0 ↦{fullShare} a) ∗ ((V d (cV L) (jV L)).loc cc0_scratch1 ↦{fullShare} m)) := by
  unfold k0_t2_body
  simp only [k0_part1_eq_skeleton, k0_part2_eq_skeleton, k0_part3_eq_skeleton]
  unfold k0_part1_skel k0_part2_skel k0_part3_skel
  iintro ⟨Ha, Hm⟩
  ihave Ha := (Entails.of_eq (held_eq (F := F) d L cc0_scratch0 a)) $$ Ha
  ihave Hm := (Entails.of_eq (held_eq (F := F) d L cc0_scratch1 m)) $$ Hm
  sl_exec
  sl_step
  isplitr
  · ipureintro
    have hk : k.val < 32 := k.isLt
    have hoff (u : Fin 8) : k0_off3 k (BitVec.ofNat 32 u.val) = ![(0 : Fin 4).val, 16 * (8 * k.val + u.val)] :=
      (k0_off3_eq k u).trans (congrArg (fun z => ![0, z]) (by omega))
    have hc (b : FVec F S4x4096 .f32) (u : Fin 8) := cast_load b 0 (8 * k.val + u.val) (by omega) _ (k0_off3_inb k u) (hoff u) shapeCasts_S1x16_S16
    exact scan_eight a m 0 s k.val _ _ (hc a) (hc m)
  isplitl [Ha]; · iexact Ha
  iexact Hm

/-- The whole loop over row 0 of the first chunk: 256 vectors. -/
theorem loop_t2 (v2 : BitVec 32) (c0_i32_4 : BitVec 32) (c1_i32 : BitVec 32) (k0_t1 : Fin k0_t1_loop.trips) (arg15 : FVec F S16 .f32) (a m : FVec F S4x4096 .f32)
    (s : FVec F S16 .f32 × FVec F S16 .f32) :
    (iprop(((Memref.whole cc0_scratch0).view.loc (V d (cV L) (jV L)) ↦{fullShare} a) ∗ ((Memref.whole cc0_scratch1).view.loc (V d (cV L) (jV L)) ↦{fullShare} m)) : sProp 𝕄)
      ⊢ wp frame (wpE (defs₀ (F := F)) 𝒱₀ (V d (cV L) (jV L)) none) Set.univ
          (Scf.Loop.for k0_t2_loop k0_t2_ok s (k0_t2_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 c0_i32_4 c1_i32 k0_t1 arg15))
          fun c => iprop(⌜c = scan a m 0 s 256⌝ ∗ ((Memref.whole cc0_scratch0).view.loc (V d (cV L) (jV L)) ↦{fullShare} a) ∗ ((Memref.whole cc0_scratch1).view.loc (V d (cV L) (jV L)) ↦{fullShare} m)) := by
  iintro ⟨Ha, Hm⟩
  sl_for (fun (n : ℕ) (c : FVec F S16 .f32 × FVec F S16 .f32) => (iprop(⌜c = scan a m 0 s (8 * n)⌝ ∗ ((V d (cV L) (jV L)).loc cc0_scratch0 ↦{fullShare} a) ∗ ((V d (cV L) (jV L)).loc cc0_scratch1 ↦{fullShare} m)) : sProp 𝕄)) $$ [Ha Hm]
  case region =>
    intro k c
    iintro ⟨%hc, Ha, Hm⟩
    subst hc
    iapply (trip_t2 (F := F) d L v2 c0_i32_4 c1_i32 k0_t1 arg15 a m s k)
    isplitl [Ha]; · iexact Ha
    iexact Hm
  isplitl [Ha Hm]
  · isplitr; · ipureintro; rfl
    isplitl [Ha]; · iexact Ha
    iexact Hm
  iintro %c ⟨%hc, Ha, Hm⟩
  isplitr; · ipureintro; exact hc
  isplitl [Ha]; · iexact Ha
  iexact Hm

/-- One trip of the loop over row 1 of the first chunk: eight vectors. -/
theorem trip_t3 (v2 : BitVec 32) (c0_i32_4 : BitVec 32) (c1_i32 : BitVec 32) (k0_t1 : Fin k0_t1_loop.trips) (arg15 : FVec F S16 .f32) (a m : FVec F S4x4096 .f32)
    (s : FVec F S16 .f32 × FVec F S16 .f32) (k : Fin k0_t3_loop.trips) :
    (iprop(((V d (cV L) (jV L)).loc cc0_scratch0 ↦{fullShare} a) ∗ ((V d (cV L) (jV L)).loc cc0_scratch1 ↦{fullShare} m)) : sProp 𝕄)
      ⊢ wp frame (wpE (defs₀ (F := F)) 𝒱₀ (V d (cV L) (jV L)) none) Set.univ
          (k0_t3_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 c0_i32_4 c1_i32 k0_t1 arg15 k (scan a m 1 s (8 * k.val)))
          fun c => iprop(⌜c = scan a m 1 s (8 * (k.val + 1))⌝ ∗ ((V d (cV L) (jV L)).loc cc0_scratch0 ↦{fullShare} a) ∗ ((V d (cV L) (jV L)).loc cc0_scratch1 ↦{fullShare} m)) := by
  unfold k0_t3_body
  simp only [k0_part4_eq_skeleton, k0_part5_eq_skeleton, k0_part6_eq_skeleton]
  unfold k0_part4_skel k0_part5_skel k0_part6_skel
  iintro ⟨Ha, Hm⟩
  ihave Ha := (Entails.of_eq (held_eq (F := F) d L cc0_scratch0 a)) $$ Ha
  ihave Hm := (Entails.of_eq (held_eq (F := F) d L cc0_scratch1 m)) $$ Hm
  sl_exec
  sl_step
  isplitr
  · ipureintro
    have hk : k.val < 32 := k.isLt
    have hoff (u : Fin 8) : k0_off4 k (BitVec.ofNat 32 u.val) = ![(1 : Fin 4).val, 16 * (8 * k.val + u.val)] :=
      (k0_off4_eq k u).trans (congrArg (fun z => ![1, z]) (by omega))
    have hc (b : FVec F S4x4096 .f32) (u : Fin 8) := cast_load b 1 (8 * k.val + u.val) (by omega) _ (k0_off4_inb k u) (hoff u) shapeCasts_S1x16_S16
    exact scan_eight a m 1 s k.val _ _ (hc a) (hc m)
  isplitl [Ha]; · iexact Ha
  iexact Hm

/-- The whole loop over row 1 of the first chunk: 256 vectors. -/
theorem loop_t3 (v2 : BitVec 32) (c0_i32_4 : BitVec 32) (c1_i32 : BitVec 32) (k0_t1 : Fin k0_t1_loop.trips) (arg15 : FVec F S16 .f32) (a m : FVec F S4x4096 .f32)
    (s : FVec F S16 .f32 × FVec F S16 .f32) :
    (iprop(((Memref.whole cc0_scratch0).view.loc (V d (cV L) (jV L)) ↦{fullShare} a) ∗ ((Memref.whole cc0_scratch1).view.loc (V d (cV L) (jV L)) ↦{fullShare} m)) : sProp 𝕄)
      ⊢ wp frame (wpE (defs₀ (F := F)) 𝒱₀ (V d (cV L) (jV L)) none) Set.univ
          (Scf.Loop.for k0_t3_loop k0_t3_ok s (k0_t3_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 c0_i32_4 c1_i32 k0_t1 arg15))
          fun c => iprop(⌜c = scan a m 1 s 256⌝ ∗ ((Memref.whole cc0_scratch0).view.loc (V d (cV L) (jV L)) ↦{fullShare} a) ∗ ((Memref.whole cc0_scratch1).view.loc (V d (cV L) (jV L)) ↦{fullShare} m)) := by
  iintro ⟨Ha, Hm⟩
  sl_for (fun (n : ℕ) (c : FVec F S16 .f32 × FVec F S16 .f32) => (iprop(⌜c = scan a m 1 s (8 * n)⌝ ∗ ((V d (cV L) (jV L)).loc cc0_scratch0 ↦{fullShare} a) ∗ ((V d (cV L) (jV L)).loc cc0_scratch1 ↦{fullShare} m)) : sProp 𝕄)) $$ [Ha Hm]
  case region =>
    intro k c
    iintro ⟨%hc, Ha, Hm⟩
    subst hc
    iapply (trip_t3 (F := F) d L v2 c0_i32_4 c1_i32 k0_t1 arg15 a m s k)
    isplitl [Ha]; · iexact Ha
    iexact Hm
  isplitl [Ha Hm]
  · isplitr; · ipureintro; rfl
    isplitl [Ha]; · iexact Ha
    iexact Hm
  iintro %c ⟨%hc, Ha, Hm⟩
  isplitr; · ipureintro; exact hc
  isplitl [Ha]; · iexact Ha
  iexact Hm

/-- One trip of the loop over row 2 of the first chunk: eight vectors. -/
theorem trip_t4 (v2 : BitVec 32) (k0_t1 : Fin k0_t1_loop.trips) (arg14 : BitVec 32) (v15 : BitVec 32) (v33_1 : FVec F S16 .f32) (v38 : FVec F S16 .f32) (c0_i32_33 : BitVec 32) (a m : FVec F S4x4096 .f32)
    (s : FVec F S16 .f32 × FVec F S16 .f32) (k : Fin k0_t4_loop.trips) :
    (iprop(((V d (cV L) (jV L)).loc cc0_scratch0 ↦{fullShare} a) ∗ ((V d (cV L) (jV L)).loc cc0_scratch1 ↦{fullShare} m)) : sProp 𝕄)
      ⊢ wp frame (wpE (defs₀ (F := F)) 𝒱₀ (V d (cV L) (jV L)) none) Set.univ
          (k0_t4_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 arg14 v15 v33_1 v38 c0_i32_33 k (scan a m 2 s (8 * k.val)))
          fun c => iprop(⌜c = scan a m 2 s (8 * (k.val + 1))⌝ ∗ ((V d (cV L) (jV L)).loc cc0_scratch0 ↦{fullShare} a) ∗ ((V d (cV L) (jV L)).loc cc0_scratch1 ↦{fullShare} m)) := by
  unfold k0_t4_body
  simp only [k0_part7_eq_skeleton, k0_part8_eq_skeleton, k0_part9_eq_skeleton]
  unfold k0_part7_skel k0_part8_skel k0_part9_skel
  iintro ⟨Ha, Hm⟩
  ihave Ha := (Entails.of_eq (held_eq (F := F) d L cc0_scratch0 a)) $$ Ha
  ihave Hm := (Entails.of_eq (held_eq (F := F) d L cc0_scratch1 m)) $$ Hm
  sl_exec
  sl_step
  isplitr
  · ipureintro
    have hk : k.val < 32 := k.isLt
    have hoff (u : Fin 8) : k0_off5 k (BitVec.ofNat 32 u.val) = ![(2 : Fin 4).val, 16 * (8 * k.val + u.val)] :=
      (k0_off5_eq k u).trans (congrArg (fun z => ![2, z]) (by omega))
    have hc (b : FVec F S4x4096 .f32) (u : Fin 8) := cast_load b 2 (8 * k.val + u.val) (by omega) _ (k0_off5_inb k u) (hoff u) shapeCasts_S1x16_S16
    exact scan_eight a m 2 s k.val _ _ (hc a) (hc m)
  isplitl [Ha]; · iexact Ha
  iexact Hm

/-- The whole loop over row 2 of the first chunk: 256 vectors. -/
theorem loop_t4 (v2 : BitVec 32) (k0_t1 : Fin k0_t1_loop.trips) (arg14 : BitVec 32) (v15 : BitVec 32) (v33_1 : FVec F S16 .f32) (v38 : FVec F S16 .f32) (c0_i32_33 : BitVec 32) (a m : FVec F S4x4096 .f32)
    (s : FVec F S16 .f32 × FVec F S16 .f32) :
    (iprop(((Memref.whole cc0_scratch0).view.loc (V d (cV L) (jV L)) ↦{fullShare} a) ∗ ((Memref.whole cc0_scratch1).view.loc (V d (cV L) (jV L)) ↦{fullShare} m)) : sProp 𝕄)
      ⊢ wp frame (wpE (defs₀ (F := F)) 𝒱₀ (V d (cV L) (jV L)) none) Set.univ
          (Scf.Loop.for k0_t4_loop k0_t4_ok s (k0_t4_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 arg14 v15 v33_1 v38 c0_i32_33))
          fun c => iprop(⌜c = scan a m 2 s 256⌝ ∗ ((Memref.whole cc0_scratch0).view.loc (V d (cV L) (jV L)) ↦{fullShare} a) ∗ ((Memref.whole cc0_scratch1).view.loc (V d (cV L) (jV L)) ↦{fullShare} m)) := by
  iintro ⟨Ha, Hm⟩
  sl_for (fun (n : ℕ) (c : FVec F S16 .f32 × FVec F S16 .f32) => (iprop(⌜c = scan a m 2 s (8 * n)⌝ ∗ ((V d (cV L) (jV L)).loc cc0_scratch0 ↦{fullShare} a) ∗ ((V d (cV L) (jV L)).loc cc0_scratch1 ↦{fullShare} m)) : sProp 𝕄)) $$ [Ha Hm]
  case region =>
    intro k c
    iintro ⟨%hc, Ha, Hm⟩
    subst hc
    iapply (trip_t4 (F := F) d L v2 k0_t1 arg14 v15 v33_1 v38 c0_i32_33 a m s k)
    isplitl [Ha]; · iexact Ha
    iexact Hm
  isplitl [Ha Hm]
  · isplitr; · ipureintro; rfl
    isplitl [Ha]; · iexact Ha
    iexact Hm
  iintro %c ⟨%hc, Ha, Hm⟩
  isplitr; · ipureintro; exact hc
  isplitl [Ha]; · iexact Ha
  iexact Hm

/-- One trip of the loop over row 3 of the first chunk: eight vectors. -/
theorem trip_t5 (v2 : BitVec 32) (k0_t1 : Fin k0_t1_loop.trips) (arg14 : BitVec 32) (v15 : BitVec 32) (v33_1 : FVec F S16 .f32) (v38 : FVec F S16 .f32) (c0_i32_33 : BitVec 32) (a m : FVec F S4x4096 .f32)
    (s : FVec F S16 .f32 × FVec F S16 .f32) (k : Fin k0_t5_loop.trips) :
    (iprop(((V d (cV L) (jV L)).loc cc0_scratch0 ↦{fullShare} a) ∗ ((V d (cV L) (jV L)).loc cc0_scratch1 ↦{fullShare} m)) : sProp 𝕄)
      ⊢ wp frame (wpE (defs₀ (F := F)) 𝒱₀ (V d (cV L) (jV L)) none) Set.univ
          (k0_t5_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 arg14 v15 v33_1 v38 c0_i32_33 k (scan a m 3 s (8 * k.val)))
          fun c => iprop(⌜c = scan a m 3 s (8 * (k.val + 1))⌝ ∗ ((V d (cV L) (jV L)).loc cc0_scratch0 ↦{fullShare} a) ∗ ((V d (cV L) (jV L)).loc cc0_scratch1 ↦{fullShare} m)) := by
  unfold k0_t5_body
  simp only [k0_part10_eq_skeleton, k0_part11_eq_skeleton, k0_part12_eq_skeleton]
  unfold k0_part10_skel k0_part11_skel k0_part12_skel
  iintro ⟨Ha, Hm⟩
  ihave Ha := (Entails.of_eq (held_eq (F := F) d L cc0_scratch0 a)) $$ Ha
  ihave Hm := (Entails.of_eq (held_eq (F := F) d L cc0_scratch1 m)) $$ Hm
  sl_exec
  sl_step
  isplitr
  · ipureintro
    have hk : k.val < 32 := k.isLt
    have hoff (u : Fin 8) : k0_off6 k (BitVec.ofNat 32 u.val) = ![(3 : Fin 4).val, 16 * (8 * k.val + u.val)] :=
      (k0_off6_eq k u).trans (congrArg (fun z => ![3, z]) (by omega))
    have hc (b : FVec F S4x4096 .f32) (u : Fin 8) := cast_load b 3 (8 * k.val + u.val) (by omega) _ (k0_off6_inb k u) (hoff u) shapeCasts_S1x16_S16
    exact scan_eight a m 3 s k.val _ _ (hc a) (hc m)
  isplitl [Ha]; · iexact Ha
  iexact Hm

/-- The whole loop over row 3 of the first chunk: 256 vectors. -/
theorem loop_t5 (v2 : BitVec 32) (k0_t1 : Fin k0_t1_loop.trips) (arg14 : BitVec 32) (v15 : BitVec 32) (v33_1 : FVec F S16 .f32) (v38 : FVec F S16 .f32) (c0_i32_33 : BitVec 32) (a m : FVec F S4x4096 .f32)
    (s : FVec F S16 .f32 × FVec F S16 .f32) :
    (iprop(((Memref.whole cc0_scratch0).view.loc (V d (cV L) (jV L)) ↦{fullShare} a) ∗ ((Memref.whole cc0_scratch1).view.loc (V d (cV L) (jV L)) ↦{fullShare} m)) : sProp 𝕄)
      ⊢ wp frame (wpE (defs₀ (F := F)) 𝒱₀ (V d (cV L) (jV L)) none) Set.univ
          (Scf.Loop.for k0_t5_loop k0_t5_ok s (k0_t5_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 arg14 v15 v33_1 v38 c0_i32_33))
          fun c => iprop(⌜c = scan a m 3 s 256⌝ ∗ ((Memref.whole cc0_scratch0).view.loc (V d (cV L) (jV L)) ↦{fullShare} a) ∗ ((Memref.whole cc0_scratch1).view.loc (V d (cV L) (jV L)) ↦{fullShare} m)) := by
  iintro ⟨Ha, Hm⟩
  sl_for (fun (n : ℕ) (c : FVec F S16 .f32 × FVec F S16 .f32) => (iprop(⌜c = scan a m 3 s (8 * n)⌝ ∗ ((V d (cV L) (jV L)).loc cc0_scratch0 ↦{fullShare} a) ∗ ((V d (cV L) (jV L)).loc cc0_scratch1 ↦{fullShare} m)) : sProp 𝕄)) $$ [Ha Hm]
  case region =>
    intro k c
    iintro ⟨%hc, Ha, Hm⟩
    subst hc
    iapply (trip_t5 (F := F) d L v2 k0_t1 arg14 v15 v33_1 v38 c0_i32_33 a m s k)
    isplitl [Ha]; · iexact Ha
    iexact Hm
  isplitl [Ha Hm]
  · isplitr; · ipureintro; rfl
    isplitl [Ha]; · iexact Ha
    iexact Hm
  iintro %c ⟨%hc, Ha, Hm⟩
  isplitr; · ipureintro; exact hc
  isplitl [Ha]; · iexact Ha
  iexact Hm

/-- One trip of the loop over row 0 of the second chunk: eight vectors. -/
theorem trip_t6 (v2 : BitVec 32) (k0_t1 : Fin k0_t1_loop.trips) (v47_1 : FVec F S16 .f32) (v55 : BitVec 32) (v60 : BitVec 32) (a m : FVec F S4x4096 .f32)
    (s : FVec F S16 .f32 × FVec F S16 .f32) (k : Fin k0_t6_loop.trips) :
    (iprop(((V d (cV L) (jV L)).loc cc0_scratch2 ↦{fullShare} a) ∗ ((V d (cV L) (jV L)).loc cc0_scratch3 ↦{fullShare} m)) : sProp 𝕄)
      ⊢ wp frame (wpE (defs₀ (F := F)) 𝒱₀ (V d (cV L) (jV L)) none) Set.univ
          (k0_t6_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 v47_1 v55 v60 k (scan a m 0 s (8 * k.val)))
          fun c => iprop(⌜c = scan a m 0 s (8 * (k.val + 1))⌝ ∗ ((V d (cV L) (jV L)).loc cc0_scratch2 ↦{fullShare} a) ∗ ((V d (cV L) (jV L)).loc cc0_scratch3 ↦{fullShare} m)) := by
  unfold k0_t6_body
  simp only [k0_part13_eq_skeleton, k0_part14_eq_skeleton, k0_part15_eq_skeleton]
  unfold k0_part13_skel k0_part14_skel k0_part15_skel
  iintro ⟨Ha, Hm⟩
  ihave Ha := (Entails.of_eq (held_eq (F := F) d L cc0_scratch2 a)) $$ Ha
  ihave Hm := (Entails.of_eq (held_eq (F := F) d L cc0_scratch3 m)) $$ Hm
  sl_exec
  sl_step
  isplitr
  · ipureintro
    have hk : k.val < 32 := k.isLt
    have hoff (u : Fin 8) : k0_off9 k (BitVec.ofNat 32 u.val) = ![(0 : Fin 4).val, 16 * (8 * k.val + u.val)] :=
      (k0_off9_eq k u).trans (congrArg (fun z => ![0, z]) (by omega))
    have hc (b : FVec F S4x4096 .f32) (u : Fin 8) := cast_load b 0 (8 * k.val + u.val) (by omega) _ (k0_off9_inb k u) (hoff u) shapeCasts_S1x16_S16
    exact scan_eight a m 0 s k.val _ _ (hc a) (hc m)
  isplitl [Ha]; · iexact Ha
  iexact Hm

/-- The whole loop over row 0 of the second chunk: 256 vectors. -/
theorem loop_t6 (v2 : BitVec 32) (k0_t1 : Fin k0_t1_loop.trips) (v47_1 : FVec F S16 .f32) (v55 : BitVec 32) (v60 : BitVec 32) (a m : FVec F S4x4096 .f32)
    (s : FVec F S16 .f32 × FVec F S16 .f32) :
    (iprop(((Memref.whole cc0_scratch2).view.loc (V d (cV L) (jV L)) ↦{fullShare} a) ∗ ((Memref.whole cc0_scratch3).view.loc (V d (cV L) (jV L)) ↦{fullShare} m)) : sProp 𝕄)
      ⊢ wp frame (wpE (defs₀ (F := F)) 𝒱₀ (V d (cV L) (jV L)) none) Set.univ
          (Scf.Loop.for k0_t6_loop k0_t6_ok s (k0_t6_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 v47_1 v55 v60))
          fun c => iprop(⌜c = scan a m 0 s 256⌝ ∗ ((Memref.whole cc0_scratch2).view.loc (V d (cV L) (jV L)) ↦{fullShare} a) ∗ ((Memref.whole cc0_scratch3).view.loc (V d (cV L) (jV L)) ↦{fullShare} m)) := by
  iintro ⟨Ha, Hm⟩
  sl_for (fun (n : ℕ) (c : FVec F S16 .f32 × FVec F S16 .f32) => (iprop(⌜c = scan a m 0 s (8 * n)⌝ ∗ ((V d (cV L) (jV L)).loc cc0_scratch2 ↦{fullShare} a) ∗ ((V d (cV L) (jV L)).loc cc0_scratch3 ↦{fullShare} m)) : sProp 𝕄)) $$ [Ha Hm]
  case region =>
    intro k c
    iintro ⟨%hc, Ha, Hm⟩
    subst hc
    iapply (trip_t6 (F := F) d L v2 k0_t1 v47_1 v55 v60 a m s k)
    isplitl [Ha]; · iexact Ha
    iexact Hm
  isplitl [Ha Hm]
  · isplitr; · ipureintro; rfl
    isplitl [Ha]; · iexact Ha
    iexact Hm
  iintro %c ⟨%hc, Ha, Hm⟩
  isplitr; · ipureintro; exact hc
  isplitl [Ha]; · iexact Ha
  iexact Hm

/-- One trip of the loop over row 1 of the second chunk: eight vectors. -/
theorem trip_t7 (v2 : BitVec 32) (k0_t1 : Fin k0_t1_loop.trips) (v47_1 : FVec F S16 .f32) (v55 : BitVec 32) (v60 : BitVec 32) (a m : FVec F S4x4096 .f32)
    (s : FVec F S16 .f32 × FVec F S16 .f32) (k : Fin k0_t7_loop.trips) :
    (iprop(((V d (cV L) (jV L)).loc cc0_scratch2 ↦{fullShare} a) ∗ ((V d (cV L) (jV L)).loc cc0_scratch3 ↦{fullShare} m)) : sProp 𝕄)
      ⊢ wp frame (wpE (defs₀ (F := F)) 𝒱₀ (V d (cV L) (jV L)) none) Set.univ
          (k0_t7_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 v47_1 v55 v60 k (scan a m 1 s (8 * k.val)))
          fun c => iprop(⌜c = scan a m 1 s (8 * (k.val + 1))⌝ ∗ ((V d (cV L) (jV L)).loc cc0_scratch2 ↦{fullShare} a) ∗ ((V d (cV L) (jV L)).loc cc0_scratch3 ↦{fullShare} m)) := by
  unfold k0_t7_body
  simp only [k0_part16_eq_skeleton, k0_part17_eq_skeleton, k0_part18_eq_skeleton]
  unfold k0_part16_skel k0_part17_skel k0_part18_skel
  iintro ⟨Ha, Hm⟩
  ihave Ha := (Entails.of_eq (held_eq (F := F) d L cc0_scratch2 a)) $$ Ha
  ihave Hm := (Entails.of_eq (held_eq (F := F) d L cc0_scratch3 m)) $$ Hm
  sl_exec
  sl_step
  isplitr
  · ipureintro
    have hk : k.val < 32 := k.isLt
    have hoff (u : Fin 8) : k0_off10 k (BitVec.ofNat 32 u.val) = ![(1 : Fin 4).val, 16 * (8 * k.val + u.val)] :=
      (k0_off10_eq k u).trans (congrArg (fun z => ![1, z]) (by omega))
    have hc (b : FVec F S4x4096 .f32) (u : Fin 8) := cast_load b 1 (8 * k.val + u.val) (by omega) _ (k0_off10_inb k u) (hoff u) shapeCasts_S1x16_S16
    exact scan_eight a m 1 s k.val _ _ (hc a) (hc m)
  isplitl [Ha]; · iexact Ha
  iexact Hm

/-- The whole loop over row 1 of the second chunk: 256 vectors. -/
theorem loop_t7 (v2 : BitVec 32) (k0_t1 : Fin k0_t1_loop.trips) (v47_1 : FVec F S16 .f32) (v55 : BitVec 32) (v60 : BitVec 32) (a m : FVec F S4x4096 .f32)
    (s : FVec F S16 .f32 × FVec F S16 .f32) :
    (iprop(((Memref.whole cc0_scratch2).view.loc (V d (cV L) (jV L)) ↦{fullShare} a) ∗ ((Memref.whole cc0_scratch3).view.loc (V d (cV L) (jV L)) ↦{fullShare} m)) : sProp 𝕄)
      ⊢ wp frame (wpE (defs₀ (F := F)) 𝒱₀ (V d (cV L) (jV L)) none) Set.univ
          (Scf.Loop.for k0_t7_loop k0_t7_ok s (k0_t7_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 v47_1 v55 v60))
          fun c => iprop(⌜c = scan a m 1 s 256⌝ ∗ ((Memref.whole cc0_scratch2).view.loc (V d (cV L) (jV L)) ↦{fullShare} a) ∗ ((Memref.whole cc0_scratch3).view.loc (V d (cV L) (jV L)) ↦{fullShare} m)) := by
  iintro ⟨Ha, Hm⟩
  sl_for (fun (n : ℕ) (c : FVec F S16 .f32 × FVec F S16 .f32) => (iprop(⌜c = scan a m 1 s (8 * n)⌝ ∗ ((V d (cV L) (jV L)).loc cc0_scratch2 ↦{fullShare} a) ∗ ((V d (cV L) (jV L)).loc cc0_scratch3 ↦{fullShare} m)) : sProp 𝕄)) $$ [Ha Hm]
  case region =>
    intro k c
    iintro ⟨%hc, Ha, Hm⟩
    subst hc
    iapply (trip_t7 (F := F) d L v2 k0_t1 v47_1 v55 v60 a m s k)
    isplitl [Ha]; · iexact Ha
    iexact Hm
  isplitl [Ha Hm]
  · isplitr; · ipureintro; rfl
    isplitl [Ha]; · iexact Ha
    iexact Hm
  iintro %c ⟨%hc, Ha, Hm⟩
  isplitr; · ipureintro; exact hc
  isplitl [Ha]; · iexact Ha
  iexact Hm

/-- One trip of the loop over row 2 of the second chunk: eight vectors. -/
theorem trip_t8 (v2 : BitVec 32) (k0_t1 : Fin k0_t1_loop.trips) (v47_1 : FVec F S16 .f32) (v55 : BitVec 32) (v60 : BitVec 32) (a m : FVec F S4x4096 .f32)
    (s : FVec F S16 .f32 × FVec F S16 .f32) (k : Fin k0_t8_loop.trips) :
    (iprop(((V d (cV L) (jV L)).loc cc0_scratch2 ↦{fullShare} a) ∗ ((V d (cV L) (jV L)).loc cc0_scratch3 ↦{fullShare} m)) : sProp 𝕄)
      ⊢ wp frame (wpE (defs₀ (F := F)) 𝒱₀ (V d (cV L) (jV L)) none) Set.univ
          (k0_t8_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 v47_1 v55 v60 k (scan a m 2 s (8 * k.val)))
          fun c => iprop(⌜c = scan a m 2 s (8 * (k.val + 1))⌝ ∗ ((V d (cV L) (jV L)).loc cc0_scratch2 ↦{fullShare} a) ∗ ((V d (cV L) (jV L)).loc cc0_scratch3 ↦{fullShare} m)) := by
  unfold k0_t8_body
  simp only [k0_part19_eq_skeleton, k0_part20_eq_skeleton, k0_part21_eq_skeleton]
  unfold k0_part19_skel k0_part20_skel k0_part21_skel
  iintro ⟨Ha, Hm⟩
  ihave Ha := (Entails.of_eq (held_eq (F := F) d L cc0_scratch2 a)) $$ Ha
  ihave Hm := (Entails.of_eq (held_eq (F := F) d L cc0_scratch3 m)) $$ Hm
  sl_exec
  sl_step
  isplitr
  · ipureintro
    have hk : k.val < 32 := k.isLt
    have hoff (u : Fin 8) : k0_off11 k (BitVec.ofNat 32 u.val) = ![(2 : Fin 4).val, 16 * (8 * k.val + u.val)] :=
      (k0_off11_eq k u).trans (congrArg (fun z => ![2, z]) (by omega))
    have hc (b : FVec F S4x4096 .f32) (u : Fin 8) := cast_load b 2 (8 * k.val + u.val) (by omega) _ (k0_off11_inb k u) (hoff u) shapeCasts_S1x16_S16
    exact scan_eight a m 2 s k.val _ _ (hc a) (hc m)
  isplitl [Ha]; · iexact Ha
  iexact Hm

/-- The whole loop over row 2 of the second chunk: 256 vectors. -/
theorem loop_t8 (v2 : BitVec 32) (k0_t1 : Fin k0_t1_loop.trips) (v47_1 : FVec F S16 .f32) (v55 : BitVec 32) (v60 : BitVec 32) (a m : FVec F S4x4096 .f32)
    (s : FVec F S16 .f32 × FVec F S16 .f32) :
    (iprop(((Memref.whole cc0_scratch2).view.loc (V d (cV L) (jV L)) ↦{fullShare} a) ∗ ((Memref.whole cc0_scratch3).view.loc (V d (cV L) (jV L)) ↦{fullShare} m)) : sProp 𝕄)
      ⊢ wp frame (wpE (defs₀ (F := F)) 𝒱₀ (V d (cV L) (jV L)) none) Set.univ
          (Scf.Loop.for k0_t8_loop k0_t8_ok s (k0_t8_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 v47_1 v55 v60))
          fun c => iprop(⌜c = scan a m 2 s 256⌝ ∗ ((Memref.whole cc0_scratch2).view.loc (V d (cV L) (jV L)) ↦{fullShare} a) ∗ ((Memref.whole cc0_scratch3).view.loc (V d (cV L) (jV L)) ↦{fullShare} m)) := by
  iintro ⟨Ha, Hm⟩
  sl_for (fun (n : ℕ) (c : FVec F S16 .f32 × FVec F S16 .f32) => (iprop(⌜c = scan a m 2 s (8 * n)⌝ ∗ ((V d (cV L) (jV L)).loc cc0_scratch2 ↦{fullShare} a) ∗ ((V d (cV L) (jV L)).loc cc0_scratch3 ↦{fullShare} m)) : sProp 𝕄)) $$ [Ha Hm]
  case region =>
    intro k c
    iintro ⟨%hc, Ha, Hm⟩
    subst hc
    iapply (trip_t8 (F := F) d L v2 k0_t1 v47_1 v55 v60 a m s k)
    isplitl [Ha]; · iexact Ha
    iexact Hm
  isplitl [Ha Hm]
  · isplitr; · ipureintro; rfl
    isplitl [Ha]; · iexact Ha
    iexact Hm
  iintro %c ⟨%hc, Ha, Hm⟩
  isplitr; · ipureintro; exact hc
  isplitl [Ha]; · iexact Ha
  iexact Hm

/-- One trip of the loop over row 3 of the second chunk: eight vectors. -/
theorem trip_t9 (v2 : BitVec 32) (k0_t1 : Fin k0_t1_loop.trips) (v47_1 : FVec F S16 .f32) (v55 : BitVec 32) (v60 : BitVec 32) (a m : FVec F S4x4096 .f32)
    (s : FVec F S16 .f32 × FVec F S16 .f32) (k : Fin k0_t9_loop.trips) :
    (iprop(((V d (cV L) (jV L)).loc cc0_scratch2 ↦{fullShare} a) ∗ ((V d (cV L) (jV L)).loc cc0_scratch3 ↦{fullShare} m)) : sProp 𝕄)
      ⊢ wp frame (wpE (defs₀ (F := F)) 𝒱₀ (V d (cV L) (jV L)) none) Set.univ
          (k0_t9_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 v47_1 v55 v60 k (scan a m 3 s (8 * k.val)))
          fun c => iprop(⌜c = scan a m 3 s (8 * (k.val + 1))⌝ ∗ ((V d (cV L) (jV L)).loc cc0_scratch2 ↦{fullShare} a) ∗ ((V d (cV L) (jV L)).loc cc0_scratch3 ↦{fullShare} m)) := by
  unfold k0_t9_body
  simp only [k0_part22_eq_skeleton, k0_part23_eq_skeleton, k0_part24_eq_skeleton]
  unfold k0_part22_skel k0_part23_skel k0_part24_skel
  iintro ⟨Ha, Hm⟩
  ihave Ha := (Entails.of_eq (held_eq (F := F) d L cc0_scratch2 a)) $$ Ha
  ihave Hm := (Entails.of_eq (held_eq (F := F) d L cc0_scratch3 m)) $$ Hm
  sl_exec
  sl_step
  isplitr
  · ipureintro
    have hk : k.val < 32 := k.isLt
    have hoff (u : Fin 8) : k0_off12 k (BitVec.ofNat 32 u.val) = ![(3 : Fin 4).val, 16 * (8 * k.val + u.val)] :=
      (k0_off12_eq k u).trans (congrArg (fun z => ![3, z]) (by omega))
    have hc (b : FVec F S4x4096 .f32) (u : Fin 8) := cast_load b 3 (8 * k.val + u.val) (by omega) _ (k0_off12_inb k u) (hoff u) shapeCasts_S1x16_S16
    exact scan_eight a m 3 s k.val _ _ (hc a) (hc m)
  isplitl [Ha]; · iexact Ha
  iexact Hm

/-- The whole loop over row 3 of the second chunk: 256 vectors. -/
theorem loop_t9 (v2 : BitVec 32) (k0_t1 : Fin k0_t1_loop.trips) (v47_1 : FVec F S16 .f32) (v55 : BitVec 32) (v60 : BitVec 32) (a m : FVec F S4x4096 .f32)
    (s : FVec F S16 .f32 × FVec F S16 .f32) :
    (iprop(((Memref.whole cc0_scratch2).view.loc (V d (cV L) (jV L)) ↦{fullShare} a) ∗ ((Memref.whole cc0_scratch3).view.loc (V d (cV L) (jV L)) ↦{fullShare} m)) : sProp 𝕄)
      ⊢ wp frame (wpE (defs₀ (F := F)) 𝒱₀ (V d (cV L) (jV L)) none) Set.univ
          (Scf.Loop.for k0_t9_loop k0_t9_ok s (k0_t9_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 k0_t1 v47_1 v55 v60))
          fun c => iprop(⌜c = scan a m 3 s 256⌝ ∗ ((Memref.whole cc0_scratch2).view.loc (V d (cV L) (jV L)) ↦{fullShare} a) ∗ ((Memref.whole cc0_scratch3).view.loc (V d (cV L) (jV L)) ↦{fullShare} m)) := by
  iintro ⟨Ha, Hm⟩
  sl_for (fun (n : ℕ) (c : FVec F S16 .f32 × FVec F S16 .f32) => (iprop(⌜c = scan a m 3 s (8 * n)⌝ ∗ ((V d (cV L) (jV L)).loc cc0_scratch2 ↦{fullShare} a) ∗ ((V d (cV L) (jV L)).loc cc0_scratch3 ↦{fullShare} m)) : sProp 𝕄)) $$ [Ha Hm]
  case region =>
    intro k c
    iintro ⟨%hc, Ha, Hm⟩
    subst hc
    iapply (trip_t9 (F := F) d L v2 k0_t1 v47_1 v55 v60 a m s k)
    isplitl [Ha]; · iexact Ha
    iexact Hm
  isplitl [Ha Hm]
  · isplitr; · ipureintro; rfl
    isplitl [Ha]; · iexact Ha
    iexact Hm
  iintro %c ⟨%hc, Ha, Hm⟩
  isplitr; · ipureintro; exact hc
  isplitl [Ha]; · iexact Ha
  iexact Hm

end Loops

end Cert.Proof.Idealized

end
-- ==== Proof.Idealized.Chunks.lean ====
/- The chunks of four rows a subcore fetches: their windows of the adjacency and of the masked gradients, the pair of
   copies that fetches a chunk on one semaphore, and the two waits that take it. -/
module

public import proofs.«01_k».proof.Proof.Idealized.Rows

@[expose] public section

noncomputable section

namespace Cert.Proof.Idealized

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The first row of chunk `c` of subcore `L`. -/
abbrev rowOf (L : grid0.Coords) (c : ℕ) : ℕ := 256 * (L 1).val + 128 * (L 0).val + 4 * c

theorem rowOf_le (L : grid0.Coords) {c : ℕ} (hc : c < 32) : rowOf L c + 4 ≤ 4096 := by
  have h0 : (L 0).val < 2 := (L 0).isLt
  have h1 : (L 1).val < 16 := (L 1).isLt
  unfold rowOf; omega

theorem win_inb {R : ℕ} (h : R + 4 ≤ 4096) : ∀ a, (![R, 0] : Fin 2 → ℕ) a + S4x4096.size a ≤ S4096x4096.size a
  | ⟨0, _⟩ => h
  | ⟨1, _⟩ => by show 0 + 4096 ≤ 4096; omega

/-- Rows `R` to `R + 3` of the adjacency. -/
abbrev aWin (R : ℕ) (h : R + 4 ≤ 4096) : Memref sig .scVector .hbm S4x4096 .f32 :=
  adjV.slice (Rect.unit (s := S4096x4096) ![R, 0] S4x4096.size (win_inb h)) (fun _ => rfl)
/-- Rows `R` to `R + 3` of the masked gradients. -/
abbrev mWin (R : ℕ) (h : R + 4 ≤ 4096) : Memref sig .scVector .hbm S4x4096 .f32 :=
  mgV.slice (Rect.unit (s := S4096x4096) ![R, 0] S4x4096.size (win_inb h)) (fun _ => rfl)

/-- Four rows of a square array. -/
def rows4 (A : FVec F S4096x4096 .f32) (R : ℕ) (h : R + 4 ≤ 4096) : FVec F S4x4096 .f32 :=
  fun i => A ((Rect.unit (s := S4096x4096) ![R, 0] S4x4096.size (win_inb h)).emb i)

variable [FloatOps F]
variable (d : Dev nD) (L : grid0.Coords) (A M : FVec F S4096x4096 .f32)

/-- Chunk `c`'s rows of both arrays, owned. -/
def src (c : Fin 32) : sProp 𝕄 :=
  iprop(((aWin (rowOf L c.val) (rowOf_le L c.isLt)).view.loc (V d (cV L) (jV L)) ↦[(aWin (rowOf L c.val) (rowOf_le L c.isLt)).view.set]{fullShare} A)
    ∗ ((mWin (rowOf L c.val) (rowOf_le L c.isLt)).view.loc (V d (cV L) (jV L)) ↦[(mWin (rowOf L c.val) (rowOf_le L c.isLt)).view.set]{fullShare} M))

/-! ### The chunk on buffer pair 0 -/

/-- What the two copies of chunk `c` into buffer pair 0 deliver. -/
def dels0 (c : Fin 32) : Fin 2 → sProp 𝕄
  | 0 => iprop((a0V.view.loc (V d (cV L) (jV L)) ↦{fullShare} (rows4 A (rowOf L c.val) (rowOf_le L c.isLt)))
      ∗ ((aWin (rowOf L c.val) (rowOf_le L c.isLt)).view.loc (V d (cV L) (jV L)) ↦[(aWin (rowOf L c.val) (rowOf_le L c.isLt)).view.set]{fullShare} A))
  | 1 => iprop((m0V.view.loc (V d (cV L) (jV L)) ↦{fullShare} (rows4 M (rowOf L c.val) (rowOf_le L c.isLt)))
      ∗ ((mWin (rowOf L c.val) (rowOf_le L c.isLt)).view.loc (V d (cV L) (jV L)) ↦[(mWin (rowOf L c.val) (rowOf_le L c.isLt)).view.set]{fullShare} M))

instance (c : Fin 32) (t : Fin 2) : Storable (upEmb : UEmb _ 𝕄) (dels0 d L A M c t) := by
  match t with
  | 0 => unfold dels0; infer_instance
  | 1 => unfold dels0; infer_instance

/-- Chunk `c` under way into buffer pair 0. -/
def coming0 (c : Fin 32) : sProp 𝕄 :=
  Transfers.Batch (countersEmb (U := UU)) (V d (cV L) (jV L)) (.dma cc0_scratch6.sem) (default : HIx 1) (a0V.view.amount (SemLoc.dma (sig := sig) cc0_scratch6.sem)) (dels0 d L A M c) 2 0

/-- A landed copy of chunk `c`'s rows is its delivery. -/
theorem land0_a (c : Fin 32) (f : Buf (Elt F) (a0V.view.loc (V d (cV L) (jV L)))) :
    iprop((a0V.view.loc (V d (cV L) (jV L)) ↦[Finset.univ]{fullShare} (a0V.view.write (Elt F) f (ReadAs.same.apply ((aWin (rowOf L c.val) (rowOf_le L c.isLt)).view.read (Elt F) A)) Finset.univ))
      ∗ ((aWin (rowOf L c.val) (rowOf_le L c.isLt)).view.loc (V d (cV L) (jV L)) ↦[(aWin (rowOf L c.val) (rowOf_le L c.isLt)).view.set]{fullShare} A)) ⊢ dels0 d L A M c 0 := by
  have e : a0V.view.write (Elt F) f (ReadAs.same.apply ((aWin (rowOf L c.val) (rowOf_le L c.isLt)).view.read (Elt F) A)) Finset.univ
      = rows4 A (rowOf L c.val) (rowOf_le L c.isLt) :=
    (View.write_whole_univ (Val := Elt F) cc0_scratch0 f (ReadAs.same.apply ((aWin (rowOf L c.val) (rowOf_le L c.isLt)).view.read (Elt F) A))).trans (funext fun _ => rfl)
  rw [e]
  unfold dels0
  exact .rfl

/-- A landed copy of chunk `c`'s rows is its delivery. -/
theorem land0_m (c : Fin 32) (f : Buf (Elt F) (m0V.view.loc (V d (cV L) (jV L)))) :
    iprop((m0V.view.loc (V d (cV L) (jV L)) ↦[Finset.univ]{fullShare} (m0V.view.write (Elt F) f (ReadAs.same.apply ((mWin (rowOf L c.val) (rowOf_le L c.isLt)).view.read (Elt F) M)) Finset.univ))
      ∗ ((mWin (rowOf L c.val) (rowOf_le L c.isLt)).view.loc (V d (cV L) (jV L)) ↦[(mWin (rowOf L c.val) (rowOf_le L c.isLt)).view.set]{fullShare} M)) ⊢ dels0 d L A M c 1 := by
  have e : m0V.view.write (Elt F) f (ReadAs.same.apply ((mWin (rowOf L c.val) (rowOf_le L c.isLt)).view.read (Elt F) M)) Finset.univ
      = rows4 M (rowOf L c.val) (rowOf_le L c.isLt) :=
    (View.write_whole_univ (Val := Elt F) cc0_scratch1 f (ReadAs.same.apply ((mWin (rowOf L c.val) (rowOf_le L c.isLt)).view.read (Elt F) M))).trans (funext fun _ => rfl)
  rw [e]
  unfold dels0
  exact .rfl

/-- The two copies of chunk `c` start. -/
theorem start0 (c : Fin 32) (off : Fin 2 → ℕ) (inb : ∀ a, off a + S4x4096.size a ≤ S4096x4096.size a) (hoff : off = ![rowOf L c.val, 0])
    (fa : Buf (Elt F) (a0V.view.loc (V d (cV L) (jV L)))) (fm : Buf (Elt F) (m0V.view.loc (V d (cV L) (jV L))))
    {h1 h2 h3 h4 h5 h6} {α : Type} (k : PUnit → Prog (TpuEff nD τ sig (Elt F) Λ₀ (.scVector (cV L) (jV L))) α) (Q : α → sProp 𝕄) :
    iprop(src d L A M c ∗ (a0V.view.loc (V d (cV L) (jV L)) ↦{fullShare} fa) ∗ (m0V.view.loc (V d (cV L) (jV L)) ↦{fullShare} fm)
        ∗ semVal ((V d (cV L) (jV L)), SemLoc.dma cc0_scratch6.sem) 0)
      ⊢ iprop((coming0 d L A M c -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.enqueueDma (adjV.slice (Rect.unit (s := S4096x4096) off S4x4096.size inb) (fun _ => rfl)) (.here a0V) (.dma cc0_scratch6.sem) h1 h2 h3)
            fun _ => .op (.enqueueDma (mgV.slice (Rect.unit (s := S4096x4096) off S4x4096.size inb) (fun _ => rfl)) (.here m0V) (.dma cc0_scratch6.sem) h4 h5 h6) k) Q) := by
  subst hoff
  unfold src coming0
  iintro ⟨⟨Hsa, Hsm⟩, Ha, Hm, Hcell⟩ Hk
  imod (Transfers.batch_alloc' (Lvl := ℕ) (countersEmb (U := UU)) (V d (cV L) (jV L)) (default : HIx 1)
    (a0V.view.amount (SemLoc.dma (sig := sig) cc0_scratch6.sem)) (dels0 d L A M c) (sm := .dma cc0_scratch6.sem) (E := Set.univ)) $$ Hcell with HB
  iapply (Transfers.wp_dmaBatch (countersEmb (U := UU)) 𝒱₀ (V d (cV L) (jV L)) none (src := aWin (rowOf L c.val) (rowOf_le L c.isLt)) (dst := a0V)
    (D := dels0 d L A M c) (j := 0) (u := 0) (default : HIx 1) _ rfl (Finset.subset_univ _) (by decide) (Nat.zero_le _) ?ha) $$ [Hsa Ha HB]
  case ha => exact land0_a d L A M c fa
  · isplitl [Hsa]; · iexact Hsa
    isplitl [Ha]; · iexact Ha
    iexact HB
  iintro HB
  iapply (Transfers.wp_dmaBatch (countersEmb (U := UU)) 𝒱₀ (V d (cV L) (jV L)) none (src := mWin (rowOf L c.val) (rowOf_le L c.isLt)) (dst := m0V)
    (D := dels0 d L A M c) (j := 1) (u := 0) (default : HIx 1) _ rfl (Finset.subset_univ _) (by decide) (Nat.zero_le _) ?hm) $$ [Hsm Hm HB]
  case hm => exact land0_m d L A M c fm
  · isplitl [Hsm]; · iexact Hsm
    isplitl [Hm]; · iexact Hm
    iexact HB
  iintro HB
  iapply Hk $$ HB

/-- The two waits take chunk `c`. -/
theorem take0 (c : Fin 32) (O : CellTallies nD τ sig (HIx 1)) (W : Waits sig (HIx 1)) (w1 w2 : Memref sig .scVector .hbm S4x4096 .f32)
    {h1 h2 h3 h4} {α : Type} (k : PUnit → Prog (TpuEff nD τ sig (Elt F) Λ₀ (.scVector (cV L) (jV L))) α) (Q : α → sProp 𝕄) :
    iprop(Transfers.MayWaits (V d (cV L) (jV L)) (default : HIx 1) O ∗ coming0 d L A M c ∗ owes (V d (cV L) (jV L)) O W)
      ⊢ iprop((iprop((a0V.view.loc (V d (cV L) (jV L)) ↦{fullShare} (rows4 A (rowOf L c.val) (rowOf_le L c.isLt)))
            ∗ (m0V.view.loc (V d (cV L) (jV L)) ↦{fullShare} (rows4 M (rowOf L c.val) (rowOf_le L c.isLt)))
            ∗ src d L A M c ∗ semVal ((V d (cV L) (jV L)), SemLoc.dma cc0_scratch6.sem) 0
            ∗ owes (V d (cV L) (jV L)) O (insert (SemLoc.dma cc0_scratch6.sem, (default : HIx 1)) W))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.waitDma2 cc0_scratch6.sem w1 a0V h1 h2) fun _ => .op (.waitDma2 cc0_scratch6.sem w2 m0V h3 h4) k) Q) := by
  have hN : 0 < a0V.view.amount (SemLoc.dma (sig := sig) cc0_scratch6.sem) := View.amount_pos _ _ (show 0 < S4x4096.numel by decide)
  unfold coming0 src
  iintro ⟨#Hmw, HB, HO⟩ Hk
  iapply (Transfers.wp_waitBatchO (countersEmb (U := UU)) 𝒱₀ (V d (cV L) (jV L)) none (dstw := a0V) (D := dels0 d L A M c) (u := 0)
    (default : HIx 1) (N := a0V.view.amount (SemLoc.dma (sig := sig) cc0_scratch6.sem)) rfl (by omega) (O := O) (W := W)) $$ [HB HO]
  · isplitl [HB]; · iexact HB
    isplitl [HO]; · iexact HO
    iapply (Transfers.MayWaits.elim (.dma cc0_scratch6.sem)); iexact Hmw
  iintro ⟨HB, HO⟩
  iapply (Transfers.wp_waitBatchLastO (countersEmb (U := UU)) 𝒱₀ (V d (cV L) (jV L)) none (dstw := m0V) (D := dels0 d L A M c)
    (u := 0 + a0V.view.amount (SemLoc.dma (sig := sig) cc0_scratch6.sem))
    (default : HIx 1) (N := a0V.view.amount (SemLoc.dma (sig := sig) cc0_scratch6.sem)) rfl hN (by omega) (O := O)) $$ [HB HO]
  · isplitl [HB]; · iexact HB
    isplitl [HO]; · iexact HO
    iapply (Transfers.MayWaits.elim (.dma cc0_scratch6.sem)); iexact Hmw
  iintro ⟨HD, Hcell, HO⟩
  ihave HD := (Entails.of_eq (show bigSep Finset.univ (dels0 d L A M c) = iprop(dels0 d L A M c 0 ∗ dels0 d L A M c 1) from bigSep_fin_two _)) $$ HD
  unfold dels0
  icases HD with ⟨⟨Ha, Hsa⟩, Hm, Hsm⟩
  rw [Finset.insert_idem]
  iapply Hk
  isplitl [Ha]; · iexact Ha
  isplitl [Hm]; · iexact Hm
  isplitl [Hsa Hsm]
  · isplitl [Hsa]; · iexact Hsa
    iexact Hsm
  isplitl [Hcell]; · iexact Hcell
  iexact HO

/-! ### The chunk on buffer pair 1 -/

/-- What the two copies of chunk `c` into buffer pair 1 deliver. -/
def dels1 (c : Fin 32) : Fin 2 → sProp 𝕄
  | 0 => iprop((a1V.view.loc (V d (cV L) (jV L)) ↦{fullShare} (rows4 A (rowOf L c.val) (rowOf_le L c.isLt)))
      ∗ ((aWin (rowOf L c.val) (rowOf_le L c.isLt)).view.loc (V d (cV L) (jV L)) ↦[(aWin (rowOf L c.val) (rowOf_le L c.isLt)).view.set]{fullShare} A))
  | 1 => iprop((m1V.view.loc (V d (cV L) (jV L)) ↦{fullShare} (rows4 M (rowOf L c.val) (rowOf_le L c.isLt)))
      ∗ ((mWin (rowOf L c.val) (rowOf_le L c.isLt)).view.loc (V d (cV L) (jV L)) ↦[(mWin (rowOf L c.val) (rowOf_le L c.isLt)).view.set]{fullShare} M))

instance (c : Fin 32) (t : Fin 2) : Storable (upEmb : UEmb _ 𝕄) (dels1 d L A M c t) := by
  match t with
  | 0 => unfold dels1; infer_instance
  | 1 => unfold dels1; infer_instance

/-- Chunk `c` under way into buffer pair 1. -/
def coming1 (c : Fin 32) : sProp 𝕄 :=
  Transfers.Batch (countersEmb (U := UU)) (V d (cV L) (jV L)) (.dma cc0_scratch7.sem) (default : HIx 1) (a1V.view.amount (SemLoc.dma (sig := sig) cc0_scratch7.sem)) (dels1 d L A M c) 2 0

/-- A landed copy of chunk `c`'s rows is its delivery. -/
theorem land1_a (c : Fin 32) (f : Buf (Elt F) (a1V.view.loc (V d (cV L) (jV L)))) :
    iprop((a1V.view.loc (V d (cV L) (jV L)) ↦[Finset.univ]{fullShare} (a1V.view.write (Elt F) f (ReadAs.same.apply ((aWin (rowOf L c.val) (rowOf_le L c.isLt)).view.read (Elt F) A)) Finset.univ))
      ∗ ((aWin (rowOf L c.val) (rowOf_le L c.isLt)).view.loc (V d (cV L) (jV L)) ↦[(aWin (rowOf L c.val) (rowOf_le L c.isLt)).view.set]{fullShare} A)) ⊢ dels1 d L A M c 0 := by
  have e : a1V.view.write (Elt F) f (ReadAs.same.apply ((aWin (rowOf L c.val) (rowOf_le L c.isLt)).view.read (Elt F) A)) Finset.univ
      = rows4 A (rowOf L c.val) (rowOf_le L c.isLt) :=
    (View.write_whole_univ (Val := Elt F) cc0_scratch2 f (ReadAs.same.apply ((aWin (rowOf L c.val) (rowOf_le L c.isLt)).view.read (Elt F) A))).trans (funext fun _ => rfl)
  rw [e]
  unfold dels1
  exact .rfl

/-- A landed copy of chunk `c`'s rows is its delivery. -/
theorem land1_m (c : Fin 32) (f : Buf (Elt F) (m1V.view.loc (V d (cV L) (jV L)))) :
    iprop((m1V.view.loc (V d (cV L) (jV L)) ↦[Finset.univ]{fullShare} (m1V.view.write (Elt F) f (ReadAs.same.apply ((mWin (rowOf L c.val) (rowOf_le L c.isLt)).view.read (Elt F) M)) Finset.univ))
      ∗ ((mWin (rowOf L c.val) (rowOf_le L c.isLt)).view.loc (V d (cV L) (jV L)) ↦[(mWin (rowOf L c.val) (rowOf_le L c.isLt)).view.set]{fullShare} M)) ⊢ dels1 d L A M c 1 := by
  have e : m1V.view.write (Elt F) f (ReadAs.same.apply ((mWin (rowOf L c.val) (rowOf_le L c.isLt)).view.read (Elt F) M)) Finset.univ
      = rows4 M (rowOf L c.val) (rowOf_le L c.isLt) :=
    (View.write_whole_univ (Val := Elt F) cc0_scratch3 f (ReadAs.same.apply ((mWin (rowOf L c.val) (rowOf_le L c.isLt)).view.read (Elt F) M))).trans (funext fun _ => rfl)
  rw [e]
  unfold dels1
  exact .rfl

/-- The two copies of chunk `c` start. -/
theorem start1 (c : Fin 32) (off : Fin 2 → ℕ) (inb : ∀ a, off a + S4x4096.size a ≤ S4096x4096.size a) (hoff : off = ![rowOf L c.val, 0])
    (fa : Buf (Elt F) (a1V.view.loc (V d (cV L) (jV L)))) (fm : Buf (Elt F) (m1V.view.loc (V d (cV L) (jV L))))
    {h1 h2 h3 h4 h5 h6} {α : Type} (k : PUnit → Prog (TpuEff nD τ sig (Elt F) Λ₀ (.scVector (cV L) (jV L))) α) (Q : α → sProp 𝕄) :
    iprop(src d L A M c ∗ (a1V.view.loc (V d (cV L) (jV L)) ↦{fullShare} fa) ∗ (m1V.view.loc (V d (cV L) (jV L)) ↦{fullShare} fm)
        ∗ semVal ((V d (cV L) (jV L)), SemLoc.dma cc0_scratch7.sem) 0)
      ⊢ iprop((coming1 d L A M c -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.enqueueDma (adjV.slice (Rect.unit (s := S4096x4096) off S4x4096.size inb) (fun _ => rfl)) (.here a1V) (.dma cc0_scratch7.sem) h1 h2 h3)
            fun _ => .op (.enqueueDma (mgV.slice (Rect.unit (s := S4096x4096) off S4x4096.size inb) (fun _ => rfl)) (.here m1V) (.dma cc0_scratch7.sem) h4 h5 h6) k) Q) := by
  subst hoff
  unfold src coming1
  iintro ⟨⟨Hsa, Hsm⟩, Ha, Hm, Hcell⟩ Hk
  imod (Transfers.batch_alloc' (Lvl := ℕ) (countersEmb (U := UU)) (V d (cV L) (jV L)) (default : HIx 1)
    (a1V.view.amount (SemLoc.dma (sig := sig) cc0_scratch7.sem)) (dels1 d L A M c) (sm := .dma cc0_scratch7.sem) (E := Set.univ)) $$ Hcell with HB
  iapply (Transfers.wp_dmaBatch (countersEmb (U := UU)) 𝒱₀ (V d (cV L) (jV L)) none (src := aWin (rowOf L c.val) (rowOf_le L c.isLt)) (dst := a1V)
    (D := dels1 d L A M c) (j := 0) (u := 0) (default : HIx 1) _ rfl (Finset.subset_univ _) (by decide) (Nat.zero_le _) ?ha) $$ [Hsa Ha HB]
  case ha => exact land1_a d L A M c fa
  · isplitl [Hsa]; · iexact Hsa
    isplitl [Ha]; · iexact Ha
    iexact HB
  iintro HB
  iapply (Transfers.wp_dmaBatch (countersEmb (U := UU)) 𝒱₀ (V d (cV L) (jV L)) none (src := mWin (rowOf L c.val) (rowOf_le L c.isLt)) (dst := m1V)
    (D := dels1 d L A M c) (j := 1) (u := 0) (default : HIx 1) _ rfl (Finset.subset_univ _) (by decide) (Nat.zero_le _) ?hm) $$ [Hsm Hm HB]
  case hm => exact land1_m d L A M c fm
  · isplitl [Hsm]; · iexact Hsm
    isplitl [Hm]; · iexact Hm
    iexact HB
  iintro HB
  iapply Hk $$ HB

/-- The two waits take chunk `c`. -/
theorem take1 (c : Fin 32) (O : CellTallies nD τ sig (HIx 1)) (W : Waits sig (HIx 1)) (w1 w2 : Memref sig .scVector .hbm S4x4096 .f32)
    {h1 h2 h3 h4} {α : Type} (k : PUnit → Prog (TpuEff nD τ sig (Elt F) Λ₀ (.scVector (cV L) (jV L))) α) (Q : α → sProp 𝕄) :
    iprop(Transfers.MayWaits (V d (cV L) (jV L)) (default : HIx 1) O ∗ coming1 d L A M c ∗ owes (V d (cV L) (jV L)) O W)
      ⊢ iprop((iprop((a1V.view.loc (V d (cV L) (jV L)) ↦{fullShare} (rows4 A (rowOf L c.val) (rowOf_le L c.isLt)))
            ∗ (m1V.view.loc (V d (cV L) (jV L)) ↦{fullShare} (rows4 M (rowOf L c.val) (rowOf_le L c.isLt)))
            ∗ src d L A M c ∗ semVal ((V d (cV L) (jV L)), SemLoc.dma cc0_scratch7.sem) 0
            ∗ owes (V d (cV L) (jV L)) O (insert (SemLoc.dma cc0_scratch7.sem, (default : HIx 1)) W))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.waitDma2 cc0_scratch7.sem w1 a1V h1 h2) fun _ => .op (.waitDma2 cc0_scratch7.sem w2 m1V h3 h4) k) Q) := by
  have hN : 0 < a1V.view.amount (SemLoc.dma (sig := sig) cc0_scratch7.sem) := View.amount_pos _ _ (show 0 < S4x4096.numel by decide)
  unfold coming1 src
  iintro ⟨#Hmw, HB, HO⟩ Hk
  iapply (Transfers.wp_waitBatchO (countersEmb (U := UU)) 𝒱₀ (V d (cV L) (jV L)) none (dstw := a1V) (D := dels1 d L A M c) (u := 0)
    (default : HIx 1) (N := a1V.view.amount (SemLoc.dma (sig := sig) cc0_scratch7.sem)) rfl (by omega) (O := O) (W := W)) $$ [HB HO]
  · isplitl [HB]; · iexact HB
    isplitl [HO]; · iexact HO
    iapply (Transfers.MayWaits.elim (.dma cc0_scratch7.sem)); iexact Hmw
  iintro ⟨HB, HO⟩
  iapply (Transfers.wp_waitBatchLastO (countersEmb (U := UU)) 𝒱₀ (V d (cV L) (jV L)) none (dstw := m1V) (D := dels1 d L A M c)
    (u := 0 + a1V.view.amount (SemLoc.dma (sig := sig) cc0_scratch7.sem))
    (default : HIx 1) (N := a1V.view.amount (SemLoc.dma (sig := sig) cc0_scratch7.sem)) rfl hN (by omega) (O := O)) $$ [HB HO]
  · isplitl [HB]; · iexact HB
    isplitl [HO]; · iexact HO
    iapply (Transfers.MayWaits.elim (.dma cc0_scratch7.sem)); iexact Hmw
  iintro ⟨HD, Hcell, HO⟩
  ihave HD := (Entails.of_eq (show bigSep Finset.univ (dels1 d L A M c) = iprop(dels1 d L A M c 0 ∗ dels1 d L A M c 1) from bigSep_fin_two _)) $$ HD
  unfold dels1
  icases HD with ⟨⟨Ha, Hsa⟩, Hm, Hsm⟩
  rw [Finset.insert_idem]
  iapply Hk
  isplitl [Ha]; · iexact Ha
  isplitl [Hm]; · iexact Hm
  isplitl [Hsa Hsm]
  · isplitl [Hsa]; · iexact Hsa
    iexact Hsm
  isplitl [Hcell]; · iexact Hcell
  iexact HO

end Cert.Proof.Idealized

end
-- ==== Proof.Idealized.Trip.lean ====
/- One trip of the subcore's loop over its chunks: the even chunk's four rows scanned while the odd chunk is fetched, then
   the odd chunk's while the next even one is. -/
module

public import proofs.«01_k».proof.Proof.Idealized.Chunks
public import Idealize.ShloMosaic.Lib.Writes

@[expose] public section

noncomputable section

namespace Cert.Proof.Idealized

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A program's specification, used at the head of a longer one. -/
theorem wp_seq {t : Thread nD τ} {α β : Type} {H : sProp 𝕄} {p : Prog (TpuEff nD τ sig (Elt F) Λ₀ t.2) α} {Φ : α → sProp 𝕄}
    (h : H ⊢ wp frame (wpE (defs₀ (F := F)) 𝒱₀ t none) Set.univ p Φ) (k : α → Prog (TpuEff nD τ sig (Elt F) Λ₀ t.2) β) (Q : β → sProp 𝕄) :
    H ⊢ iprop((∀ a, Φ a -∗ wp frame (wpE (defs₀ (F := F)) 𝒱₀ t none) Set.univ (k a) Q) -∗ wp frame (wpE (defs₀ (F := F)) 𝒱₀ t none) Set.univ (p >>= k) Q) := by
  rw [wp_bind]
  exact h.trans (wp_wand _ _ _)

theorem cond1_true : ∀ t, k0_cond1 t = 1#1 := by decide
theorem cond2_iff : ∀ t : Fin k0_t1_loop.trips, k0_cond2 t = 1#1 ↔ t.val < 15 := by decide

/-! ### The values -/

/-- Sixteen zeros. -/
abbrev zero16 : FVec F S16 .f32 := k0_pay124 (F := F)

/-- The running sum of the first `n` vectors of row `r`. -/
def rsum (a : FVec F S4x4096 .f32) (r : Fin 4) : ℕ → FVec F S16 .f32
  | 0 => zero16
  | n + 1 => addf (rsum a r n) (vec a r n)

theorem scan_fst (a m : FVec F S4x4096 .f32) (r : Fin 4) (mv : FVec F S16 .f32) : ∀ n, (scan a m r (zero16, mv) n).1 = rsum a r n
  | 0 => rfl
  | n + 1 => congrArg (fun z => addf z (vec a r n)) (scan_fst a m r mv n)

/-- The running minimum after row `r`. -/
def rmin (a m : FVec F S4x4096 .f32) (r : Fin 4) (mv : FVec F S16 .f32) : FVec F S16 .f32 := (scan a m r (zero16, mv) 256).2

theorem scan_eq (a m : FVec F S4x4096 .f32) (r : Fin 4) (mv : FVec F S16 .f32) : scan a m r (zero16, mv) 256 = (rsum a r 256, rmin a m r mv) :=
  Prod.ext (scan_fst a m r mv 256) rfl

/-- The running minimum after the four rows of a chunk. -/
def cmin (a m : FVec F S4x4096 .f32) (mv : FVec F S16 .f32) : FVec F S16 .f32 := rmin a m 3 (rmin a m 2 (rmin a m 1 (rmin a m 0 mv)))

/-- Row `r` of a block of four rows of sixteen. -/
def RowIs (f : FVec F S4x16 .f32) (r : Fin 4) (v : FVec F S16 .f32) : Prop := ∀ l : Fin 16, f (ix2 r l) = v (ix1 l)

theorem stored_hit (f : FVec F S4x16 .f32) (r : Fin 4) (v : FVec F S16 .f32) (inb : ∀ a, (![r.val, 0] : Fin 2 → ℕ) a + S1x16.size a ≤ S4x16.size a) :
    RowIs (dgV.view.writes (Elt F) f [⟨Rect.unit (s := S4x16) ![r.val, 0] S1x16.size inb, shapeCast S1x16 v shapeCasts_S16_S1x16⟩]) r v := by
  intro l
  refine (View.read_writes_cons_hit_of_coords (v := dgV.view) (Val := Elt F) (f := f) _ _ [] (ix2 (0 : Fin 1) l) (ix2 r l) ?_).trans ?_
  · intro a
    match a with
    | ⟨0, _⟩ => rfl
    | ⟨1, _⟩ => show l.val = 0 + 1 * l.val; omega
  · exact (shapeCast_addUnit_apply (d := ![16]) _ _ _).trans (congrArg v (funext fun a => match a with | ⟨0, _⟩ => rfl))

theorem stored_miss (f : FVec F S4x16 .f32) (r r' : Fin 4) (hr : r' ≠ r) (v : FVec F S16 .f32) (w : FVec F S16 .f32) (inb : ∀ a, (![r.val, 0] : Fin 2 → ℕ) a + S1x16.size a ≤ S4x16.size a)
    (h : RowIs f r' w) :
    RowIs (dgV.view.writes (Elt F) f [⟨Rect.unit (s := S4x16) ![r.val, 0] S1x16.size inb, shapeCast S1x16 v shapeCasts_S16_S1x16⟩]) r' w := by
  intro l
  refine (View.read_writes_cons_miss_of_axis (v := dgV.view) (Val := Elt F) (f := f) _ [] (ix2 r' l) 0 r.val 1 rfl rfl rfl ?_).trans (h l)
  have : r'.val ≠ r.val := fun e => hr (Fin.ext e)
  show r'.val < r.val ∨ r.val + 1 ≤ r'.val
  omega

/-! ### The whole array's rows -/

/-- Vector `n` of row `R` of a square array. -/
def lanes (X : FVec F S4096x4096 .f32) (R n : ℕ) : FVec F S16 .f32 :=
  fun j => X (ix2 ⟨R % 4096, Nat.mod_lt _ (by decide)⟩ ⟨(16 * n + (j 0).val) % 4096, Nat.mod_lt _ (by decide)⟩)

/-- The sum of the first `n` vectors of row `R`, lane by lane. -/
def rowSum (X : FVec F S4096x4096 .f32) (R : ℕ) : ℕ → FVec F S16 .f32
  | 0 => zero16
  | n + 1 => addf (rowSum X R n) (lanes X R n)

/-- The minimum of `mv` and of the scores of the first `n` vectors of row `R`, lane by lane. -/
def rowMin (X Y : FVec F S4096x4096 .f32) (R : ℕ) (mv : FVec F S16 .f32) : ℕ → FVec F S16 .f32
  | 0 => mv
  | n + 1 => (stepV (lanes X R n) (lanes Y R n) (zero16, rowMin X Y R mv n)).2

/-- The running minimum of the first `n` rows from row `B` on. -/
def tileMin (X Y : FVec F S4096x4096 .f32) (B : ℕ) : ℕ → FVec F S16 .f32
  | 0 => k0_pay1 (F := F)
  | n + 1 => rowMin X Y (B + n) (tileMin X Y B n) 256

/-- Every row's sums. -/
def degG (X : FVec F S4096x4096 .f32) : FVec F S4096x16 .f32 := fun i => rowSum X (i 0).val 256 (ix1 (i 1))

theorem vec_rows4 (X : FVec F S4096x4096 .f32) (R : ℕ) (h : R + 4 ≤ 4096) (r : Fin 4) (n : ℕ) : vec (rows4 X R h) r n = lanes X (R + r.val) n := by
  funext j
  unfold vec rows4 lanes
  congr 1
  funext a
  match a with
  | ⟨0, _⟩ => exact Fin.ext (Eq.trans (b := R + r.val) (by show R + 1 * r.val = R + r.val; omega) (Nat.mod_eq_of_lt (by omega)).symm)
  | ⟨1, _⟩ => exact Fin.ext (by show 0 + 1 * ((16 * n + (j 0).val) % 4096) = (16 * n + (j 0).val) % 4096; omega)

theorem rsum_rows4 (X : FVec F S4096x4096 .f32) (R : ℕ) (h : R + 4 ≤ 4096) (r : Fin 4) : ∀ n, rsum (rows4 X R h) r n = rowSum X (R + r.val) n
  | 0 => rfl
  | n + 1 => by unfold rsum rowSum; rw [rsum_rows4 X R h r n, vec_rows4]

theorem scan_rows4 (X Y : FVec F S4096x4096 .f32) (R : ℕ) (h : R + 4 ≤ 4096) (r : Fin 4) (mv : FVec F S16 .f32) :
    ∀ n, (scan (rows4 X R h) (rows4 Y R h) r (zero16, mv) n).2 = rowMin X Y (R + r.val) mv n
  | 0 => rfl
  | n + 1 => by
    show (stepV (vec (rows4 X R h) r n) (vec (rows4 Y R h) r n) (scan (rows4 X R h) (rows4 Y R h) r (zero16, mv) n)).2 = _
    rw [vec_rows4, vec_rows4]
    show minimumf (scan (rows4 X R h) (rows4 Y R h) r (zero16, mv) n).2 _ = minimumf (rowMin X Y (R + r.val) mv n) _
    rw [scan_rows4 X Y R h r mv n]

theorem rmin_rows4 (X Y : FVec F S4096x4096 .f32) (R : ℕ) (h : R + 4 ≤ 4096) (r : Fin 4) (mv : FVec F S16 .f32) :
    rmin (rows4 X R h) (rows4 Y R h) r mv = rowMin X Y (R + r.val) mv 256 := scan_rows4 X Y R h r mv 256

section Trip

variable (d : Dev nD) (L : grid0.Coords) (A M : FVec F S4096x4096 .f32)

/-- The even and the odd chunk of trip `t`. -/
abbrev ce (t : Fin k0_t1_loop.trips) : Fin 32 := ⟨2 * t.val, by have : t.val < 16 := t.isLt; omega⟩
abbrev co (t : Fin k0_t1_loop.trips) : Fin 32 := ⟨2 * t.val + 1, by have : t.val < 16 := t.isLt; omega⟩

/-- Chunk `c`'s rows. -/
abbrev ck (X : FVec F S4096x4096 .f32) (c : Fin 32) : FVec F S4x4096 .f32 := rows4 X (rowOf L c.val) (rowOf_le L c.isLt)

theorem off2_co (t : Fin k0_t1_loop.trips) : k0_off2 L t = ![rowOf L (co t).val, 0] :=
  (k0_off2_eq L t).trans (congrArg (fun z => ![z, 0]) (by show _ = 256 * (L 1).val + 128 * (L 0).val + 4 * (2 * t.val + 1); omega))
theorem off8_ce (t t' : Fin k0_t1_loop.trips) (h : t'.val = t.val + 1) : k0_off8 L t = ![rowOf L (ce t').val, 0] :=
  (k0_off8_eq L t).trans (congrArg (fun z => ![z, 0]) (by show _ = 256 * (L 1).val + 128 * (L 0).val + 4 * (2 * t'.val); omega))

/-- A row stored in the block of sums: that row is the stored one, the others as they were. -/
theorem dg_row (f : FVec F S4x16 .f32) (r : Fin 4) (v : FVec F S16 .f32) (inb : ∀ a, (![r.val, 0] : Fin 2 → ℕ) a + S1x16.size a ≤ S4x16.size a) :
    (dgV.view.loc (V d (cV L) (jV L)) ↦{fullShare} (dgV.view.writes (Elt F) f [⟨Rect.unit (s := S4x16) ![r.val, 0] S1x16.size inb, shapeCast S1x16 v shapeCasts_S16_S1x16⟩]) : sProp 𝕄)
      ⊢ iprop(∃ g : FVec F S4x16 .f32, ⌜RowIs g r v ∧ ∀ r', r' ≠ r → ∀ w, RowIs f r' w → RowIs g r' w⌝ ∗ (dgV.view.loc (V d (cV L) (jV L)) ↦{fullShare} g)) := by
  iintro H
  iexists _
  isplitr
  · ipureintro
    exact ⟨stored_hit f r v inb, fun r' hr w h => stored_miss f r r' hr v w inb h⟩
  iexact H

/-- A block whose rows are four rows' sums, element by element. -/
theorem block_eq (R : ℕ) (hR : R + 4 ≤ 4096) (f : FVec F S4x16 .f32) (hf : ∀ r : Fin 4, RowIs f r (rsum (rows4 A R hR) r 256)) (x : S4x16.Idx) :
    f x = rowSum A (R + (x 0).val) 256 (ix1 (x 1)) :=
  (congrArg f (eq_ix2 x)).trans ((hf (x 0) (x 1)).trans (congrFun (rsum_rows4 A R hR (x 0) 256) (ix1 (x 1))))

/-- A copied block of sums, as the rows of the array of row sums it lands on. -/
theorem landed (R : ℕ) (hR : R + 4 ≤ 4096) (off : Fin 2 → ℕ) (inb : ∀ a, off a + S4x16.size a ≤ S4096x16.size a) (hoff : off = ![R, 0])
    (f : FVec F S4x16 .f32) (g : FVec F S4096x16 .f32) (hf : ∀ r : Fin 4, RowIs f r (rsum (rows4 A R hR) r 256)) :
    ((degV.slice (Rect.unit (s := S4096x16) off S4x16.size inb) (fun _ => rfl)).view.loc (V d (cV L) (jV L)) ↦[(degV.slice (Rect.unit (s := S4096x16) off S4x16.size inb) (fun _ => rfl)).view.set]{fullShare}
        ((degV.slice (Rect.unit (s := S4096x16) off S4x16.size inb) (fun _ => rfl)).view.writes (Elt F) g [⟨Rect.whole S4x16, ReadAs.same.apply (dgV.view.read (Elt F) f)⟩]) : sProp 𝕄)
      = ((degV.slice (Rect.unit (s := S4096x16) off S4x16.size inb) (fun _ => rfl)).view.loc (V d (cV L) (jV L)) ↦[(degV.slice (Rect.unit (s := S4096x16) off S4x16.size inb) (fun _ => rfl)).view.set]{fullShare} degG A) := by
  subst hoff
  refine pointsTo_congr fun i hi => ?_
  obtain ⟨x, -, rfl⟩ := Finset.mem_map.mp hi
  refine (congrFun (View.write_univ_eq_writes_whole (v := (degV.slice (Rect.unit (s := S4096x16) ![R, 0] S4x16.size inb) (fun _ => rfl)).view) (Val := Elt F) g [] _).symm _).trans ?_
  refine (View.write_emb_of_mem (v := (degV.slice (Rect.unit (s := S4096x16) ![R, 0] S4x16.size inb) (fun _ => rfl)).view) (Val := Elt F) g _ (Finset.mem_univ x)).trans ?_
  refine Eq.trans (block_eq A R hR f hf x) ?_
  show rowSum A (R + (x 0).val) 256 (ix1 (x 1)) = rowSum A (R + 1 * (x 0).val) 256 (ix1 ⟨0 + 1 * (x 1).val, _⟩)
  congr 2
  · omega
  · exact Fin.ext (by show (x 1).val = 0 + 1 * (x 1).val; omega)

set_option maxHeartbeats 4000000 in
theorem part25 (v2 : BitVec 32) (t : Fin k0_t1_loop.trips) (mv : FVec F S16 .f32) (O : CellTallies nD τ sig (HIx 1)) (W : Waits sig (HIx 1))
    (fa : Buf (Elt F) (a1V.view.loc (V d (cV L) (jV L)))) (fm : Buf (Elt F) (m1V.view.loc (V d (cV L) (jV L)))) (f : FVec F S4x16 .f32) :
    iprop(Transfers.MayWaits (V d (cV L) (jV L)) (default : HIx 1) O ∗ coming0 d L A M (ce t) ∗ owes (V d (cV L) (jV L)) O W ∗ src d L A M (co t)
        ∗ (a1V.view.loc (V d (cV L) (jV L)) ↦{fullShare} fa) ∗ (m1V.view.loc (V d (cV L) (jV L)) ↦{fullShare} fm) ∗ semVal ((V d (cV L) (jV L)), SemLoc.dma cc0_scratch7.sem) 0 ∗ (dgV.view.loc (V d (cV L) (jV L)) ↦{fullShare} f))
      ⊢ wp frame (wpE (defs₀ (F := F)) 𝒱₀ (V d (cV L) (jV L)) none) Set.univ (k0_part25 L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 0#32 1#32 t mv)
          fun r => iprop(⌜r.2.2.1 = rmin (ck L A (ce t)) (ck L M (ce t)) 1 (rmin (ck L A (ce t)) (ck L M (ce t)) 0 mv) ∧ r.2.2.2.1 = zero16⌝
            ∗ (a0V.view.loc (V d (cV L) (jV L)) ↦{fullShare} (ck L A (ce t))) ∗ (m0V.view.loc (V d (cV L) (jV L)) ↦{fullShare} (ck L M (ce t))) ∗ src d L A M (ce t) ∗ semVal ((V d (cV L) (jV L)), SemLoc.dma cc0_scratch6.sem) 0
            ∗ owes (V d (cV L) (jV L)) O (insert (SemLoc.dma cc0_scratch6.sem, (default : HIx 1)) W) ∗ coming1 d L A M (co t)
            ∗ ∃ f : FVec F S4x16 .f32, ⌜RowIs f 0 (rsum (ck L A (ce t)) 0 256) ∧ RowIs f 1 (rsum (ck L A (ce t)) 1 256)⌝ ∗ (dgV.view.loc (V d (cV L) (jV L)) ↦{fullShare} f)) := by
  rw [k0_part25_eq_skeleton]
  unfold k0_part25_skel
  simp only [dif_pos (cond1_true t)]
  simp only [Prog.lift, Prog.bind_op, Prog.bind_ret, Prog.pure_eq_ret, Prog.bind_assoc]
  iintro ⟨#Hmw, HB, HO, Hsrc, Ha1, Hm1, Hc1, Hdg⟩
  iapply (take0 d L A M (ce t) O W _ _ _ _) $$ [HB HO]
  · isplitr; · iexact Hmw
    isplitl [HB]; · iexact HB
    iexact HO
  iintro ⟨Ha0, Hm0, Hs0, Hc0, HO⟩
  iapply (start1 d L A M (co t) _ _ (off2_co L t) fa fm _ _) $$ [Hsrc Ha1 Hm1 Hc1]
  · isplitl [Hsrc]; · iexact Hsrc
    isplitl [Ha1]; · iexact Ha1
    isplitl [Hm1]; · iexact Hm1
    iexact Hc1
  iintro HB1
  iapply (wp_seq (loop_t2 d L _ _ _ _ _ (ck L A (ce t)) (ck L M (ce t)) (zero16, mv)) _ _) $$ [Ha0 Hm0]
  · isplitl [Ha0]; · iexact Ha0
    iexact Hm0
  iintro %c ⟨%hc, Ha0, Hm0⟩
  rw [scan_eq] at hc
  subst hc
  dsimp only
  ihave Hdg := (Entails.of_eq (held_eq (F := F) d L cc0_scratch4 f)) $$ Hdg
  sl_exec
  ihave Hdg := (show (dgV.view.loc (V d (cV L) (jV L)) ↦{fullShare} (dgV.view.writes (Elt F) f [⟨Rect.unit (s := S4x16) ![0, 0] ![1, 16] inb_S4x16_S1x16_0_0, k0_pay128 (rsum (ck L A (ce t)) 0 256)⟩]) : sProp 𝕄) ⊢ _
    from dg_row d L f 0 (rsum (ck L A (ce t)) 0 256) inb_S4x16_S1x16_0_0) $$ Hdg
  icases Hdg with ⟨%f0, %hf0, Hdg⟩
  iapply (wp_seq (loop_t3 d L _ _ _ _ _ (ck L A (ce t)) (ck L M (ce t)) (zero16, rmin (ck L A (ce t)) (ck L M (ce t)) 0 mv)) _ _) $$ [Ha0 Hm0]
  · isplitl [Ha0]; · iexact Ha0
    iexact Hm0
  iintro %c ⟨%hc, Ha0, Hm0⟩
  rw [scan_eq] at hc
  subst hc
  dsimp only
  ihave Hdg := (Entails.of_eq (held_eq (F := F) d L cc0_scratch4 f0)) $$ Hdg
  sl_exec
  ihave Hdg := (show (dgV.view.loc (V d (cV L) (jV L)) ↦{fullShare} (dgV.view.writes (Elt F) f0 [⟨Rect.unit (s := S4x16) ![1, 0] ![1, 16] inb_S4x16_S1x16_1_0, k0_pay133 (rsum (ck L A (ce t)) 1 256)⟩]) : sProp 𝕄) ⊢ _
    from dg_row d L f0 1 (rsum (ck L A (ce t)) 1 256) inb_S4x16_S1x16_1_0) $$ Hdg
  icases Hdg with ⟨%f1, %hf1, Hdg⟩
  sl_step
  isplitr; · ipureintro; exact ⟨rfl, rfl⟩
  isplitl [Ha0]; · iexact Ha0
  isplitl [Hm0]; · iexact Hm0
  isplitl [Hs0]; · iexact Hs0
  isplitl [Hc0]; · iexact Hc0
  isplitl [HO]; · iexact HO
  isplitl [HB1]; · iexact HB1
  iexists f1
  isplitr; · ipureintro; exact ⟨hf1.2 0 (by decide) _ hf0.1, hf1.1⟩
  iexact Hdg

end Trip

end Cert.Proof.Idealized

end
-- ==== Proof.Idealized.Trip2.lean ====
/- The second part of a trip: the even chunk's last two rows, its sums copied out, and the odd chunk's arrival. -/
module

public import proofs.«01_k».proof.Proof.Idealized.Trip

@[expose] public section

noncomputable section

namespace Cert.Proof.Idealized

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Trip

variable (d : Dev nD) (L : grid0.Coords) (A M : FVec F S4096x4096 .f32)

/-- What a subcore records of its waits: each one of `W`, or on the level of the launch's own transfers. -/
def owing (O : CellTallies nD τ sig (HIx 1)) (W : Waits sig (HIx 1)) : sProp 𝕄 :=
  iprop(∃ W' : Waits sig (HIx 1), ⌜∀ p ∈ W', p ∈ W ∨ p.2 = default⌝ ∗ owes (V d (cV L) (jV L)) O W')

theorem owing_intro (O : CellTallies nD τ sig (HIx 1)) (W : Waits sig (HIx 1)) (W' : Waits sig (HIx 1)) (h : ∀ p ∈ W', p ∈ W ∨ p.2 = default) :
    owes (V d (cV L) (jV L)) O W' ⊢ owing (F := F) d L O W := by
  unfold owing
  iintro H
  iexists W'
  isplitr; · ipureintro; exact h
  iexact H

theorem mem_insert_none {W W' : Waits sig (HIx 1)} (h : ∀ p ∈ W', p ∈ W ∨ p.2 = default) (sm : SemLoc sig) :
    ∀ p ∈ insert (sm, (default : HIx 1)) W', p ∈ W ∨ p.2 = default := by
  intro p hp
  rcases Finset.mem_insert.mp hp with rfl | hp
  · exact .inr rfl
  · exact h p hp

/-- The block of sums of the even and of the odd chunk of trip `t`, in the array of sums. -/
abbrev degE (t : Fin k0_t1_loop.trips) : Memref sig .scVector .hbm S4x16 .f32 :=
  degV.slice (Rect.unit (s := S4096x16) (k0_off7 L t 0#32) S4x16.size (k0_off7_inb L t 0)) (fun _ => rfl)
abbrev degO (t : Fin k0_t1_loop.trips) : Memref sig .scVector .hbm S4x16 .f32 :=
  degV.slice (Rect.unit (s := S4096x16) (k0_off7 L t 1#32) S4x16.size (k0_off7_inb L t 1)) (fun _ => rfl)

theorem off7_ce (t : Fin k0_t1_loop.trips) : k0_off7 L t 0#32 = ![rowOf L (ce t).val, 0] :=
  (k0_off7_eq L t 0).trans (congrArg (fun z => ![z, 0]) (by show _ = 256 * (L 1).val + 128 * (L 0).val + 4 * (2 * t.val); simp; omega))
theorem off7_co (t : Fin k0_t1_loop.trips) : k0_off7 L t 1#32 = ![rowOf L (co t).val, 0] :=
  (k0_off7_eq L t 1).trans (congrArg (fun z => ![z, 0]) (by show _ = 256 * (L 1).val + 128 * (L 0).val + 4 * (2 * t.val + 1); simp; omega))

set_option maxHeartbeats 4000000 in
theorem part26 (v2 : BitVec 32) (t : Fin k0_t1_loop.trips) (x14 x15 x33 : BitVec 32) (mv : FVec F S16 .f32) (O : CellTallies nD τ sig (HIx 1)) (W : Waits sig (HIx 1))
    (f : FVec F S4x16 .f32) (hf : RowIs f 0 (rsum (ck L A (ce t)) 0 256) ∧ RowIs f 1 (rsum (ck L A (ce t)) 1 256)) (g : FVec F S4096x16 .f32) :
    iprop(Transfers.MayWaits (V d (cV L) (jV L)) (default : HIx 1) O ∗ coming1 d L A M (co t) ∗ owes (V d (cV L) (jV L)) O W ∗ (a0V.view.loc (V d (cV L) (jV L)) ↦{fullShare} (ck L A (ce t))) ∗ (m0V.view.loc (V d (cV L) (jV L)) ↦{fullShare} (ck L M (ce t))) ∗ semVal ((V d (cV L) (jV L)), SemLoc.dma cc0_scoped0.sem) 0 ∗ (dgV.view.loc (V d (cV L) (jV L)) ↦{fullShare} f)
        ∗ ((degE L t).view.loc (V d (cV L) (jV L)) ↦[(degE L t).view.set]{fullShare} g))
      ⊢ wp frame (wpE (defs₀ (F := F)) 𝒱₀ (V d (cV L) (jV L)) none) Set.univ (k0_part26 L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 t x14 x15 mv zero16 x33)
          fun r => iprop(⌜r.1 = rmin (ck L A (ce t)) (ck L M (ce t)) 3 (rmin (ck L A (ce t)) (ck L M (ce t)) 2 mv)⌝ ∗ (a0V.view.loc (V d (cV L) (jV L)) ↦{fullShare} (ck L A (ce t))) ∗ (m0V.view.loc (V d (cV L) (jV L)) ↦{fullShare} (ck L M (ce t))) ∗ semVal ((V d (cV L) (jV L)), SemLoc.dma cc0_scoped0.sem) 0 ∗ (∃ f : FVec F S4x16 .f32, (dgV.view.loc (V d (cV L) (jV L)) ↦{fullShare} f))
            ∗ ((degE L t).view.loc (V d (cV L) (jV L)) ↦[(degE L t).view.set]{fullShare} degG A)
            ∗ (a1V.view.loc (V d (cV L) (jV L)) ↦{fullShare} (ck L A (co t))) ∗ (m1V.view.loc (V d (cV L) (jV L)) ↦{fullShare} (ck L M (co t))) ∗ src d L A M (co t) ∗ semVal ((V d (cV L) (jV L)), SemLoc.dma cc0_scratch7.sem) 0 ∗ owing d L O W) := by
  rw [k0_part26_eq_skeleton]
  unfold k0_part26_skel
  simp only [Prog.lift, Prog.bind_op, Prog.bind_ret, Prog.pure_eq_ret, Prog.bind_assoc]
  iintro ⟨#Hmw, HB, HO, Ha0, Hm0, Hc2, Hdg, Hd⟩
  iapply (wp_seq (loop_t4 d L _ _ _ _ _ _ _ (ck L A (ce t)) (ck L M (ce t)) (zero16, mv)) _ _) $$ [Ha0 Hm0]
  · isplitl [Ha0]; · iexact Ha0
    iexact Hm0
  iintro %c ⟨%hc, Ha0, Hm0⟩
  rw [scan_eq] at hc
  subst hc
  dsimp only
  ihave Hdg := (Entails.of_eq (held_eq (F := F) d L cc0_scratch4 f)) $$ Hdg
  sl_exec
  ihave Hdg := (show (dgV.view.loc (V d (cV L) (jV L)) ↦{fullShare} (dgV.view.writes (Elt F) f [⟨Rect.unit (s := S4x16) ![2, 0] ![1, 16] inb_S4x16_S1x16_2_0, k0_pay138 (rsum (ck L A (ce t)) 2 256)⟩]) : sProp 𝕄) ⊢ _
    from dg_row d L f 2 (rsum (ck L A (ce t)) 2 256) inb_S4x16_S1x16_2_0) $$ Hdg
  icases Hdg with ⟨%f0, %hf0, Hdg⟩
  iapply (wp_seq (loop_t5 d L _ _ _ _ _ _ _ (ck L A (ce t)) (ck L M (ce t)) (zero16, (rmin (ck L A (ce t)) (ck L M (ce t)) 2 mv))) _ _) $$ [Ha0 Hm0]
  · isplitl [Ha0]; · iexact Ha0
    iexact Hm0
  iintro %c ⟨%hc, Ha0, Hm0⟩
  rw [scan_eq] at hc
  subst hc
  dsimp only
  ihave Hdg := (Entails.of_eq (held_eq (F := F) d L cc0_scratch4 f0)) $$ Hdg
  sl_step
  sl_step
  ihave Hdg := (show ((dgV.access (Rect.unit (s := S4x16) ![3, 0] ![1, 16] inb_S4x16_S1x16_3_0)).loc (V d (cV L) (jV L)) ↦{fullShare} (View.write (Elt F) (dgV.access (Rect.unit (s := S4x16) ![3, 0] ![1, 16] inb_S4x16_S1x16_3_0)) f0 (k0_pay143 (rsum (ck L A (ce t)) 3 256)) Finset.univ) : sProp 𝕄) ⊢ _
    from dg_row d L f0 3 (rsum (ck L A (ce t)) 3 256) inb_S4x16_S1x16_3_0) $$ Hdg
  icases Hdg with ⟨%f1, %hf1, Hdg⟩
  ihave Hd := (show ((degE L t).view.loc (V d (cV L) (jV L)) ↦[(degE L t).view.set]{fullShare} g : sProp 𝕄) ⊢ ((degE L t).view.loc (V d (cV L) (jV L)) ↦[(degE L t).view.set]{fullShare} g) from .rfl) $$ Hd
  sl_exec
  iapply (take1 d L A M (co t) O _ _ _ _ _) $$ [HB HO]
  · isplitr; · iexact Hmw
    isplitl [HB]; · iexact HB
    iexact HO
  iintro ⟨Ha1, Hm1, Hs1, Hc1, HO⟩
  sl_step
  isplitr; · ipureintro; rfl
  isplitl [Ha0]; · iexact Ha0
  isplitl [Hm0]; · iexact Hm0
  isplitl [Hc2]; · iexact Hc2
  isplitl [Hdg]; · iexists f1; iexact Hdg
  isplitl [Hd]
  · ihave Hd := (show ((degE L t).view.loc (V d (cV L) (jV L)) ↦[(degE L t).view.set]{fullShare} ((degE L t).view.writes (Elt F) g [⟨Rect.whole S4x16, part26.sl.dma0 f1⟩]) : sProp 𝕄) ⊢ _
      from Entails.of_eq (landed d L A (rowOf L (ce t).val) (rowOf_le L (ce t).isLt) (k0_off7 L t 0#32) (k0_off7_inb L t 0) (off7_ce L t) f1 g ?rows)) $$ Hd
    case rows =>
      intro r
      match r with
      | 0 => exact hf1.2 0 (by decide) _ (hf0.2 0 (by decide) _ hf.1)
      | 1 => exact hf1.2 1 (by decide) _ (hf0.2 1 (by decide) _ hf.2)
      | 2 => exact hf1.2 2 (by decide) _ hf0.1
      | 3 => exact hf1.1
    iexact Hd
  isplitl [Ha1]; · iexact Ha1
  isplitl [Hm1]; · iexact Hm1
  isplitl [Hs1]; · iexact Hs1
  isplitl [Hc1]; · iexact Hc1
  iapply (owing_intro d L O W _ (mem_insert_none (mem_insert_none (fun p hp => .inl hp) _) _)) $$ HO

end Trip

end Cert.Proof.Idealized

end
-- ==== Proof.Idealized.Trip3.lean ====
/- The third part of a trip, and the whole trip: the next even chunk asked for, the odd chunk's rows, its sums copied
   out. -/
module

public import proofs.«01_k».proof.Proof.Idealized.Trip2

@[expose] public section

noncomputable section

namespace Cert.Proof.Idealized

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Trip

variable (d : Dev nD) (L : grid0.Coords) (A M : FVec F S4096x4096 .f32)

/-- The even chunks' buffer pair between two trips: before trip `n` chunk `2 n` is under way; after the last the pair rests. -/
def slot (n : ℕ) : sProp 𝕄 :=
  if h : n < 16 then coming0 d L A M (ce ⟨n, h⟩) else iprop((∃ f : Buf (Elt F) (a0V.view.loc (V d (cV L) (jV L))), (a0V.view.loc (V d (cV L) (jV L)) ↦{fullShare} f)) ∗ (∃ f : Buf (Elt F) (m0V.view.loc (V d (cV L) (jV L))), (m0V.view.loc (V d (cV L) (jV L)) ↦{fullShare} f)) ∗ semVal ((V d (cV L) (jV L)), SemLoc.dma cc0_scratch6.sem) 0)

/-- The even chunks not under way before trip `n`. -/
def evens (n : ℕ) : sProp 𝕄 :=
  if h : n < 16 then bigSep ((Finset.univ : Finset (Fin k0_t1_loop.trips)).erase ⟨n, h⟩) (fun g => src d L A M (ce g))
  else bigSep (Finset.univ : Finset (Fin k0_t1_loop.trips)) (fun g => src d L A M (ce g))

theorem evens_in (t : Fin k0_t1_loop.trips) :
    iprop(src d L A M (ce t) ∗ evens d L A M t.val) ⊢ bigSep (Finset.univ : Finset (Fin k0_t1_loop.trips)) (fun g => src d L A M (ce g)) := by
  unfold evens
  rw [dif_pos (show t.val < 16 from t.isLt)]
  exact Entails.of_eq (SparseCore.bigSep_erase' (Finset.mem_univ t) (Φ := fun g => src d L A M (ce g))).symm

theorem evens_out (t : Fin k0_t1_loop.trips) :
    bigSep (Finset.univ : Finset (Fin k0_t1_loop.trips)) (fun g => src d L A M (ce g)) ⊢ iprop(src d L A M (ce t) ∗ evens d L A M t.val) := by
  unfold evens
  rw [dif_pos (show t.val < 16 from t.isLt)]
  exact Entails.of_eq (SparseCore.bigSep_erase' (Finset.mem_univ t) (Φ := fun g => src d L A M (ce g)))

set_option maxHeartbeats 4000000 in
theorem part27 (v2 : BitVec 32) (t : Fin k0_t1_loop.trips) (x55 x60 : BitVec 32) (mv : FVec F S16 .f32) (f : FVec F S4x16 .f32)
    (fa : Buf (Elt F) (a0V.view.loc (V d (cV L) (jV L)))) (fm : Buf (Elt F) (m0V.view.loc (V d (cV L) (jV L)))) :
    iprop(((a0V.view.loc (V d (cV L) (jV L)) ↦{fullShare} fa)) ∗ ((m0V.view.loc (V d (cV L) (jV L)) ↦{fullShare} fm)) ∗ semVal ((V d (cV L) (jV L)), SemLoc.dma cc0_scratch6.sem) 0 ∗ bigSep (Finset.univ : Finset (Fin k0_t1_loop.trips)) (fun g => src d L A M (ce g))
        ∗ (a1V.view.loc (V d (cV L) (jV L)) ↦{fullShare} (ck L A (co t))) ∗ (m1V.view.loc (V d (cV L) (jV L)) ↦{fullShare} (ck L M (co t))) ∗ (dgV.view.loc (V d (cV L) (jV L)) ↦{fullShare} f))
      ⊢ wp frame (wpE (defs₀ (F := F)) 𝒱₀ (V d (cV L) (jV L)) none) Set.univ (k0_part27 L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 t mv x55 x60)
          fun r => iprop(⌜r.1 = rsum (ck L A (co t)) 3 256 ∧ r.2.1 = rmin (ck L A (co t)) (ck L M (co t)) 3 (rmin (ck L A (co t)) (ck L M (co t)) 2 (rmin (ck L A (co t)) (ck L M (co t)) 1 (rmin (ck L A (co t)) (ck L M (co t)) 0 mv)))⌝
            ∗ slot d L A M (t.val + 1) ∗ evens d L A M (t.val + 1) ∗ (a1V.view.loc (V d (cV L) (jV L)) ↦{fullShare} (ck L A (co t))) ∗ (m1V.view.loc (V d (cV L) (jV L)) ↦{fullShare} (ck L M (co t)))
            ∗ ∃ f : FVec F S4x16 .f32, ⌜∀ r : Fin 4, r ≠ 3 → RowIs f r (rsum (ck L A (co t)) r 256)⌝ ∗ (dgV.view.loc (V d (cV L) (jV L)) ↦{fullShare} f)) := by
  rw [k0_part27_eq_skeleton]
  unfold k0_part27_skel
  iintro ⟨Ha0, Hm0, Hc0, Hev, Ha1, Hm1, Hdg⟩
  by_cases ht : k0_cond2 t = 1#1
  · have ht' : t.val + 1 < 16 := by have := (cond2_iff t).mp ht; omega
    simp only [dif_pos ht]
    simp only [Prog.lift, Prog.bind_op, Prog.bind_ret, Prog.pure_eq_ret, Prog.bind_assoc]
    ihave Hev := (evens_out d L A M ⟨t.val + 1, ht'⟩) $$ Hev
    icases Hev with ⟨Hsrc, Hev⟩
    iapply (start0 d L A M (ce ⟨t.val + 1, ht'⟩) _ _ (off8_ce L t ⟨t.val + 1, ht'⟩ rfl) fa fm _ _) $$ [Hsrc Ha0 Hm0 Hc0]
    · isplitl [Hsrc]; · iexact Hsrc
      isplitl [Ha0]; · iexact Ha0
      isplitl [Hm0]; · iexact Hm0
      iexact Hc0
    iintro HB
    ihave Hslot := (show coming0 d L A M (ce ⟨t.val + 1, ht'⟩) ⊢ slot d L A M (t.val + 1) from by unfold slot; rw [dif_pos ht'] <;> exact .rfl) $$ HB
    iapply (wp_seq (loop_t6 d L _ _ _ _ _ (ck L A (co t)) (ck L M (co t)) (zero16, mv)) _ _) $$ [Ha1 Hm1]
    · isplitl [Ha1]; · iexact Ha1
      iexact Hm1
    iintro %c ⟨%hc, Ha1, Hm1⟩
    rw [scan_eq] at hc
    subst hc
    dsimp only
    ihave Hdg := (Entails.of_eq (held_eq (F := F) d L cc0_scratch4 f)) $$ Hdg
    sl_exec
    ihave Hdg := (show (dgV.view.loc (V d (cV L) (jV L)) ↦{fullShare} (dgV.view.writes (Elt F) f [⟨Rect.unit (s := S4x16) ![0, 0] ![1, 16] inb_S4x16_S1x16_0_0, k0_pay148 (rsum (ck L A (co t)) 0 256)⟩]) : sProp 𝕄) ⊢ _
      from dg_row d L f 0 (rsum (ck L A (co t)) 0 256) inb_S4x16_S1x16_0_0) $$ Hdg
    icases Hdg with ⟨%f0, %hf0, Hdg⟩
    iapply (wp_seq (loop_t7 d L _ _ _ _ _ (ck L A (co t)) (ck L M (co t)) (zero16, (rmin (ck L A (co t)) (ck L M (co t)) 0 mv))) _ _) $$ [Ha1 Hm1]
    · isplitl [Ha1]; · iexact Ha1
      iexact Hm1
    iintro %c ⟨%hc, Ha1, Hm1⟩
    rw [scan_eq] at hc
    subst hc
    dsimp only
    ihave Hdg := (Entails.of_eq (held_eq (F := F) d L cc0_scratch4 f0)) $$ Hdg
    sl_exec
    ihave Hdg := (show (dgV.view.loc (V d (cV L) (jV L)) ↦{fullShare} (dgV.view.writes (Elt F) f0 [⟨Rect.unit (s := S4x16) ![1, 0] ![1, 16] inb_S4x16_S1x16_1_0, k0_pay153 (rsum (ck L A (co t)) 1 256)⟩]) : sProp 𝕄) ⊢ _
      from dg_row d L f0 1 (rsum (ck L A (co t)) 1 256) inb_S4x16_S1x16_1_0) $$ Hdg
    icases Hdg with ⟨%f1, %hf1, Hdg⟩
    iapply (wp_seq (loop_t8 d L _ _ _ _ _ (ck L A (co t)) (ck L M (co t)) (zero16, (rmin (ck L A (co t)) (ck L M (co t)) 1 (rmin (ck L A (co t)) (ck L M (co t)) 0 mv)))) _ _) $$ [Ha1 Hm1]
    · isplitl [Ha1]; · iexact Ha1
      iexact Hm1
    iintro %c ⟨%hc, Ha1, Hm1⟩
    rw [scan_eq] at hc
    subst hc
    dsimp only
    ihave Hdg := (Entails.of_eq (held_eq (F := F) d L cc0_scratch4 f1)) $$ Hdg
    sl_exec
    ihave Hdg := (show (dgV.view.loc (V d (cV L) (jV L)) ↦{fullShare} (dgV.view.writes (Elt F) f1 [⟨Rect.unit (s := S4x16) ![2, 0] ![1, 16] inb_S4x16_S1x16_2_0, k0_pay158 (rsum (ck L A (co t)) 2 256)⟩]) : sProp 𝕄) ⊢ _
      from dg_row d L f1 2 (rsum (ck L A (co t)) 2 256) inb_S4x16_S1x16_2_0) $$ Hdg
    icases Hdg with ⟨%f2, %hf2, Hdg⟩
    iapply (wp_seq (loop_t9 d L _ _ _ _ _ (ck L A (co t)) (ck L M (co t)) (zero16, (rmin (ck L A (co t)) (ck L M (co t)) 2 (rmin (ck L A (co t)) (ck L M (co t)) 1 (rmin (ck L A (co t)) (ck L M (co t)) 0 mv))))) _ _) $$ [Ha1 Hm1]
    · isplitl [Ha1]; · iexact Ha1
      iexact Hm1
    iintro %c ⟨%hc, Ha1, Hm1⟩
    rw [scan_eq] at hc
    subst hc
    dsimp only
    sl_step
    isplitr; · ipureintro; exact ⟨rfl, rfl⟩
    isplitl [Hslot]; · iexact Hslot
    isplitl [Hev]; · iexact Hev
    isplitl [Ha1]; · iexact Ha1
    isplitl [Hm1]; · iexact Hm1
    iexists f2
    isplitr
    · ipureintro
      intro r hr
      match r with
      | 0 => exact hf2.2 0 (by decide) _ (hf1.2 0 (by decide) _ hf0.1)
      | 1 => exact hf2.2 1 (by decide) _ hf1.1
      | 2 => exact hf2.1
      | 3 => exact absurd rfl hr
    iexact Hdg
  · have ht' : ¬ t.val + 1 < 16 := fun h => ht ((cond2_iff t).mpr (by omega))
    simp only [dif_neg ht]
    simp only [Prog.lift, Prog.bind_op, Prog.bind_ret, Prog.pure_eq_ret, Prog.bind_assoc]
    ihave Hslot := (show iprop((∃ f : Buf (Elt F) (a0V.view.loc (V d (cV L) (jV L))), (a0V.view.loc (V d (cV L) (jV L)) ↦{fullShare} f)) ∗ (∃ f : Buf (Elt F) (m0V.view.loc (V d (cV L) (jV L))), (m0V.view.loc (V d (cV L) (jV L)) ↦{fullShare} f)) ∗ semVal ((V d (cV L) (jV L)), SemLoc.dma cc0_scratch6.sem) 0) ⊢ slot d L A M (t.val + 1) from by unfold slot; rw [dif_neg ht'] <;> exact .rfl) $$ [Ha0 Hm0 Hc0]
    · isplitl [Ha0]; · iexists fa; iexact Ha0
      isplitl [Hm0]; · iexists fm; iexact Hm0
      iexact Hc0
    ihave Hev := (show bigSep (Finset.univ : Finset (Fin k0_t1_loop.trips)) (fun g => src d L A M (ce g)) ⊢ evens d L A M (t.val + 1) from by unfold evens; rw [dif_neg ht'] <;> exact .rfl) $$ Hev
    iapply (wp_seq (loop_t6 d L _ _ _ _ _ (ck L A (co t)) (ck L M (co t)) (zero16, mv)) _ _) $$ [Ha1 Hm1]
    · isplitl [Ha1]; · iexact Ha1
      iexact Hm1
    iintro %c ⟨%hc, Ha1, Hm1⟩
    rw [scan_eq] at hc
    subst hc
    dsimp only
    ihave Hdg := (Entails.of_eq (held_eq (F := F) d L cc0_scratch4 f)) $$ Hdg
    sl_exec
    ihave Hdg := (show (dgV.view.loc (V d (cV L) (jV L)) ↦{fullShare} (dgV.view.writes (Elt F) f [⟨Rect.unit (s := S4x16) ![0, 0] ![1, 16] inb_S4x16_S1x16_0_0, k0_pay148 (rsum (ck L A (co t)) 0 256)⟩]) : sProp 𝕄) ⊢ _
      from dg_row d L f 0 (rsum (ck L A (co t)) 0 256) inb_S4x16_S1x16_0_0) $$ Hdg
    icases Hdg with ⟨%f0, %hf0, Hdg⟩
    iapply (wp_seq (loop_t7 d L _ _ _ _ _ (ck L A (co t)) (ck L M (co t)) (zero16, (rmin (ck L A (co t)) (ck L M (co t)) 0 mv))) _ _) $$ [Ha1 Hm1]
    · isplitl [Ha1]; · iexact Ha1
      iexact Hm1
    iintro %c ⟨%hc, Ha1, Hm1⟩
    rw [scan_eq] at hc
    subst hc
    dsimp only
    ihave Hdg := (Entails.of_eq (held_eq (F := F) d L cc0_scratch4 f0)) $$ Hdg
    sl_exec
    ihave Hdg := (show (dgV.view.loc (V d (cV L) (jV L)) ↦{fullShare} (dgV.view.writes (Elt F) f0 [⟨Rect.unit (s := S4x16) ![1, 0] ![1, 16] inb_S4x16_S1x16_1_0, k0_pay153 (rsum (ck L A (co t)) 1 256)⟩]) : sProp 𝕄) ⊢ _
      from dg_row d L f0 1 (rsum (ck L A (co t)) 1 256) inb_S4x16_S1x16_1_0) $$ Hdg
    icases Hdg with ⟨%f1, %hf1, Hdg⟩
    iapply (wp_seq (loop_t8 d L _ _ _ _ _ (ck L A (co t)) (ck L M (co t)) (zero16, (rmin (ck L A (co t)) (ck L M (co t)) 1 (rmin (ck L A (co t)) (ck L M (co t)) 0 mv)))) _ _) $$ [Ha1 Hm1]
    · isplitl [Ha1]; · iexact Ha1
      iexact Hm1
    iintro %c ⟨%hc, Ha1, Hm1⟩
    rw [scan_eq] at hc
    subst hc
    dsimp only
    ihave Hdg := (Entails.of_eq (held_eq (F := F) d L cc0_scratch4 f1)) $$ Hdg
    sl_exec
    ihave Hdg := (show (dgV.view.loc (V d (cV L) (jV L)) ↦{fullShare} (dgV.view.writes (Elt F) f1 [⟨Rect.unit (s := S4x16) ![2, 0] ![1, 16] inb_S4x16_S1x16_2_0, k0_pay158 (rsum (ck L A (co t)) 2 256)⟩]) : sProp 𝕄) ⊢ _
      from dg_row d L f1 2 (rsum (ck L A (co t)) 2 256) inb_S4x16_S1x16_2_0) $$ Hdg
    icases Hdg with ⟨%f2, %hf2, Hdg⟩
    iapply (wp_seq (loop_t9 d L _ _ _ _ _ (ck L A (co t)) (ck L M (co t)) (zero16, (rmin (ck L A (co t)) (ck L M (co t)) 2 (rmin (ck L A (co t)) (ck L M (co t)) 1 (rmin (ck L A (co t)) (ck L M (co t)) 0 mv))))) _ _) $$ [Ha1 Hm1]
    · isplitl [Ha1]; · iexact Ha1
      iexact Hm1
    iintro %c ⟨%hc, Ha1, Hm1⟩
    rw [scan_eq] at hc
    subst hc
    dsimp only
    sl_step
    isplitr; · ipureintro; exact ⟨rfl, rfl⟩
    isplitl [Hslot]; · iexact Hslot
    isplitl [Hev]; · iexact Hev
    isplitl [Ha1]; · iexact Ha1
    isplitl [Hm1]; · iexact Hm1
    iexists f2
    isplitr
    · ipureintro
      intro r hr
      match r with
      | 0 => exact hf2.2 0 (by decide) _ (hf1.2 0 (by decide) _ hf0.1)
      | 1 => exact hf2.2 1 (by decide) _ hf1.1
      | 2 => exact hf2.1
      | 3 => exact absurd rfl hr
    iexact Hdg

end Trip

end Cert.Proof.Idealized

end
-- ==== Proof.Idealized.Trip4.lean ====
/- The whole trip, the loop of sixteen trips, and the subcore's kernel: every row's sums and the tile's running minimum. -/
module

public import proofs.«01_k».proof.Proof.Idealized.Trip3

@[expose] public section

noncomputable section

namespace Cert.Proof.Idealized

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Trip

variable (d : Dev nD) (L : grid0.Coords) (A M : FVec F S4096x4096 .f32)

/-- The two blocks of sums of trip `g` before trip `n`: written once trip `g` is done. -/
def degs (g0 : FVec F S4096x16 .f32) (n : ℕ) (g : Fin k0_t1_loop.trips) : sProp 𝕄 :=
  iprop(((degE L g).view.loc (V d (cV L) (jV L)) ↦[(degE L g).view.set]{fullShare} (if g.val < n then degG A else g0))
    ∗ ((degO L g).view.loc (V d (cV L) (jV L)) ↦[(degO L g).view.set]{fullShare} (if g.val < n then degG A else g0)))

theorem degs_at (g0 : FVec F S4096x16 .f32) (t : Fin k0_t1_loop.trips) :
    bigSep (Finset.univ : Finset (Fin k0_t1_loop.trips)) (degs d L A g0 t.val)
      ⊢ iprop((((degE L t).view.loc (V d (cV L) (jV L)) ↦[(degE L t).view.set]{fullShare} g0) ∗ ((degO L t).view.loc (V d (cV L) (jV L)) ↦[(degO L t).view.set]{fullShare} g0))
        ∗ bigSep ((Finset.univ : Finset (Fin k0_t1_loop.trips)).erase t) (degs d L A g0 (t.val + 1))) := by
  rw [SparseCore.bigSep_erase' (Finset.mem_univ t),
    bigSep_congr (Ψ := degs d L A g0 (t.val + 1)) fun g hg => by
      have hne : g.val ≠ t.val := fun e => (Finset.mem_erase.mp hg).1 (Fin.ext e)
      unfold degs
      by_cases h : g.val < t.val
      · rw [if_pos h, if_pos (show g.val < t.val + 1 by omega)]
      · rw [if_neg h, if_neg (show ¬ g.val < t.val + 1 by omega)]]
  unfold degs
  rw [if_neg (Nat.lt_irrefl _)]

theorem degs_put (g0 : FVec F S4096x16 .f32) (t : Fin k0_t1_loop.trips) :
    iprop((((degE L t).view.loc (V d (cV L) (jV L)) ↦[(degE L t).view.set]{fullShare} degG A) ∗ ((degO L t).view.loc (V d (cV L) (jV L)) ↦[(degO L t).view.set]{fullShare} degG A))
        ∗ bigSep ((Finset.univ : Finset (Fin k0_t1_loop.trips)).erase t) (degs d L A g0 (t.val + 1)))
      ⊢ bigSep (Finset.univ : Finset (Fin k0_t1_loop.trips)) (degs d L A g0 (t.val + 1)) := by
  rw [SparseCore.bigSep_erase' (Finset.mem_univ t)]
  refine Entails.of_eq (congrArg (fun z => iprop(z ∗ bigSep ((Finset.univ : Finset (Fin k0_t1_loop.trips)).erase t) (degs d L A g0 (t.val + 1)))) ?_)
  unfold degs
  rw [if_pos (Nat.lt_succ_self _)]

theorem tileMin_step (t : Fin k0_t1_loop.trips) :
    rmin (ck L A (co t)) (ck L M (co t)) 3 (rmin (ck L A (co t)) (ck L M (co t)) 2 (rmin (ck L A (co t)) (ck L M (co t)) 1 (rmin (ck L A (co t)) (ck L M (co t)) 0 (rmin (ck L A (ce t)) (ck L M (ce t)) 3 (rmin (ck L A (ce t)) (ck L M (ce t)) 2 (rmin (ck L A (ce t)) (ck L M (ce t)) 1 (rmin (ck L A (ce t)) (ck L M (ce t)) 0
      (tileMin A M (rowOf L 0) (8 * t.val)))))))))
      = tileMin A M (rowOf L 0) (8 * (t.val + 1)) := by
  simp only [rmin_rows4]
  rw [show rowOf L (co t).val + (3 : Fin 4).val = rowOf L 0 + (8 * t.val + 7) by unfold rowOf; simp; omega,
    show rowOf L (co t).val + (2 : Fin 4).val = rowOf L 0 + (8 * t.val + 6) by unfold rowOf; simp; omega,
    show rowOf L (co t).val + (1 : Fin 4).val = rowOf L 0 + (8 * t.val + 5) by unfold rowOf; simp; omega,
    show rowOf L (co t).val + (0 : Fin 4).val = rowOf L 0 + (8 * t.val + 4) by unfold rowOf; simp; omega,
    show rowOf L (ce t).val + (3 : Fin 4).val = rowOf L 0 + (8 * t.val + 3) by unfold rowOf; simp; omega,
    show rowOf L (ce t).val + (2 : Fin 4).val = rowOf L 0 + (8 * t.val + 2) by unfold rowOf; simp; omega,
    show rowOf L (ce t).val + (1 : Fin 4).val = rowOf L 0 + (8 * t.val + 1) by unfold rowOf; simp; omega,
    show rowOf L (ce t).val + (0 : Fin 4).val = rowOf L 0 + (8 * t.val) by unfold rowOf; simp; omega]
  rfl

/-- What holds before trip `n`. -/
def inv (g0 : FVec F S4096x16 .f32) (O : CellTallies nD τ sig (HIx 1)) (W : Waits sig (HIx 1)) (n : ℕ) (mv : FVec F S16 .f32) : sProp 𝕄 :=
  iprop(⌜mv = tileMin A M (rowOf L 0) (8 * n)⌝ ∗ Transfers.MayWaits (V d (cV L) (jV L)) (default : HIx 1) O ∗ slot d L A M n ∗ evens d L A M n
    ∗ bigSep (Finset.univ : Finset (Fin k0_t1_loop.trips)) (fun g => src d L A M (co g))
    ∗ bigSep (Finset.univ : Finset (Fin k0_t1_loop.trips)) (degs d L A g0 n) ∗ owing d L O W ∗ (∃ f : Buf (Elt F) (a1V.view.loc (V d (cV L) (jV L))), (a1V.view.loc (V d (cV L) (jV L)) ↦{fullShare} f)) ∗ (∃ f : Buf (Elt F) (m1V.view.loc (V d (cV L) (jV L))), (m1V.view.loc (V d (cV L) (jV L)) ↦{fullShare} f)) ∗ (∃ f : FVec F S4x16 .f32, (dgV.view.loc (V d (cV L) (jV L)) ↦{fullShare} f)) ∗ semVal ((V d (cV L) (jV L)), SemLoc.dma cc0_scratch7.sem) 0 ∗ semVal ((V d (cV L) (jV L)), SemLoc.dma cc0_scoped0.sem) 0 ∗ semVal ((V d (cV L) (jV L)), SemLoc.dma cc0_scoped1.sem) 0)

set_option maxHeartbeats 4000000 in
theorem trip (v2 : BitVec 32) (g0 : FVec F S4096x16 .f32) (O : CellTallies nD τ sig (HIx 1)) (W : Waits sig (HIx 1)) (t : Fin k0_t1_loop.trips) (mv : FVec F S16 .f32) :
    inv d L A M g0 O W t.val mv ⊢ wp frame (wpE (defs₀ (F := F)) 𝒱₀ (V d (cV L) (jV L)) none) Set.univ (k0_t1_body L adjV (Memref.isWhole_whole _) mgV (Memref.isWhole_whole _) degV (Memref.isWhole_whole _) pmnV (Memref.isWhole_whole _) a0V (Memref.isWhole_whole _) m0V (Memref.isWhole_whole _) a1V (Memref.isWhole_whole _) m1V (Memref.isWhole_whole _) dgV (Memref.isWhole_whole _) mnV (Memref.isWhole_whole _) cc0_scratch6 cc0_scratch7 cc0_scoped0 cc0_scoped1 cc0_scoped2 v2 t mv) fun mv' => inv d L A M g0 O W (t.val + 1) mv' := by
  unfold k0_t1_body
  unfold inv
  iintro ⟨%hmv, #Hmw, Hslot, Hev, Hod, Hdg, HO, ⟨%fa1, Ha1⟩, ⟨%fm1, Hm1⟩, ⟨%f, Hb⟩, Hc1, Hc2, Hc3⟩
  subst hmv
  unfold owing
  icases HO with ⟨%W₀, %hW₀, HO⟩
  ihave HB := (show slot d L A M t.val ⊢ coming0 d L A M (ce t) from by unfold slot; rw [dif_pos (show t.val < 16 from t.isLt)] <;> exact .rfl) $$ Hslot
  ihave Hod := (Entails.of_eq (SparseCore.bigSep_erase' (Finset.mem_univ t) (Φ := fun g => src d L A M (co g)))) $$ Hod
  icases Hod with ⟨Hs1, Hod⟩
  ihave Hdg := (degs_at d L A g0 t) $$ Hdg
  icases Hdg with ⟨⟨HdE, HdO⟩, Hdg⟩
  iapply (wp_seq (part25 d L A M v2 t (tileMin A M (rowOf L 0) (8 * t.val)) O W₀ fa1 fm1 f) _ _) $$ [HB HO Hs1 Ha1 Hm1 Hc1 Hb]
  · isplitr; · iexact Hmw
    isplitl [HB]; · iexact HB
    isplitl [HO]; · iexact HO
    isplitl [Hs1]; · iexact Hs1
    isplitl [Ha1]; · iexact Ha1
    isplitl [Hm1]; · iexact Hm1
    isplitl [Hc1]; · iexact Hc1
    iexact Hb
  iintro %r ⟨%hr, Ha0, Hm0, Hs0, Hc0, HO, HB, %f', %hf', Hb⟩
  obtain ⟨x14, x15, mv1, z1, x33⟩ := r
  obtain ⟨h1, h2⟩ := hr
  dsimp only at h1 h2
  subst h1 h2
  dsimp only
  iapply (wp_seq (part26 d L A M v2 t x14 x15 x33 _ O _ f' hf' g0) _ _) $$ [HB HO Ha0 Hm0 Hc2 Hb HdE]
  · isplitr; · iexact Hmw
    isplitl [HB]; · iexact HB
    isplitl [HO]; · iexact HO
    isplitl [Ha0]; · iexact Ha0
    isplitl [Hm0]; · iexact Hm0
    isplitl [Hc2]; · iexact Hc2
    isplitl [Hb]; · iexact Hb
    iexact HdE
  iintro %r ⟨%hr, Ha0, Hm0, Hc2, ⟨%f2, Hb⟩, HdE, Ha1, Hm1, Hs1, Hc1, HO⟩
  obtain ⟨mv2, x55, x60⟩ := r
  dsimp only at hr
  subst hr
  dsimp only
  ihave Hev := (evens_in d L A M t) $$ [Hs0 Hev]
  · isplitl [Hs0]; · iexact Hs0
    iexact Hev
  iapply (wp_seq (part27 d L A M v2 t x55 x60 _ f2 (ck L A (ce t)) (ck L M (ce t))) _ _) $$ [Ha0 Hm0 Hc0 Hev Ha1 Hm1 Hb]
  · isplitl [Ha0]; · iexact Ha0
    isplitl [Hm0]; · iexact Hm0
    isplitl [Hc0]; · iexact Hc0
    isplitl [Hev]; · iexact Hev
    isplitl [Ha1]; · iexact Ha1
    isplitl [Hm1]; · iexact Hm1
    iexact Hb
  iintro %r ⟨%hr, Hslot, Hev, Ha1, Hm1, %f3, %hf3, Hb⟩
  obtain ⟨s3, mv3, x3⟩ := r
  obtain ⟨h1, h2⟩ := hr
  dsimp only at h1 h2
  subst h1 h2
  dsimp only
  simp only [Prog.lift, Prog.bind_op, Prog.bind_ret, Prog.pure_eq_ret, Prog.bind_assoc]
  unfold owing
  icases HO with ⟨%W₁, %hW₁, HO⟩
  ihave Hb := (Entails.of_eq (held_eq (F := F) d L cc0_scratch4 f3)) $$ Hb
  sl_step
  sl_step
  ihave Hb := (show ((dgV.access (Rect.unit (s := S4x16) ![3, 0] ![1, 16] inb_S4x16_S1x16_3_0)).loc (V d (cV L) (jV L)) ↦{fullShare} (View.write (Elt F) (dgV.access (Rect.unit (s := S4x16) ![3, 0] ![1, 16] inb_S4x16_S1x16_3_0)) f3 (k0_pay2 (rsum (ck L A (co t)) 3 256)) Finset.univ) : sProp 𝕄) ⊢ _
    from dg_row d L f3 3 (rsum (ck L A (co t)) 3 256) inb_S4x16_S1x16_3_0) $$ Hb
  icases Hb with ⟨%f4, %hf4, Hb⟩
  ihave HdO := (show ((degO L t).view.loc (V d (cV L) (jV L)) ↦[(degO L t).view.set]{fullShare} g0 : sProp 𝕄) ⊢ ((degO L t).view.loc (V d (cV L) (jV L)) ↦[(degO L t).view.set]{fullShare} g0) from .rfl) $$ HdO
  sl_exec
  sl_step
  isplitr; · ipureintro; exact tileMin_step L A M t
  isplitr; · iexact Hmw
  isplitl [Hslot]; · iexact Hslot
  isplitl [Hev]; · iexact Hev
  isplitl [Hs1 Hod]
  · iapply (Entails.of_eq (SparseCore.bigSep_erase' (Finset.mem_univ t) (Φ := fun g => src d L A M (co g))).symm)
    isplitl [Hs1]; · iexact Hs1
    iexact Hod
  isplitl [HdE HdO Hdg]
  · ihave HdO := (show ((degO L t).view.loc (V d (cV L) (jV L)) ↦[(degO L t).view.set]{fullShare} ((degO L t).view.writes (Elt F) g0 [⟨Rect.whole S4x16, trip.sl.dma0 f4⟩]) : sProp 𝕄) ⊢ _
      from Entails.of_eq (landed d L A (rowOf L (co t).val) (rowOf_le L (co t).isLt) (k0_off7 L t 1#32) (k0_off7_inb L t 1) (off7_co L t) f4 g0 ?rows)) $$ HdO
    case rows =>
      intro r
      match r with
      | 0 => exact hf4.2 0 (by decide) _ (hf3 0 (by decide))
      | 1 => exact hf4.2 1 (by decide) _ (hf3 1 (by decide))
      | 2 => exact hf4.2 2 (by decide) _ (hf3 2 (by decide))
      | 3 => exact hf4.1
    iapply (degs_put d L A g0 t)
    isplitl [HdE HdO]
    · isplitl [HdE]; · iexact HdE
      iexact HdO
    iexact Hdg
  isplitl [HO]
  · iexists _
    isplitr
    rotate_left
    · iexact HO
    ipureintro
    refine mem_insert_none ?_ _
    intro p hp
    rcases hW₁ p hp with h | h
    · exact mem_insert_none hW₀ _ p h
    · exact .inr h
  isplitl [Ha1]; · iexists _; iexact Ha1
  isplitl [Hm1]; · iexists _; iexact Hm1
  isplitl [Hb]; · iexists f4; iexact Hb
  isplitl [Hc1]; · iexact Hc1
  isplitl [Hc2]; · iexact Hc2
  iexact Hc3

end Trip

end Cert.Proof.Idealized

end
-- ==== Proof.Idealized.Pass.lean ====
/- The subcore's kernel: its tile's row sums and the tile's running minimum land in their rows. -/
module

public import proofs.«01_k».proof.Proof.Idealized.Trip4

@[expose] public section

noncomputable section

namespace Cert.Proof.Idealized

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Trip

variable (d : Dev nD) (L : grid0.Coords) (A M : FVec F S4096x4096 .f32)

/-- The tiles' minima: row `r` is the running minimum over rows `128 r` to `128 r + 127`. -/
def pminG : FVec F S32x16 .f32 := fun i => tileMin A M (128 * (i 0).val) 128 (ix1 ⟨(i 1).val, (i 1).isLt⟩)

/-- The tile's row of the minima, as the copy out names it. -/
abbrev pRow : Memref sig .scVector .hbm S16 .f32 :=
  (pmnV.slice (Rect.unit (s := S32x16) (k0_off13 L) S1x16.size (k0_off13_inb L)) (fun _ => rfl)).squeeze S16 squeezes_S1x16_S16

theorem off1_ce : k0_off1 L = ![rowOf L (ce ⟨0, by decide⟩).val, 0] := by
  rw [k0_off1_eq]
  unfold rowOf ce
  simp <;> omega

theorem minLanded (mv : FVec F S16 .f32) (hmv : mv = tileMin A M (rowOf L 0) 128) (p : FVec F S16 .f32) (hp : ∀ l : Fin 16, p (ix1 l) = mv (ix1 l)) (g : FVec F S32x16 .f32) :
    ((pRow L).view.loc (V d (cV L) (jV L)) ↦[(pRow L).view.set]{fullShare} ((pRow L).view.writes (Elt F) g [⟨Rect.whole S16, p⟩]) : sProp 𝕄)
      = ((pRow L).view.loc (V d (cV L) (jV L)) ↦[(pRow L).view.set]{fullShare} pminG A M) := by
  subst hmv
  refine pointsTo_congr fun i hi => ?_
  obtain ⟨x, -, rfl⟩ := Finset.mem_map.mp hi
  refine (congrFun (View.write_univ_eq_writes_whole (v := (pRow L).view) (Val := Elt F) g [] _).symm _).trans ?_
  refine (View.write_emb_of_mem (v := (pRow L).view) (Val := Elt F) g _ (Finset.mem_univ x)).trans ?_
  refine (congrArg p (eq_ix1 x)).trans ((hp (x 0)).trans ?_)
  have hr : Shape.reshapeEquiv (s := S1x16) (s' := S16) rfl x = ix2 (0 : Fin 1) (x 0) := by
    refine (Shape.reshapeEquiv_cons_one (d := ![16]) rfl x).trans ?_
    funext a
    match a with
    | ⟨0, _⟩ => rfl
    | ⟨1, _⟩ => rfl
  have e0 : (((pRow L).view.emb x) 0).val = 2 * (L 1).val + (L 0).val := by
    have h := congrFun (k0_off13_eq L) 0
    show (k0_off13 L) 0 + 1 * (Shape.reshapeEquiv (s := S1x16) (s' := S16) rfl x 0).val = _
    rw [hr, h]
    rfl
  have e1 : (((pRow L).view.emb x) 1).val = (x 0).val := by
    have h := congrFun (k0_off13_eq L) 1
    show (k0_off13 L) 1 + 1 * (Shape.reshapeEquiv (s := S1x16) (s' := S16) rfl x 1).val = _
    rw [hr, h]
    show 0 + 1 * (x 0).val = (x 0).val
    omega
  unfold pminG
  refine congr (congrArg (fun R => tileMin A M R 128) (by rw [e0]; unfold rowOf; omega)) (congrArg ix1 (Fin.ext e1.symm))

theorem stored_min (f mv : FVec F S16 .f32) :
    ((mnV.access (Rect.unit (s := S16) ![0] S16.size inb_S16_S16_0)).loc (V d (cV L) (jV L)) ↦{fullShare} (View.write (Elt F) (mnV.access (Rect.unit (s := S16) ![0] S16.size inb_S16_S16_0)) f (k0_pay3 mv) Finset.univ) : sProp 𝕄)
      ⊢ iprop(∃ p : FVec F S16 .f32, ⌜∀ l : Fin 16, p (ix1 l) = mv (ix1 l)⌝ ∗ (mnV.view.loc (V d (cV L) (jV L)) ↦{fullShare} p)) := by
  iintro H
  iexists _
  isplitr
  rotate_left
  · iexact H
  ipureintro
  intro l
  have he : (mnV.access (Rect.unit (s := S16) ![0] S16.size inb_S16_S16_0)).emb (ix1 l) = ix1 l := by
    funext a
    match a with
    | ⟨0, _⟩ => exact Fin.ext (by show 0 + 1 * l.val = l.val; omega)
  refine (congrArg (View.write (Elt F) (mnV.access (Rect.unit (s := S16) ![0] S16.size inb_S16_S16_0)) f (k0_pay3 mv) Finset.univ) he.symm).trans ?_
  refine (View.write_emb_of_mem (v := mnV.access (Rect.unit (s := S16) ![0] S16.size inb_S16_S16_0)) (Val := Elt F) f _ (Finset.mem_univ (ix1 l))).trans ?_
  exact congrArg mv (Shape.reshapeEquiv_self _ _)

set_option maxHeartbeats 4000000 in
/-- The subcore's kernel. -/
theorem pass (g0 : FVec F S4096x16 .f32) (p0 : FVec F S32x16 .f32) (O : CellTallies nD τ sig (HIx 1)) (W : Waits sig (HIx 1))
    (fa0 : Buf (Elt F) (a0V.view.loc (V d (cV L) (jV L)))) (fm0 : Buf (Elt F) (m0V.view.loc (V d (cV L) (jV L)))) (fa1 : Buf (Elt F) (a1V.view.loc (V d (cV L) (jV L)))) (fm1 : Buf (Elt F) (m1V.view.loc (V d (cV L) (jV L))))
    (fd : FVec F S4x16 .f32) (fn : FVec F S16 .f32) :
    iprop(Transfers.MayWaits (V d (cV L) (jV L)) (default : HIx 1) O ∗ bigSep (Finset.univ : Finset (Fin k0_t1_loop.trips)) (fun g => src d L A M (ce g))
        ∗ bigSep (Finset.univ : Finset (Fin k0_t1_loop.trips)) (fun g => src d L A M (co g))
        ∗ bigSep (Finset.univ : Finset (Fin k0_t1_loop.trips)) (degs d L A g0 0)
        ∗ ((pRow L).view.loc (V d (cV L) (jV L)) ↦[(pRow L).view.set]{fullShare} p0)
        ∗ owes (V d (cV L) (jV L)) O W ∗ (a0V.view.loc (V d (cV L) (jV L)) ↦{fullShare} fa0) ∗ (m0V.view.loc (V d (cV L) (jV L)) ↦{fullShare} fm0) ∗ (a1V.view.loc (V d (cV L) (jV L)) ↦{fullShare} fa1) ∗ (m1V.view.loc (V d (cV L) (jV L)) ↦{fullShare} fm1)
        ∗ (dgV.view.loc (V d (cV L) (jV L)) ↦{fullShare} fd) ∗ (mnV.view.loc (V d (cV L) (jV L)) ↦{fullShare} fn) ∗ semVal ((V d (cV L) (jV L)), SemLoc.dma cc0_scratch6.sem) 0 ∗ semVal ((V d (cV L) (jV L)), SemLoc.dma cc0_scratch7.sem) 0 ∗ semVal ((V d (cV L) (jV L)), SemLoc.dma cc0_scoped0.sem) 0 ∗ semVal ((V d (cV L) (jV L)), SemLoc.dma cc0_scoped1.sem) 0 ∗ semVal ((V d (cV L) (jV L)), SemLoc.dma cc0_scoped2.sem) 0)
      ⊢ wp frame (wpE (defs₀ (F := F)) 𝒱₀ (V d (cV L) (jV L)) none) Set.univ (kernelAt (F := F) L) fun _ =>
          iprop(bigSep (Finset.univ : Finset (Fin k0_t1_loop.trips)) (fun g => src d L A M (ce g))
        ∗ bigSep (Finset.univ : Finset (Fin k0_t1_loop.trips)) (fun g => src d L A M (co g))
        ∗ bigSep (Finset.univ : Finset (Fin k0_t1_loop.trips)) (degs d L A g0 16)
        ∗ ((pRow L).view.loc (V d (cV L) (jV L)) ↦[(pRow L).view.set]{fullShare} pminG A M)
        ∗ owing d L O W ∗ (∃ f : Buf (Elt F) (a0V.view.loc (V d (cV L) (jV L))), (a0V.view.loc (V d (cV L) (jV L)) ↦{fullShare} f)) ∗ (∃ f : Buf (Elt F) (m0V.view.loc (V d (cV L) (jV L))), (m0V.view.loc (V d (cV L) (jV L)) ↦{fullShare} f)) ∗ (∃ f : Buf (Elt F) (a1V.view.loc (V d (cV L) (jV L))), (a1V.view.loc (V d (cV L) (jV L)) ↦{fullShare} f)) ∗ (∃ f : Buf (Elt F) (m1V.view.loc (V d (cV L) (jV L))), (m1V.view.loc (V d (cV L) (jV L)) ↦{fullShare} f))
        ∗ (∃ f : FVec F S4x16 .f32, (dgV.view.loc (V d (cV L) (jV L)) ↦{fullShare} f)) ∗ (∃ f : FVec F S16 .f32, (mnV.view.loc (V d (cV L) (jV L)) ↦{fullShare} f)) ∗ semVal ((V d (cV L) (jV L)), SemLoc.dma cc0_scratch6.sem) 0 ∗ semVal ((V d (cV L) (jV L)), SemLoc.dma cc0_scratch7.sem) 0 ∗ semVal ((V d (cV L) (jV L)), SemLoc.dma cc0_scoped0.sem) 0 ∗ semVal ((V d (cV L) (jV L)), SemLoc.dma cc0_scoped1.sem) 0 ∗ semVal ((V d (cV L) (jV L)), SemLoc.dma cc0_scoped2.sem) 0) := by
  unfold kernelAt
  rw [cc0__sc_pass1_eq_skeleton]
  unfold cc0__sc_pass1_skel
  simp only [Prog.lift, Prog.bind_op, Prog.bind_ret, Prog.pure_eq_ret, Prog.bind_assoc]
  iintro ⟨#Hmw, Hev, Hod, Hdg, Hp, HO, Ha0, Hm0, Ha1, Hm1, Hd, Hn, Hc0, Hc1, Hc2, Hc3, Hc4⟩
  ihave Hev := (evens_out d L A M ⟨0, by decide⟩) $$ Hev
  icases Hev with ⟨Hs, Hev⟩
  iapply (start0 d L A M (ce ⟨0, by decide⟩) _ _ (off1_ce L) fa0 fm0 _ _) $$ [Hs Ha0 Hm0 Hc0]
  · isplitl [Hs]; · iexact Hs
    isplitl [Ha0]; · iexact Ha0
    isplitl [Hm0]; · iexact Hm0
    iexact Hc0
  iintro HB
  sl_for (fun n mv => inv d L A M g0 O W n mv) $$ [HB Hev Hod Hdg HO Ha1 Hm1 Hd Hc1 Hc2 Hc3]
  case region =>
    intro k c
    exact trip d L A M _ g0 O W k c
  · unfold inv
    isplitr; · ipureintro; rfl
    isplitr; · iexact Hmw
    isplitl [HB]
    · unfold slot
      rw [dif_pos (by decide)]
      iexact HB
    isplitl [Hev]; · iexact Hev
    isplitl [Hod]; · iexact Hod
    isplitl [Hdg]; · iexact Hdg
    isplitl [HO]; · iapply (owing_intro d L O W W (fun p hp => .inl hp)); iexact HO
    isplitl [Ha1]; · iexists _; iexact Ha1
    isplitl [Hm1]; · iexists _; iexact Hm1
    isplitl [Hd]; · iexists _; iexact Hd
    isplitl [Hc1]; · iexact Hc1
    isplitl [Hc2]; · iexact Hc2
    iexact Hc3
  iintro %mv HI
  unfold inv
  icases HI with ⟨%hmv, -, Hslot, Hev, Hod, Hdg, HO, ⟨%fa1, Ha1⟩, ⟨%fm1, Hm1⟩, ⟨%f, Hb⟩, Hc1, Hc2, Hc3⟩
  ihave Hslot := (show slot d L A M k0_t1_loop.trips ⊢ iprop((∃ f : Buf (Elt F) (a0V.view.loc (V d (cV L) (jV L))), (a0V.view.loc (V d (cV L) (jV L)) ↦{fullShare} f)) ∗ (∃ f : Buf (Elt F) (m0V.view.loc (V d (cV L) (jV L))), (m0V.view.loc (V d (cV L) (jV L)) ↦{fullShare} f)) ∗ semVal ((V d (cV L) (jV L)), SemLoc.dma cc0_scratch6.sem) 0) from by unfold slot; rw [dif_neg (by decide)]) $$ Hslot
  icases Hslot with ⟨⟨%fa0, Ha0⟩, ⟨%fm0, Hm0⟩, Hc0⟩
  ihave Hev := (show evens d L A M k0_t1_loop.trips ⊢ bigSep (Finset.univ : Finset (Fin k0_t1_loop.trips)) (fun g => src d L A M (ce g)) from by unfold evens; rw [dif_neg (by decide)]) $$ Hev
  unfold owing
  icases HO with ⟨%W₁, %hW₁, HO⟩
  dsimp only
  ihave Hn := (Entails.of_eq (held_eq (F := F) d L cc0_scratch5 fn)) $$ Hn
  sl_step
  sl_step
  ihave Hn := (show ((mnV.access (Rect.unit (s := S16) ![0] S16.size inb_S16_S16_0)).loc (V d (cV L) (jV L)) ↦{fullShare} (View.write (Elt F) (mnV.access (Rect.unit (s := S16) ![0] S16.size inb_S16_S16_0)) fn (k0_pay3 mv) Finset.univ) : sProp 𝕄) ⊢ _
    from stored_min d L fn mv) $$ Hn
  icases Hn with ⟨%p, %hp, Hn⟩
  ihave Hp := (show ((pRow L).view.loc (V d (cV L) (jV L)) ↦[(pRow L).view.set]{fullShare} p0 : sProp 𝕄) ⊢ ((pRow L).view.loc (V d (cV L) (jV L)) ↦[(pRow L).view.set]{fullShare} p0) from .rfl) $$ Hp
  sl_exec
  sl_step
  isplitl [Hev]; · iexact Hev
  isplitl [Hod]; · iexact Hod
  isplitl [Hdg]; · iexact Hdg
  isplitl [Hp]
  · ihave Hp := (show ((pRow L).view.loc (V d (cV L) (jV L)) ↦[(pRow L).view.set]{fullShare} ((pRow L).view.writes (Elt F) p0 [⟨Rect.whole S16, pass.sl.dma0 p⟩]) : sProp 𝕄) ⊢ _
      from Entails.of_eq (minLanded d L A M mv hmv p hp p0)) $$ Hp
    iexact Hp
  isplitl [HO]
  · iexists _
    isplitr
    rotate_left
    · iexact HO
    ipureintro
    exact mem_insert_none hW₁ _
  isplitl [Ha0]; · iexists _; iexact Ha0
  isplitl [Hm0]; · iexists _; iexact Hm0
  isplitl [Ha1]; · iexists _; iexact Ha1
  isplitl [Hm1]; · iexists _; iexact Hm1
  isplitl [Hb]; · iexists _; iexact Hb
  isplitl [Hn]; · iexists _; iexact Hn
  isplitl [Hc0]; · iexact Hc0
  isplitl [Hc1]; · iexact Hc1
  isplitl [Hc2]; · iexact Hc2
  isplitl [Hc3]; · iexact Hc3
  iexact Hc4

end Trip

end Cert.Proof.Idealized

end
-- ==== Proof.Idealized.Tile.lean ====
/- One subcore's task: its pieces of the arrays in, the same pieces with its rows written out. -/
module

public import proofs.«01_k».proof.Proof.Idealized.Pass

@[expose] public section

noncomputable section

namespace Cert.Proof.Idealized

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Trip

variable (d : Dev nD) (L : grid0.Coords) (A M : FVec F S4096x4096 .f32)

omit [FloatOps F] in
/-- The five semaphores the task uses, and the rest of the subcore's own. -/
theorem ownSems0_V :
    (ownSems0 (V d (cV L) (jV L)) : sProp 𝕄)
      = iprop(semVal ((V d (cV L) (jV L), .dma cc0_scratch6.sem) : GSem nD τ sig) 0 ∗ semVal ((V d (cV L) (jV L), .dma cc0_scratch7.sem) : GSem nD τ sig) 0 ∗ semVal ((V d (cV L) (jV L), .dma cc0_scoped0.sem) : GSem nD τ sig) 0 ∗ semVal ((V d (cV L) (jV L), .dma cc0_scoped1.sem) : GSem nD τ sig) 0 ∗ semVal ((V d (cV L) (jV L), .dma cc0_scoped2.sem) : GSem nD τ sig) 0 ∗ bigSep ((((((ownCells (V d (cV L) (jV L))).erase ((V d (cV L) (jV L), .dma cc0_scratch6.sem) : GSem nD τ sig)).erase ((V d (cV L) (jV L), .dma cc0_scratch7.sem) : GSem nD τ sig)).erase ((V d (cV L) (jV L), .dma cc0_scoped0.sem) : GSem nD τ sig)).erase ((V d (cV L) (jV L), .dma cc0_scoped1.sem) : GSem nD τ sig)).erase ((V d (cV L) (jV L), .dma cc0_scoped2.sem) : GSem nD τ sig)) fun g => semVal g 0) := by
  unfold SparseCore.Cfg.ownSems0
  rw [SparseCore.bigSep_erase' ((mem_ownCells (g := ((V d (cV L) (jV L), .dma cc0_scratch6.sem) : GSem nD τ sig))).mpr ⟨rfl, by show (SemLoc.dma cc0_scratch6.sem : SemLoc sig).isScoped .scVector = true; decide⟩)]
  rw [SparseCore.bigSep_erase' (Finset.mem_erase.mpr ⟨fun e => absurd (congrArg Prod.snd e) (show ¬ (SemLoc.dma cc0_scratch7.sem : SemLoc sig) = SemLoc.dma cc0_scratch6.sem by decide), (mem_ownCells (g := ((V d (cV L) (jV L), .dma cc0_scratch7.sem) : GSem nD τ sig))).mpr ⟨rfl, by show (SemLoc.dma cc0_scratch7.sem : SemLoc sig).isScoped .scVector = true; decide⟩⟩)]
  rw [SparseCore.bigSep_erase' (Finset.mem_erase.mpr ⟨fun e => absurd (congrArg Prod.snd e) (show ¬ (SemLoc.dma cc0_scoped0.sem : SemLoc sig) = SemLoc.dma cc0_scratch7.sem by decide), Finset.mem_erase.mpr ⟨fun e => absurd (congrArg Prod.snd e) (show ¬ (SemLoc.dma cc0_scoped0.sem : SemLoc sig) = SemLoc.dma cc0_scratch6.sem by decide), (mem_ownCells (g := ((V d (cV L) (jV L), .dma cc0_scoped0.sem) : GSem nD τ sig))).mpr ⟨rfl, by show (SemLoc.dma cc0_scoped0.sem : SemLoc sig).isScoped .scVector = true; decide⟩⟩⟩)]
  rw [SparseCore.bigSep_erase' (Finset.mem_erase.mpr ⟨fun e => absurd (congrArg Prod.snd e) (show ¬ (SemLoc.dma cc0_scoped1.sem : SemLoc sig) = SemLoc.dma cc0_scoped0.sem by decide), Finset.mem_erase.mpr ⟨fun e => absurd (congrArg Prod.snd e) (show ¬ (SemLoc.dma cc0_scoped1.sem : SemLoc sig) = SemLoc.dma cc0_scratch7.sem by decide), Finset.mem_erase.mpr ⟨fun e => absurd (congrArg Prod.snd e) (show ¬ (SemLoc.dma cc0_scoped1.sem : SemLoc sig) = SemLoc.dma cc0_scratch6.sem by decide), (mem_ownCells (g := ((V d (cV L) (jV L), .dma cc0_scoped1.sem) : GSem nD τ sig))).mpr ⟨rfl, by show (SemLoc.dma cc0_scoped1.sem : SemLoc sig).isScoped .scVector = true; decide⟩⟩⟩⟩)]
  rw [SparseCore.bigSep_erase' (Finset.mem_erase.mpr ⟨fun e => absurd (congrArg Prod.snd e) (show ¬ (SemLoc.dma cc0_scoped2.sem : SemLoc sig) = SemLoc.dma cc0_scoped1.sem by decide), Finset.mem_erase.mpr ⟨fun e => absurd (congrArg Prod.snd e) (show ¬ (SemLoc.dma cc0_scoped2.sem : SemLoc sig) = SemLoc.dma cc0_scoped0.sem by decide), Finset.mem_erase.mpr ⟨fun e => absurd (congrArg Prod.snd e) (show ¬ (SemLoc.dma cc0_scoped2.sem : SemLoc sig) = SemLoc.dma cc0_scratch7.sem by decide), Finset.mem_erase.mpr ⟨fun e => absurd (congrArg Prod.snd e) (show ¬ (SemLoc.dma cc0_scoped2.sem : SemLoc sig) = SemLoc.dma cc0_scratch6.sem by decide), (mem_ownCells (g := ((V d (cV L) (jV L), .dma cc0_scoped2.sem) : GSem nD τ sig))).mpr ⟨rfl, by show (SemLoc.dma cc0_scoped2.sem : SemLoc sig).isScoped .scVector = true; decide⟩⟩⟩⟩⟩)]

omit [FloatOps F] in
/-- The six scratch buffers, at some contents, and the rest of the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩)]
  rw [SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩)]
  rw [SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]
  rw [SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]
  rw [SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩)]

/-- A subcore's pieces of the four arrays: its 128 rows of each square array, its rows of the sums and its row of the minima. -/
def TileAt (G : FVec F S4096x16 .f32) (N : FVec F S32x16 .f32) : sProp 𝕄 :=
  iprop((bigSep (Finset.univ : Finset (Fin k0_t1_loop.trips)) fun g => src d L A M (ce g))
    ∗ (bigSep (Finset.univ : Finset (Fin k0_t1_loop.trips)) fun g => src d L A M (co g))
    ∗ (bigSep (Finset.univ : Finset (Fin k0_t1_loop.trips)) fun g => iprop(((degE L g).view.loc (V d (cV L) (jV L)) ↦[(degE L g).view.set]{fullShare} G) ∗ ((degO L g).view.loc (V d (cV L) (jV L)) ↦[(degO L g).view.set]{fullShare} G)))
    ∗ ((pRow L).view.loc (V d (cV L) (jV L)) ↦[(pRow L).view.set]{fullShare} N))

theorem degs_start (g0 : FVec F S4096x16 .f32) :
    (bigSep (Finset.univ : Finset (Fin k0_t1_loop.trips)) fun g => iprop(((degE L g).view.loc (V d (cV L) (jV L)) ↦[(degE L g).view.set]{fullShare} g0) ∗ ((degO L g).view.loc (V d (cV L) (jV L)) ↦[(degO L g).view.set]{fullShare} g0)))
      ⊢ bigSep (Finset.univ : Finset (Fin k0_t1_loop.trips)) (degs d L A g0 0) := by
  refine Entails.of_eq (bigSep_congr fun g _ => ?_)
  unfold degs
  rw [if_neg (Nat.not_lt_zero _)]

theorem degs_end (g0 : FVec F S4096x16 .f32) :
    bigSep (Finset.univ : Finset (Fin k0_t1_loop.trips)) (degs d L A g0 16)
      ⊢ bigSep (Finset.univ : Finset (Fin k0_t1_loop.trips)) fun g => iprop(((degE L g).view.loc (V d (cV L) (jV L)) ↦[(degE L g).view.set]{fullShare} degG A) ∗ ((degO L g).view.loc (V d (cV L) (jV L)) ↦[(degO L g).view.set]{fullShare} degG A)) := by
  refine Entails.of_eq (bigSep_congr fun g _ => ?_)
  unfold degs
  rw [if_pos (show g.val < 16 from g.isLt)]

set_option maxHeartbeats 4000000 in
/-- The task on vector subcore `(L 0, L 1)` of device `d`. -/
theorem tile_body (hF : (K (F := F)).Facts) (g0 : FVec F S4096x16 .f32) (p0 : FVec F S32x16 .f32) (O : CellTallies nD τ sig (HIx 1)) (W : Waits sig (HIx 1)) (hO : ∀ g, O g none = 0) :
    iprop(levAts (K (F := F)).L (K (F := F)).lev ∗ emp ∗ TileAt d L A M g0 p0 ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kernelAt (F := F) L) fun _ => iprop(TileAt d L A M (degG A) (pminG A M) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold TileAt
  iintro ⟨#Hlv, -, ⟨Hev, Hod, Hdg, Hp⟩, ⟨⟨%f0, H0⟩, ⟨%f1, H1⟩, ⟨%f2, H2⟩, ⟨%f3, H3⟩, ⟨%f4, H4⟩, ⟨%f5, H5⟩, Hbufs⟩, ⟨Hc0, Hc1, Hc2, Hc3, Hc4, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hdg := (degs_start d L A g0) $$ Hdg
  ihave H0 := (Entails.of_eq (held_eq (F := F) d L cc0_scratch0 f0)) $$ H0
  ihave H1 := (Entails.of_eq (held_eq (F := F) d L cc0_scratch1 f1)) $$ H1
  ihave H2 := (Entails.of_eq (held_eq (F := F) d L cc0_scratch2 f2)) $$ H2
  ihave H3 := (Entails.of_eq (held_eq (F := F) d L cc0_scratch3 f3)) $$ H3
  ihave H4 := (Entails.of_eq (held_eq (F := F) d L cc0_scratch4 f4)) $$ H4
  ihave H5 := (Entails.of_eq (held_eq (F := F) d L cc0_scratch5 f5)) $$ H5
  ihave HX := (pass d L A M g0 p0 O W f0 f1 f2 f3 f4 f5) $$ [Hmw Hev Hod Hdg Hp HO H0 H1 H2 H3 H4 H5 Hc0 Hc1 Hc2 Hc3 Hc4]
  · isplitl [Hmw]; · iexact Hmw
    isplitl [Hev]; · iexact Hev
    isplitl [Hod]; · iexact Hod
    isplitl [Hdg]; · iexact Hdg
    isplitl [Hp]; · iexact Hp
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [Hc0]; · iexact Hc0
    isplitl [Hc1]; · iexact Hc1
    isplitl [Hc2]; · iexact Hc2
    isplitl [Hc3]; · iexact Hc3
    iexact Hc4
  iapply (wp_wand frame (wpE (defs₀ (F := F)) 𝒱₀ (V d (cV L) (jV L)) none) Set.univ) $$ [HX]
  · iexact HX
  iintro %_ ⟨Hev, Hod, Hdg, Hp, HO, H0, H1, H2, H3, H4, H5, Hc0, Hc1, Hc2, Hc3, Hc4⟩
  ihave Hdg := (degs_end d L A g0) $$ Hdg
  isplitl [Hev Hod Hdg Hp]
  · isplitl [Hev]; · iexact Hev
    isplitl [Hod]; · iexact Hod
    isplitl [Hdg]; · iexact Hdg
    iexact Hp
  isplitl [H0 H1 H2 H3 H4 H5 Hbufs]
  · isplitl [H0]; · iexact H0
    isplitl [H1]; · iexact H1
    isplitl [H2]; · iexact H2
    isplitl [H3]; · iexact H3
    isplitl [H4]; · iexact H4
    isplitl [H5]; · iexact H5
    iexact Hbufs
  isplitl [Hc0 Hc1 Hc2 Hc3 Hc4 Hsems]
  · isplitl [Hc0]; · iexact Hc0
    isplitl [Hc1]; · iexact Hc1
    isplitl [Hc2]; · iexact Hc2
    isplitl [Hc3]; · iexact Hc3
    isplitl [Hc4]; · iexact Hc4
    iexact Hsems
  unfold owing
  iexact HO

end Trip

end Cert.Proof.Idealized

end
-- ==== Proof.Idealized.Split.lean ====
/- The four arrays of the SparseCore call split among the subcores. -/
module

public import proofs.«01_k».proof.Proof.Idealized.Tile

@[expose] public section

noncomputable section

namespace Cert.Proof.Idealized

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Trip

abbrev adjLoc (d : Dev nD) : Loc nD τ sig := (SparseCore.T d).loc main_arg0
abbrev mgLoc (d : Dev nD) : Loc nD τ sig := (SparseCore.T d).loc main_arg2
abbrev degLoc (d : Dev nD) : Loc nD τ sig := (SparseCore.T d).loc main_v0_0
abbrev pmnLoc (d : Dev nD) : Loc nD τ sig := (SparseCore.T d).loc main_v0_1

/-- A subcore's coordinates. -/
def coordsV (c : Fin (grid0.bound 0)) (s : Fin (grid0.bound 1)) : grid0.Coords :=
  fun | 0 => c | 1 => s | ⟨_ + 2, h⟩ => absurd h (Nat.not_lt.2 (Nat.le_add_left _ _))

/-! ### The arrays split by rows -/

omit [FloatOps F] in
/-- An array of 4096 rows as its four-row windows, subcore by subcore, even chunks and odd chunks apart. -/
theorem split_rows {ℓ : Loc nD τ sig} (f : Buf (Elt F) ℓ) (row : Idx ℓ → ℕ) (hrow : ∀ x, row x < 4096)
    (SE SO : Fin 2 → Fin 16 → Fin k0_t1_loop.trips → Finset (Idx ℓ))
    (hE : ∀ c i k x, x ∈ SE c i k ↔ 256 * i.val + 128 * c.val + 4 * (2 * k.val) ≤ row x ∧ row x < 256 * i.val + 128 * c.val + 4 * (2 * k.val) + 4)
    (hO : ∀ c i k x, x ∈ SO c i k ↔ 256 * i.val + 128 * c.val + 4 * (2 * k.val + 1) ≤ row x ∧ row x < 256 * i.val + 128 * c.val + 4 * (2 * k.val + 1) + 4) :
    (ℓ ↦{fullShare} f : sProp 𝕄) = bigSep Finset.univ fun c : Fin 2 => bigSep Finset.univ fun i : Fin 16 =>
      iprop((bigSep Finset.univ fun g : Fin k0_t1_loop.trips => ℓ ↦[SE c i g]{fullShare} f) ∗ (bigSep Finset.univ fun g : Fin k0_t1_loop.trips => ℓ ↦[SO c i g]{fullShare} f)) := by
  classical
  let U : Fin 2 × Fin 16 × (Fin k0_t1_loop.trips ⊕ Fin k0_t1_loop.trips) → Finset (Idx ℓ) := fun p => match p.2.2 with | .inl g => SE p.1 p.2.1 g | .inr g => SO p.1 p.2.1 g
  have hlt : ∀ g : Fin k0_t1_loop.trips, g.val < 16 := fun g => g.isLt
  have hU : (Finset.univ : Finset (Fin 2 × Fin 16 × (Fin k0_t1_loop.trips ⊕ Fin k0_t1_loop.trips))).biUnion U = Finset.univ := by
    refine Finset.eq_univ_iff_forall.mpr fun x => ?_
    have hx := hrow x
    refine Finset.mem_biUnion.mpr ?_
    by_cases h : row x / 4 % 2 = 0
    · refine ⟨(⟨row x / 128 % 2, by omega⟩, ⟨row x / 256, by omega⟩, .inl ⟨row x % 128 / 8, show _ < 16 by omega⟩), Finset.mem_univ _, (hE _ _ _ _).mpr ⟨?_, ?_⟩⟩ <;> simp only <;> omega
    · refine ⟨(⟨row x / 128 % 2, by omega⟩, ⟨row x / 256, by omega⟩, .inr ⟨row x % 128 / 8, show _ < 16 by omega⟩), Finset.mem_univ _, (hO _ _ _ _).mpr ⟨?_, ?_⟩⟩ <;> simp only <;> omega
  have hdis : ∀ p ∈ (Finset.univ : Finset (Fin 2 × Fin 16 × (Fin k0_t1_loop.trips ⊕ Fin k0_t1_loop.trips))), ∀ p' ∈ (Finset.univ : Finset (Fin 2 × Fin 16 × (Fin k0_t1_loop.trips ⊕ Fin k0_t1_loop.trips))), p ≠ p' → Disjoint (U p) (U p') := by
    rintro ⟨c, i, k⟩ - ⟨c', i', k'⟩ - hne
    refine Finset.disjoint_left.mpr fun x hx hx' => hne ?_
    have hc := c.isLt; have hc' := c'.isLt
    rcases k with k | k <;> rcases k' with k' | k'
    · have h := (hE c i k x).mp hx; have h' := (hE c' i' k' x).mp hx'; have hk := hlt k; have hk' := hlt k'
      have e1 : c = c' := Fin.ext (by omega)
      have e2 : i = i' := Fin.ext (by omega)
      have e3 : k = k' := Fin.ext (by omega)
      rw [e1, e2, e3]
    · have h := (hE c i k x).mp hx; have h' := (hO c' i' k' x).mp hx'; have hk := hlt k; have hk' := hlt k'
      omega
    · have h := (hO c i k x).mp hx; have h' := (hE c' i' k' x).mp hx'; have hk := hlt k; have hk' := hlt k'
      omega
    · have h := (hO c i k x).mp hx; have h' := (hO c' i' k' x).mp hx'; have hk := hlt k; have hk' := hlt k'
      have e1 : c = c' := Fin.ext (by omega)
      have e2 : i = i' := Fin.ext (by omega)
      have e3 : k = k' := Fin.ext (by omega)
      rw [e1, e2, e3]
  rw [← hU, pointsTo_biUnion Finset.univ (ℓ := ℓ) U hdis, bigSep_univ_prod]
  refine bigSep_congr fun c _ => ?_
  rw [bigSep_univ_prod]
  refine bigSep_congr fun i _ => ?_
  exact bigSep_univ_sum _

omit [FloatOps F] in
/-- The array of minima as its 32 rows. -/
theorem split_mins {ℓ : Loc nD τ sig} (f : Buf (Elt F) ℓ) (row : Idx ℓ → ℕ) (hrow : ∀ x, row x < 32)
    (SR : Fin 2 → Fin 16 → Finset (Idx ℓ)) (hS : ∀ c i x, x ∈ SR c i ↔ row x = 2 * i.val + c.val) :
    (ℓ ↦{fullShare} f : sProp 𝕄) = bigSep Finset.univ fun c : Fin 2 => bigSep Finset.univ fun i : Fin 16 => ℓ ↦[SR c i]{fullShare} f := by
  classical
  have hU : (Finset.univ : Finset (Fin 2 × Fin 16)).biUnion (fun p => SR p.1 p.2) = Finset.univ := by
    refine Finset.eq_univ_iff_forall.mpr fun x => ?_
    have hx := hrow x
    refine Finset.mem_biUnion.mpr ⟨(⟨row x % 2, by omega⟩, ⟨row x / 2, by omega⟩), Finset.mem_univ _, (hS _ _ _).mpr ?_⟩
    simp only; omega
  have hdis : ∀ p ∈ (Finset.univ : Finset (Fin 2 × Fin 16)), ∀ p' ∈ (Finset.univ : Finset (Fin 2 × Fin 16)), p ≠ p' → Disjoint (SR p.1 p.2) (SR p'.1 p'.2) := by
    rintro ⟨c, i⟩ - ⟨c', i'⟩ - hne
    refine Finset.disjoint_left.mpr fun x hx hx' => hne ?_
    have hc := c.isLt; have hc' := c'.isLt
    have h := (hS c i x).mp hx; have h' := (hS c' i' x).mp hx'
    have e1 : c = c' := Fin.ext (by omega)
    have e2 : i = i' := Fin.ext (by omega)
    rw [e1, e2]
  rw [← hU, pointsTo_biUnion Finset.univ (ℓ := ℓ) (fun p : Fin 2 × Fin 16 => SR p.1 p.2) hdis, bigSep_univ_prod]

omit [FloatOps F] in
theorem mem_aWin (R : ℕ) (h : R + 4 ≤ 4096) (x : S4096x4096.Idx) : x ∈ (aWin R h).view.set ↔ R ≤ (x 0).val ∧ (x 0).val < R + 4 := by
  show x ∈ ((View.whole (main_arg0_scv : Ref sig .scVector)).slice (Rect.unit (s := S4096x4096) ![R, 0] S4x4096.size (win_inb h))).set ↔ _
  rw [View.set_slice, show ((Rect.unit (s := S4096x4096) ![R, 0] S4x4096.size (win_inb h)).set.map (View.whole (main_arg0_scv : Ref sig .scVector)).emb) = (Rect.unit (s := S4096x4096) ![R, 0] S4x4096.size (win_inb h)).set from Finset.map_refl, Rect.mem_set_unit]
  exact ⟨fun H => H 0, fun H a => match a with | 0 => H | 1 => ⟨Nat.zero_le _, by have := (x 1).isLt; show (x 1).val < 0 + 4096; simpa using this⟩⟩

omit [FloatOps F] in
theorem mem_mWin (R : ℕ) (h : R + 4 ≤ 4096) (x : S4096x4096.Idx) : x ∈ (mWin R h).view.set ↔ R ≤ (x 0).val ∧ (x 0).val < R + 4 := by
  show x ∈ ((View.whole (main_arg2_scv : Ref sig .scVector)).slice (Rect.unit (s := S4096x4096) ![R, 0] S4x4096.size (win_inb h))).set ↔ _
  rw [View.set_slice, show ((Rect.unit (s := S4096x4096) ![R, 0] S4x4096.size (win_inb h)).set.map (View.whole (main_arg2_scv : Ref sig .scVector)).emb) = (Rect.unit (s := S4096x4096) ![R, 0] S4x4096.size (win_inb h)).set from Finset.map_refl, Rect.mem_set_unit]
  exact ⟨fun H => H 0, fun H a => match a with | 0 => H | 1 => ⟨Nat.zero_le _, by have := (x 1).isLt; show (x 1).val < 0 + 4096; simpa using this⟩⟩

omit [FloatOps F] in
theorem mem_degWin (R : ℕ) (off : Fin 2 → ℕ) (inb : ∀ a, off a + S4x16.size a ≤ S4096x16.size a) (hoff : off = ![R, 0]) (x : S4096x16.Idx) :
    x ∈ (degV.slice (Rect.unit (s := S4096x16) off S4x16.size inb) (fun _ => rfl)).view.set ↔ R ≤ (x 0).val ∧ (x 0).val < R + 4 := by
  subst hoff
  show x ∈ ((View.whole (main_v0_0_scv : Ref sig .scVector)).slice (Rect.unit (s := S4096x16) ![R, 0] S4x16.size inb)).set ↔ _
  rw [View.set_slice, show ((Rect.unit (s := S4096x16) ![R, 0] S4x16.size inb).set.map (View.whole (main_v0_0_scv : Ref sig .scVector)).emb) = (Rect.unit (s := S4096x16) ![R, 0] S4x16.size inb).set from Finset.map_refl, Rect.mem_set_unit]
  exact ⟨fun H => H 0, fun H a => match a with | 0 => H | 1 => ⟨Nat.zero_le _, by have := (x 1).isLt; show (x 1).val < 0 + 16; simpa using this⟩⟩

omit [FloatOps F] in
theorem mem_pRow (L : grid0.Coords) (x : S32x16.Idx) : x ∈ (pRow L).view.set ↔ (x 0).val = 2 * (L 1).val + (L 0).val := by
  show x ∈ (((View.whole (main_v0_1_scv : Ref sig .scVector)).slice (Rect.unit (s := S32x16) (k0_off13 L) S1x16.size (k0_off13_inb L))).reshape S16 squeezes_S1x16_S16.numel_eq).set ↔ _
  rw [View.set_reshape, View.set_slice, show ((Rect.unit (s := S32x16) (k0_off13 L) S1x16.size (k0_off13_inb L)).set.map (View.whole (main_v0_1_scv : Ref sig .scVector)).emb) = (Rect.unit (s := S32x16) (k0_off13 L) S1x16.size (k0_off13_inb L)).set from Finset.map_refl, Rect.mem_set_unit]
  have h0 : k0_off13 L 0 = 2 * (L 1).val + (L 0).val := congrFun (k0_off13_eq L) 0
  have h1 : k0_off13 L 1 = 0 := congrFun (k0_off13_eq L) 1
  constructor
  · intro H
    have h : k0_off13 L 0 ≤ (x 0).val ∧ (x 0).val < k0_off13 L 0 + 1 := H 0
    omega
  · intro H a
    match a with
    | 0 => exact (show k0_off13 L 0 ≤ (x 0).val ∧ (x 0).val < k0_off13 L 0 + 1 by omega)
    | 1 => exact (show k0_off13 L 1 ≤ (x 1).val ∧ (x 1).val < k0_off13 L 1 + 16 by have : (x 1).val < 16 := (x 1).isLt; omega)

omit [FloatOps F] in
theorem adj_rows (d : Dev nD) (f : FVec F S4096x4096 .f32) :
    (adjLoc d ↦{fullShare} f : sProp 𝕄) = bigSep Finset.univ fun c : Fin 2 => bigSep Finset.univ fun i : Fin 16 =>
      iprop((bigSep Finset.univ fun g : Fin k0_t1_loop.trips => (aWin (rowOf (coordsV c i) (ce g).val) (rowOf_le (coordsV c i) (ce g).isLt)).view.loc (V d (cV (coordsV c i)) (jV (coordsV c i))) ↦[(aWin (rowOf (coordsV c i) (ce g).val) (rowOf_le (coordsV c i) (ce g).isLt)).view.set]{fullShare} f)
        ∗ (bigSep Finset.univ fun g : Fin k0_t1_loop.trips => (aWin (rowOf (coordsV c i) (co g).val) (rowOf_le (coordsV c i) (co g).isLt)).view.loc (V d (cV (coordsV c i)) (jV (coordsV c i))) ↦[(aWin (rowOf (coordsV c i) (co g).val) (rowOf_le (coordsV c i) (co g).isLt)).view.set]{fullShare} f)) :=
  split_rows (ℓ := adjLoc d) f (fun x => (x 0).val) (fun x => (x 0).isLt) (fun c i g => (aWin (rowOf (coordsV c i) (ce g).val) (rowOf_le (coordsV c i) (ce g).isLt)).view.set) (fun c i g => (aWin (rowOf (coordsV c i) (co g).val) (rowOf_le (coordsV c i) (co g).isLt)).view.set)
    (fun c i g x => mem_aWin _ _ x) (fun c i g x => mem_aWin _ _ x)

omit [FloatOps F] in
theorem mg_rows (d : Dev nD) (f : FVec F S4096x4096 .f32) :
    (mgLoc d ↦{fullShare} f : sProp 𝕄) = bigSep Finset.univ fun c : Fin 2 => bigSep Finset.univ fun i : Fin 16 =>
      iprop((bigSep Finset.univ fun g : Fin k0_t1_loop.trips => (mWin (rowOf (coordsV c i) (ce g).val) (rowOf_le (coordsV c i) (ce g).isLt)).view.loc (V d (cV (coordsV c i)) (jV (coordsV c i))) ↦[(mWin (rowOf (coordsV c i) (ce g).val) (rowOf_le (coordsV c i) (ce g).isLt)).view.set]{fullShare} f)
        ∗ (bigSep Finset.univ fun g : Fin k0_t1_loop.trips => (mWin (rowOf (coordsV c i) (co g).val) (rowOf_le (coordsV c i) (co g).isLt)).view.loc (V d (cV (coordsV c i)) (jV (coordsV c i))) ↦[(mWin (rowOf (coordsV c i) (co g).val) (rowOf_le (coordsV c i) (co g).isLt)).view.set]{fullShare} f)) :=
  split_rows (ℓ := mgLoc d) f (fun x => (x 0).val) (fun x => (x 0).isLt) (fun c i g => (mWin (rowOf (coordsV c i) (ce g).val) (rowOf_le (coordsV c i) (ce g).isLt)).view.set) (fun c i g => (mWin (rowOf (coordsV c i) (co g).val) (rowOf_le (coordsV c i) (co g).isLt)).view.set)
    (fun c i g x => mem_mWin _ _ x) (fun c i g x => mem_mWin _ _ x)

omit [FloatOps F] in
theorem deg_rows (d : Dev nD) (f : FVec F S4096x16 .f32) :
    (degLoc d ↦{fullShare} f : sProp 𝕄) = bigSep Finset.univ fun c : Fin 2 => bigSep Finset.univ fun i : Fin 16 =>
      iprop((bigSep Finset.univ fun g : Fin k0_t1_loop.trips => (degE (coordsV c i) g).view.loc (V d (cV (coordsV c i)) (jV (coordsV c i))) ↦[(degE (coordsV c i) g).view.set]{fullShare} f)
        ∗ (bigSep Finset.univ fun g : Fin k0_t1_loop.trips => (degO (coordsV c i) g).view.loc (V d (cV (coordsV c i)) (jV (coordsV c i))) ↦[(degO (coordsV c i) g).view.set]{fullShare} f)) :=
  split_rows (ℓ := degLoc d) f (fun x => (x 0).val) (fun x => (x 0).isLt) (fun c i g => (degE (coordsV c i) g).view.set) (fun c i g => (degO (coordsV c i) g).view.set)
    (fun c i g x => mem_degWin _ _ _ (off7_ce (coordsV c i) g) x) (fun c i g x => mem_degWin _ _ _ (off7_co (coordsV c i) g) x)

omit [FloatOps F] in
theorem pmn_rows (d : Dev nD) (f : FVec F S32x16 .f32) :
    (pmnLoc d ↦{fullShare} f : sProp 𝕄) = bigSep Finset.univ fun c : Fin 2 => bigSep Finset.univ fun i : Fin 16 =>
      ((pRow (coordsV c i)).view.loc (V d (cV (coordsV c i)) (jV (coordsV c i))) ↦[(pRow (coordsV c i)).view.set]{fullShare} f) :=
  split_mins (ℓ := pmnLoc d) f (fun x => (x 0).val) (fun x => (x 0).isLt) (fun c i => (pRow (coordsV c i)).view.set) (fun c i x => mem_pRow (coordsV c i) x)

omit [FloatOps F] in
theorem regroup₁ (a b c d e f g : sProp 𝕄) : iprop((a ∗ b) ∗ (c ∗ d) ∗ (e ∗ f) ∗ g) ⊢ iprop((a ∗ c) ∗ (b ∗ d) ∗ (e ∗ f) ∗ g) := by
  iintro ⟨⟨HA, HB⟩, ⟨HC, HD⟩, HE, HG⟩
  isplitl [HA HC]
  · isplitl [HA]; · iexact HA
    iexact HC
  isplitl [HB HD]
  · isplitl [HB]; · iexact HB
    iexact HD
  isplitl [HE]; · iexact HE
  iexact HG

omit [FloatOps F] in
theorem regroup (a b c d e f g : sProp 𝕄) : (iprop((a ∗ b) ∗ (c ∗ d) ∗ (e ∗ f) ∗ g) : sProp 𝕄) = iprop((a ∗ c) ∗ (b ∗ d) ∗ (e ∗ f) ∗ g) :=
  BI.Entails.antisymm (regroup₁ a b c d e f g) (regroup₁ a c b d e f g)

/-- The four arrays whole are every subcore's pieces of them. -/
theorem whole_eq (d : Dev nD) (A M : FVec F S4096x4096 .f32) (G : FVec F S4096x16 .f32) (N : FVec F S32x16 .f32) :
    (iprop((adjLoc d ↦{fullShare} A) ∗ (mgLoc d ↦{fullShare} M) ∗ (degLoc d ↦{fullShare} G) ∗ (pmnLoc d ↦{fullShare} N)) : sProp 𝕄)
      = bigSep Finset.univ fun c : Fin 2 => bigSep Finset.univ fun i : Fin 16 => TileAt d (coordsV c i) A M G N := by
  rw [adj_rows, mg_rows, deg_rows, pmn_rows]
  unfold TileAt src
  simp only [bigSep_sep']
  exact regroup _ _ _ _ _ _ _

end Trip

end Cert.Proof.Idealized

end
-- ==== Proof.Idealized.Call.lean ====
/- The SparseCore call: what it takes and gives, and its task's obligation. -/
module

public import proofs.«01_k».proof.Proof.Idealized.Split

@[expose] public section

noncomputable section

namespace Cert.Proof.Idealized

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Trip

/-! ### What the call's signals carry -/

variable (m : (ℓ : Loc nD τ sig) → Buf (Elt F) ℓ)

/-- A subcore's pieces as the call finds them. -/
@[irreducible] def tIn (d : Dev nD) (c : Fin 2) (i : Fin 16) : sProp 𝕄 := TileAt (F := F) d (coordsV c i) (m (adjLoc d)) (m (mgLoc d)) (m (degLoc d)) (m (pmnLoc d))
/-- A subcore's pieces as the call leaves them. -/
@[irreducible] def tOut (d : Dev nD) (c : Fin 2) (i : Fin 16) : sProp 𝕄 :=
  TileAt (F := F) d (coordsV c i) (m (adjLoc d)) (m (mgLoc d)) (degG (m (adjLoc d))) (pminG (m (adjLoc d)) (m (mgLoc d)))

instance tileAt_storable (d : Dev nD) (L : grid0.Coords) (A M : FVec F S4096x4096 .f32) (G : FVec F S4096x16 .f32) (N : FVec F S32x16 .f32) :
    BI.Storable (upEmb : UEmb _ 𝕄) (TileAt d L A M G N) := by
  unfold TileAt src
  infer_instance

instance tIn_storable (d : Dev nD) (c : Fin 2) (i : Fin 16) : BI.Storable (upEmb : UEmb _ 𝕄) (tIn m d c i) := by
  unfold tIn
  infer_instance
instance tOut_storable (d : Dev nD) (c : Fin 2) (i : Fin 16) : BI.Storable (upEmb : UEmb _ 𝕄) (tOut m d c i) := by
  unfold tOut
  infer_instance

/-- A core's pieces as the call finds them. -/
@[irreducible] def coreIn (d : Dev nD) (c : Fin 2) : sProp 𝕄 := bigSep Finset.univ fun i : Fin 16 => tIn m d c i
/-- A core's pieces as the call leaves them. -/
@[irreducible] def coreOut (d : Dev nD) (c : Fin 2) : sProp 𝕄 := bigSep Finset.univ fun i : Fin 16 => tOut m d c i

instance coreIn_storable (d : Dev nD) (c : Fin 2) : BI.Storable (upEmb : UEmb _ 𝕄) (coreIn m d c) := by
  unfold coreIn
  infer_instance
instance coreOut_storable (d : Dev nD) (c : Fin 2) : BI.Storable (upEmb : UEmb _ 𝕄) (coreOut m d c) := by
  unfold coreOut
  infer_instance

/-- Each core takes and brings back its subcores' pieces; each subcore its own. -/
def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tIn m d (Fin.cast nCore_zero c) (Fin.cast nSub_zero i)
  td := fun q d c i => match q with | 0 => tOut m d (Fin.cast nCore_zero c) (Fin.cast nSub_zero i)
  x := fun _ _ => iprop(emp)

instance P_storable : (P (F := F) m).IsStorable where
  st q d c := match q with
    | 0 => (inferInstance : BI.Storable (upEmb : UEmb _ 𝕄) (coreIn m d (Fin.cast nCore_zero c)))
  dn q d c := match q with
    | 0 => (inferInstance : BI.Storable (upEmb : UEmb _ 𝕄) (coreOut m d (Fin.cast nCore_zero c)))
  go q d c i := match q with
    | 0 => (inferInstance : BI.Storable (upEmb : UEmb _ 𝕄) (tIn m d (Fin.cast nCore_zero c) (Fin.cast nSub_zero i)))
  td q d c i := match q with
    | 0 => (inferInstance : BI.Storable (upEmb : UEmb _ 𝕄) (tOut m d (Fin.cast nCore_zero c) (Fin.cast nSub_zero i)))

theorem defs₀_vector (c : Fin τ.nSC) (s : Fin τ.nSub) :
    defs₀ (F := F) (.scVector c s) 0 () = SparseCore.onTile hcore0 hsub0 (fun c s => kernelAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

theorem tile_in_out (d : Dev nD) (c : Fin 2) (i : Fin 16) (hF : (K (F := F)).Facts) (O : CellTallies nD τ sig (HIx 1)) (W : Waits sig (HIx 1)) (hO : ∀ g, O g none = 0) (q : Fin 1) :
    iprop(levAts (K (F := F)).L (K (F := F)).lev ∗ emp ∗ tIn m d c i ∗ scopedBufs (V d (cV (coordsV c i)) (jV (coordsV c i)))
        ∗ scopedSems0 (V d (cV (coordsV c i)) (jV (coordsV c i))) ∗ owes (V d (cV (coordsV c i)) (jV (coordsV c i))) O W)
      ⊢ wp frame (wpE (defs₀ (F := F)) 𝒱₀ (V d (cV (coordsV c i)) (jV (coordsV c i))) none) Set.univ (kernelAt (F := F) (coordsV c i))
          fun _ => iprop(tOut m d c i ∗ scopedBufs (V d (cV (coordsV c i)) (jV (coordsV c i))) ∗ scopedSems0 (V d (cV (coordsV c i)) (jV (coordsV c i)))
            ∗ ∃ W', ⌜∀ p ∈ W', p ∈ W ∨ p.2 = none ∨ p.2 = some q⌝ ∗ owes (V d (cV (coordsV c i)) (jV (coordsV c i))) O W') := by
  unfold tIn tOut
  exact (tile_body d (coordsV c i) (m (adjLoc d)) (m (mgLoc d)) hF (m (degLoc d)) (m (pmnLoc d)) O W hO).trans (wp_mono frame _ _ fun _ => obl_post)

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_in_out m d (Fin.cast nCore_zero c) (Fin.cast nSub_zero i) hF O W hO 0

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show coreIn m d (Fin.cast nCore_zero c) ⊢ |={Set.univ}=> iprop(
      (bigSep Finset.univ fun i : Fin ((K (F := F)).nSub 0) => tIn m d (Fin.cast nCore_zero c) (Fin.cast nSub_zero i))
      ∗ ((bigSep Finset.univ fun i : Fin ((K (F := F)).nSub 0) => tOut m d (Fin.cast nCore_zero c) (Fin.cast nSub_zero i)) -∗ coreOut m d (Fin.cast nCore_zero c)))
  rw [bigSep_tasks (F := F) (fun i => tIn m d (Fin.cast nCore_zero c) i), bigSep_tasks (F := F) (fun i => tOut m d (Fin.cast nCore_zero c) i)]
  unfold coreIn coreOut
  iintro H
  imodintro
  isplitl [H]; · iexact H
  iintro H
  iexact H

/-- What the call takes. -/
theorem st0_eq (d : Dev nD) : (bigSep Finset.univ fun c : Fin ((K (F := F)).nCore 0) => (P m).st 0 d c)
    = iprop((adjLoc d ↦{fullShare} m (adjLoc d)) ∗ (mgLoc d ↦{fullShare} m (mgLoc d)) ∗ (degLoc d ↦{fullShare} m (degLoc d)) ∗ (pmnLoc d ↦{fullShare} m (pmnLoc d))) := by
  refine (bigSep_cores (F := F) (fun c => coreIn m d c)).trans ?_
  unfold coreIn tIn
  exact (whole_eq d (m (adjLoc d)) (m (mgLoc d)) (m (degLoc d)) (m (pmnLoc d))).symm

/-- What the call gives back: the sums and the minima written. -/
theorem dn0_eq (d : Dev nD) : (bigSep Finset.univ fun c : Fin ((K (F := F)).nCore 0) => (P m).dn 0 d c)
    = iprop((adjLoc d ↦{fullShare} m (adjLoc d)) ∗ (mgLoc d ↦{fullShare} m (mgLoc d)) ∗ (degLoc d ↦{fullShare} degG (m (adjLoc d))) ∗ (pmnLoc d ↦{fullShare} pminG (m (adjLoc d)) (m (mgLoc d)))) := by
  refine (bigSep_cores (F := F) (fun c => coreOut m d c)).trans ?_
  unfold coreOut tOut
  exact (whole_eq d (m (adjLoc d)) (m (mgLoc d)) (degG (m (adjLoc d))) (pminG (m (adjLoc d)) (m (mgLoc d)))).symm

end Trip

end Cert.Proof.Idealized

end
-- ==== Proof.Idealized.Main.lean ====
/- The program on the TensorCore: the SparseCore call, then the two regions, from the launch's arrays to the results. -/
module

public import proofs.«01_k».proof.Proof.Idealized.SegB
public import proofs.«01_k».proof.Proof.Idealized.Call
public import Idealize.ShloMosaic.Lib.SparseCore.Quiescent

@[expose] public section

noncomputable section

namespace Cert.Proof.Idealized

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat RDat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable [∀ e, Nonempty (Elt F e)]
variable (m : (ℓ : Loc nD τ sig) → Buf (Elt F) ℓ) (ρ : Dev nD → PrngReg)

abbrev pins (p : Fin 2) := Pipeline.pin (pcfgs (F := F)) adm p

theorem pins_inj : Function.Injective (Pipeline.cellOf (nD := nD) (τ := τ) (pins (F := F))) := cellOf_inj

/-- A region's ghost state as the launch deals it to a device. -/
abbrev dealt (p : Fin 2) (d : Dev nD) : sProp 𝕄 :=
  iprop(Pipeline.cellsGhost (pins (F := F)) EP p d ∗ Pipeline.toksInit (pins (F := F)) EP p d)

theorem callA (V : Held F) (d : Dev nD) (Φ : PUnit → sProp 𝕄) :
    iprop((iprop(boundary (T d) ∗ (((d : Thread nD τ).loc main_arg0 ↦{fullShare} V d main_arg0) ∗ ((d : Thread nD τ).loc main_arg1 ↦{fullShare} V d main_arg1)
        ∗ ((d : Thread nD τ).loc main_v1_0 ↦{fullShare} (datA (heldA V) d).arrAt 3 cfg1.N) ∗ ((d : Thread nD τ).loc main_v1_1 ↦{fullShare} (datA (heldA V) d).arrAt 4 cfg1.N) ∗ idle (F := F) d)) -∗ Φ ⟨⟩) ∗ boundary (T d) ∗ (((d : Thread nD τ).loc main_arg0 ↦{fullShare} V d main_arg0) ∗ ((d : Thread nD τ).loc main_arg1 ↦{fullShare} V d main_arg1)
        ∗ ((d : Thread nD τ).loc main_v1_0 ↦{fullShare} V d main_v1_0) ∗ ((d : Thread nD τ).loc main_v1_1 ↦{fullShare} V d main_v1_1) ∗ idle (F := F) d) ∗ levAts (K (F := F)).L (K (F := F)).lev ∗ dealt (F := F) 0 d)
      ⊢ wp frame (wpE ((K (F := F)).defs (D (F := F))) 𝒱 (T d) none) Set.univ
          (Prog.lift (.customCall (SparseCore.inner (Pipeline.entry 0)) ())) Φ := by
  have h := Pipeline.RegionSeg.wp (pcfgs (F := F)) adm (datsA V) none pins_inj EP defs₀ 𝒱₀ (K (F := F)).L (K (F := F)).lev (segA V) d none
    (fun _ hu => nomatch hu) .ret Φ
  refine (?_ : _ ⊢ _).trans (h.trans ((K (F := F)).wp_liftProg (D (F := F)) 𝒱 (T d) Set.univ none _ Φ))
  iintro ⟨Hk, Hb, Hp, Hl, Hg, Ht⟩
  isplitl [Hk]
  · iintro H
    rw [wp_ret]; imodintro
    iapply Hk; iexact H
  isplitl [Hb]; · iexact Hb
  isplitl [Hp]
  · iapply (show iprop(((d : Thread nD τ).loc main_arg0 ↦{fullShare} V d main_arg0) ∗ ((d : Thread nD τ).loc main_arg1 ↦{fullShare} V d main_arg1)
        ∗ ((d : Thread nD τ).loc main_v1_0 ↦{fullShare} V d main_v1_0) ∗ ((d : Thread nD τ).loc main_v1_1 ↦{fullShare} V d main_v1_1) ∗ idle (F := F) d) ⊢ (segA V).pre d from .rfl)
    iexact Hp
  isplitl [Hl]; · iexact Hl
  isplitl [Hg] <;> iassumption

theorem callB (V : Held F) (d : Dev nD) (Φ : PUnit → sProp 𝕄) :
    iprop((iprop(boundary (T d) ∗ (((d : Thread nD τ).loc main_arg0 ↦{fullShare} V d main_arg0) ∗ ((d : Thread nD τ).loc main_arg2 ↦{fullShare} V d main_arg2)
        ∗ ((d : Thread nD τ).loc main_v2_0 ↦{fullShare} (datB V d).arrAt 4 cfg2.N) ∗ idle (F := F) d)) -∗ Φ ⟨⟩) ∗ boundary (T d) ∗ (((d : Thread nD τ).loc main_arg0 ↦{fullShare} V d main_arg0)
        ∗ ((d : Thread nD τ).loc main_arg2 ↦{fullShare} V d main_arg2)
        ∗ ((d : Thread nD τ).loc main_v0_0 ↦{fullShare} V d main_v0_0)
        ∗ ((d : Thread nD τ).loc main_v0_1 ↦{fullShare} V d main_v0_1)
        ∗ ((d : Thread nD τ).loc main_v2_0 ↦{fullShare} V d main_v2_0)
        ∗ ((d : Thread nD τ).loc main_v2_1 ↦{fullShare} V d main_v2_1)
        ∗ ((d : Thread nD τ).loc main_v2_2 ↦{fullShare} V d main_v2_2) ∗ idle (F := F) d) ∗ levAts (K (F := F)).L (K (F := F)).lev ∗ dealt (F := F) 1 d)
      ⊢ wp frame (wpE ((K (F := F)).defs (D (F := F))) 𝒱 (T d) none) Set.univ
          (Prog.lift (.customCall (SparseCore.inner (Pipeline.entry 1)) ())) Φ := by
  have h := Pipeline.RDat.RegionSeg.wp (pcfgs (F := F)) adm (Pipeline.toRsF (pcfgs (F := F)) adm (datsB V) fgts) none pins_inj EP defs₀ 𝒱₀
    (K (F := F)).L (K (F := F)).lev (segB V) d none (fun _ hu => nomatch hu) .ret Φ
  refine (?_ : _ ⊢ _).trans (h.trans ((K (F := F)).wp_liftProg (D (F := F)) 𝒱 (T d) Set.univ none _ Φ))
  iintro ⟨Hk, Hb, Hp, Hl, Hg, Ht⟩
  isplitl [Hk]
  · iintro H
    rw [wp_ret]; imodintro
    iapply Hk; iexact H
  isplitl [Hb]; · iexact Hb
  isplitl [Hp]
  · iapply (show iprop(((d : Thread nD τ).loc main_arg0 ↦{fullShare} V d main_arg0)
        ∗ ((d : Thread nD τ).loc main_arg2 ↦{fullShare} V d main_arg2)
        ∗ ((d : Thread nD τ).loc main_v0_0 ↦{fullShare} V d main_v0_0)
        ∗ ((d : Thread nD τ).loc main_v0_1 ↦{fullShare} V d main_v0_1)
        ∗ ((d : Thread nD τ).loc main_v2_0 ↦{fullShare} V d main_v2_0)
        ∗ ((d : Thread nD τ).loc main_v2_1 ↦{fullShare} V d main_v2_1)
        ∗ ((d : Thread nD τ).loc main_v2_2 ↦{fullShare} V d main_v2_2) ∗ idle (F := F) d) ⊢ (segB V).pre d from .rfl)
    iexact Hp
  isplitl [Hl]; · iexact Hl
  isplitl [Hg] <;> iassumption

/-- What the arrays hold when the first TensorCore call runs: what they held at the launch. -/
def heldM : Held F := fun c b => m ((c : Thread nD τ).loc b)

/-- And the second: the SparseCore call's two results have been written. -/
def heldN : Held F := fun c =>
  Function.update (Function.update (fun b => m ((c : Thread nD τ).loc b)) main_v0_0 (degG (m (adjLoc c)))) main_v0_1 (pminG (m (adjLoc c)) (m (mgLoc c)))

theorem heldN_deg (c : Dev nD) : heldN m c main_v0_0 = degG (m (adjLoc c)) := by
  unfold heldN; rw [Function.update_of_ne (by decide), Function.update_self]
theorem heldN_pmn (c : Dev nD) : heldN m c main_v0_1 = pminG (m (adjLoc c)) (m (mgLoc c)) := by
  unfold heldN; rw [Function.update_self]
theorem heldN_other (c : Dev nD) (b : Ref sig .tc) (h0 : b ≠ main_v0_0) (h1 : b ≠ main_v0_1) : heldN m c b = m ((c : Thread nD τ).loc b) := by
  unfold heldN; rw [Function.update_of_ne h1, Function.update_of_ne h0]

/-- The two results. -/
def adjRes (d : Dev nD) : Buf (Elt F) ((T d : Thread nD τ).loc main_v1_0) := (datA (heldA (heldM m)) d).arrAt 3 cfg1.N
def scoreRes (d : Dev nD) : Buf (Elt F) ((T d : Thread nD τ).loc main_v2_0) := (datB (heldN m) d).arrAt 4 cfg2.N

/-- What the TensorCore holds at the end: the seven arguments as launched and the two results. -/
abbrev FIN (d : Dev nD) : sProp 𝕄 :=
  iprop(((T d : Thread nD τ).loc main_arg0 ↦{fullShare} m ((T d : Thread nD τ).loc main_arg0)) ∗ ((T d : Thread nD τ).loc main_arg1 ↦{fullShare} m ((T d : Thread nD τ).loc main_arg1))
    ∗ ((T d : Thread nD τ).loc main_arg2 ↦{fullShare} m ((T d : Thread nD τ).loc main_arg2)) ∗ ((T d : Thread nD τ).loc main_arg3 ↦{fullShare} m ((T d : Thread nD τ).loc main_arg3))
    ∗ ((T d : Thread nD τ).loc main_arg4 ↦{fullShare} m ((T d : Thread nD τ).loc main_arg4)) ∗ ((T d : Thread nD τ).loc main_arg5 ↦{fullShare} m ((T d : Thread nD τ).loc main_arg5))
    ∗ ((T d : Thread nD τ).loc main_arg6 ↦{fullShare} m ((T d : Thread nD τ).loc main_arg6)) ∗ ((T d : Thread nD τ).loc main_v1_0 ↦{fullShare} adjRes m d)
    ∗ ((T d : Thread nD τ).loc main_v2_0 ↦{fullShare} scoreRes m d))

theorem unscopedBufs_eq (d : Dev nD) (W : (b : Ref sig .tc) → Buf (Elt F) ((d.tc : Thread nD τ).loc b)) :
    (unscopedBufs d W : sProp 𝕄) = iprop(((T d : Thread nD τ).loc main_arg0 ↦{fullShare} W main_arg0) ∗ ((T d : Thread nD τ).loc main_arg1 ↦{fullShare} W main_arg1)
      ∗ ((T d : Thread nD τ).loc main_arg2 ↦{fullShare} W main_arg2) ∗ ((T d : Thread nD τ).loc main_arg3 ↦{fullShare} W main_arg3)
      ∗ ((T d : Thread nD τ).loc main_arg4 ↦{fullShare} W main_arg4) ∗ ((T d : Thread nD τ).loc main_arg5 ↦{fullShare} W main_arg5)
      ∗ ((T d : Thread nD τ).loc main_arg6 ↦{fullShare} W main_arg6) ∗ ((T d : Thread nD τ).loc main_v0_0 ↦{fullShare} W main_v0_0)
      ∗ ((T d : Thread nD τ).loc main_v0_1 ↦{fullShare} W main_v0_1) ∗ ((T d : Thread nD τ).loc main_v1_0 ↦{fullShare} W main_v1_0)
      ∗ ((T d : Thread nD τ).loc main_v1_1 ↦{fullShare} W main_v1_1) ∗ ((T d : Thread nD τ).loc main_v2_0 ↦{fullShare} W main_v2_0)
      ∗ ((T d : Thread nD τ).loc main_v2_1 ↦{fullShare} W main_v2_1) ∗ ((T d : Thread nD τ).loc main_v2_2 ↦{fullShare} W main_v2_2)) := by
  unfold unscopedBufs
  rw [show (Finset.univ.filter fun b : Ref sig .tc => ¬ b.isScoped) = {main_arg0, main_arg1, main_arg2, main_arg3, main_arg4, main_arg5, main_arg6, main_v0_0,
      main_v0_1, main_v1_0, main_v1_1, main_v2_0, main_v2_1, main_v2_2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The program on device `d`'s TensorCore. -/
theorem hmain (κ : GSem nD τ sig → ℕ) (d : Dev nD) :
    iprop((K (F := F)).ctx EH (P m) κ ∗ (K (F := F)).tcSt EH d 0 ∗ (K (F := F)).tcRes m ρ d ∗ dealt (F := F) 0 d ∗ dealt (F := F) 1 d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, H5, H6, Hd, Hm, Ha, Hn, Hs, Hv, Hi⟩, Hts, -⟩, GA, GB⟩
  iapply ((K (F := F)).wp_run (D (F := F)) 𝒱 (EH := EH) (P := P m) κ d 0) $$ [Hst H0 H1 H2 H3 H4 H5 H6 Hd Hm Ha Hn Hs Hv Hi Hb Hts GA GB]
  isplitr; · iexact Hctx
  isplitl [Hst]; · iexact Hst
  isplitl [H0 H2 Hd Hm]
  · rw [st0_eq]
    isplitl [H0]; · iexact H0
    isplitl [H2]; · iexact H2
    isplitl [Hd]; · iexact Hd
    iexact Hm
  iintro ⟨Hst, Hdn⟩
  ihave Hdn' := (Entails.of_eq (dn0_eq m d)) $$ Hdn
  icases Hdn' with ⟨H0, H2, Hd, Hm⟩
  ihave #Hlev := (SparseCore.Cfg.ctx_levAts κ) $$ Hctx
  ihave Hst1 := (show ((K (F := F)).tcSt EH d ((0 : Fin 1).val + 1) : sProp 𝕄) ⊢ (K (F := F)).tcSt EH d 1 from .rfl) $$ Hst
  ihave Hst' := (show ((K (F := F)).tcSt EH d 1 : sProp 𝕄) ⊢ iprop(idle (F := F) d ∗ (idle (F := F) d -∗ (K (F := F)).tcSt EH d 1)) from by
    unfold SparseCore.Cfg.tcSt idle
    rw [SparseCore.Cfg.Otc_end _ _ (le_refl 1)]
    iintro ⟨HO, Hr⟩
    isplitl [HO]; · iexact HO
    iintro HO
    isplitl [HO]; · iexact HO
    iexact Hr) $$ Hst1
  icases Hst' with ⟨HO, Hst⟩
  iapply (callA (heldM m) d _)
  isplitr [Hb H0 H1 Ha Hn HO GA]
  · iintro ⟨Hb, H0, H1, Ha, -, HO⟩
    iapply (callB (heldN m) d _)
    isplitr [Hb H0 H2 Hd Hm Hs Hv Hi HO GB]
    · iintro ⟨Hb, H0, H2, Hs, HO⟩
      imodintro
      isplitl [Hst HO]; · iapply Hst; iexact HO
      isplitr [Hb Hts]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [Ha]; · iexact Ha
        iexact Hs
      isplitl [Hb] <;> iassumption
    isplitl [Hb]; · iexact Hb
    isplitr [GB]
    · rw [heldN_deg, heldN_pmn, heldN_other m d main_arg0 (by decide) (by decide), heldN_other m d main_arg2 (by decide) (by decide),
        heldN_other m d main_v2_0 (by decide) (by decide), heldN_other m d main_v2_1 (by decide) (by decide), heldN_other m d main_v2_2 (by decide) (by decide)]
      isplitl [H0]; · iexact H0
      isplitl [H2]; · iexact H2
      isplitl [Hd]; · iexact Hd
      isplitl [Hm]; · iexact Hm
      isplitl [Hs]; · iexact Hs
      isplitl [Hv]; · iexact Hv
      isplitl [Hi]; · iexact Hi
      iexact HO
    isplitr; · iexact Hlev
    iexact GB
  isplitl [Hb]; · iexact Hb
  isplitr [GA]
  · isplitl [H0]; · iexact H0
    isplitl [H1]; · iexact H1
    isplitl [Ha]; · iexact Ha
    isplitl [Hn]; · iexact Hn
    iexact HO
  isplitr; · iexact Hlev
  iexact GA

end Cert.Proof.Idealized

end
-- ==== Proof.Idealized.Run.lean ====
/- The whole program's run: it ends on every device with the arguments as they were, the two results written and every
   semaphore at zero. -/
module

public import proofs.«01_k».proof.Proof.Idealized.Main

@[expose] public section

noncomputable section

namespace Cert.Proof.Idealized

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat RDat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable [∀ e, Nonempty (Elt F e)]
variable (m : (ℓ : Loc nD τ sig) → Buf (Elt F) ℓ) (ρ : Dev nD → PrngReg)

/-- The launch element: the staging cells' rounds, the calls' handshakes, no transfer counted. -/
def u₀ : UU := (initOf (Pipeline.cells (pins (F := F)) pins_inj) (Pipeline.launchToks (pins (F := F)) pins_inj),
  (initOf (K (F := F)).hsCells (K (F := F)).hsToks, 1))

theorem bigSep_pair {M : Type} [URA M] (Φ : Fin 2 → sProp M) : bigSep Finset.univ Φ = iprop(Φ 0 ∗ Φ 1) :=
  bigSep_univ_eq_bigSepL [(0 : Fin 2), (1 : Fin 2)] (by decide) (by decide) Φ

theorem dealt_both (d : Dev nD) : (bigSep Finset.univ fun p => Pipeline.cellsGhost (pins (F := F)) EP p d : sProp 𝕄)
      ∗ (bigSep Finset.univ fun p => Pipeline.toksInit (pins (F := F)) EP p d) ⊢ iprop(dealt (F := F) 0 d ∗ dealt (F := F) 1 d) := by
  rw [bigSep_pair, bigSep_pair]
  iintro ⟨⟨A0, A1⟩, ⟨B0, B1⟩⟩
  isplitl [A0 B0]
  · isplitl [A0]
    · iexact A0
    iexact B0
  isplitl [A1]
  · iexact A1
  iexact B1

theorem hu₀ : (ownU (u₀ (F := F)) : sProp 𝕄)
    ⊢ |={Set.univ}=> iprop(BI.own (EH (initOf (K (F := F)).hsCells (K (F := F)).hsToks))
        ∗ (bigSep Finset.univ fun d : Dev nD => iprop(dealt (F := F) 0 d ∗ dealt (F := F) 1 d))
        ∗ bigSep Finset.univ fun thr : Thread nD τ => bigSep Finset.univ fun q : Fin 1 => (P m).x q thr) := by
  unfold u₀
  iintro Hu
  ihave H := (ownU_pair _ _) $$ Hu
  icases H with ⟨HP, HR⟩
  ihave HR' := (own_pair_emb _ _ _) $$ HR
  icases HR' with ⟨HH, -⟩
  imod (Pipeline.fund_ghost (pins (F := F)) EP pins_inj) $$ HP with ⟨Hg, Ht⟩
  imodintro
  isplitl [HH]; · iexact HH
  isplitl [Hg Ht]
  · iapply (show iprop((bigSep Finset.univ fun c : Dev nD => bigSep Finset.univ fun p => Pipeline.cellsGhost (pins (F := F)) EP p c)
        ∗ (bigSep Finset.univ fun c : Dev nD => bigSep Finset.univ fun p => Pipeline.toksInit (pins (F := F)) EP p c))
        ⊢ (bigSep Finset.univ fun d : Dev nD => iprop(dealt (F := F) 0 d ∗ dealt (F := F) 1 d) : sProp 𝕄) from by
      rw [← bigSep_sep']
      exact bigSep_mono fun d _ => dealt_both d)
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-- What is read off the final state. -/
def fq (d : Dev nD) (s' : Phys nD τ sig (Elt F)) : Prop :=
  s'.mem.mem ((T d : Thread nD τ).loc main_v1_0) = adjRes m d ∧ s'.mem.mem ((T d : Thread nD τ).loc main_v2_0) = scoreRes m d
    ∧ s'.mem.mem ((T d : Thread nD τ).loc main_arg0) = m ((T d : Thread nD τ).loc main_arg0) ∧ s'.mem.mem ((T d : Thread nD τ).loc main_arg1) = m ((T d : Thread nD τ).loc main_arg1)
    ∧ s'.mem.mem ((T d : Thread nD τ).loc main_arg2) = m ((T d : Thread nD τ).loc main_arg2) ∧ s'.mem.mem ((T d : Thread nD τ).loc main_arg3) = m ((T d : Thread nD τ).loc main_arg3)
    ∧ s'.mem.mem ((T d : Thread nD τ).loc main_arg4) = m ((T d : Thread nD τ).loc main_arg4) ∧ s'.mem.mem ((T d : Thread nD τ).loc main_arg5) = m ((T d : Thread nD τ).loc main_arg5)
    ∧ s'.mem.mem ((T d : Thread nD τ).loc main_arg6) = m ((T d : Thread nD τ).loc main_arg6)

/-- A buffer held whole is what the state has it at. -/
theorem read_whole (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, H6, Ha, Hs⟩, HSI⟩
  ihave H := (read_whole s' _ _) $$ [HSI H0]
  · isplitl [HSI] <;> iassumption
  icases H with ⟨%h0, HSI⟩
  ihave H := (read_whole s' _ _) $$ [HSI H1]
  · isplitl [HSI] <;> iassumption
  icases H with ⟨%h1, HSI⟩
  ihave H := (read_whole s' _ _) $$ [HSI H2]
  · isplitl [HSI] <;> iassumption
  icases H with ⟨%h2, HSI⟩
  ihave H := (read_whole s' _ _) $$ [HSI H3]
  · isplitl [HSI] <;> iassumption
  icases H with ⟨%h3, HSI⟩
  ihave H := (read_whole s' _ _) $$ [HSI H4]
  · isplitl [HSI] <;> iassumption
  icases H with ⟨%h4, HSI⟩
  ihave H := (read_whole s' _ _) $$ [HSI H5]
  · isplitl [HSI] <;> iassumption
  icases H with ⟨%h5, HSI⟩
  ihave H := (read_whole s' _ _) $$ [HSI H6]
  · isplitl [HSI] <;> iassumption
  icases H with ⟨%h6, HSI⟩
  ihave H := (read_whole s' _ _) $$ [HSI Ha]
  · isplitl [HSI] <;> iassumption
  icases H with ⟨%ha, HSI⟩
  ihave H := (read_whole s' _ _) $$ [HSI Hs]
  · isplitl [HSI] <;> iassumption
  icases H with ⟨%hs, HSI⟩
  ipureintro
  exact ⟨ha, hs, h0, h1, h2, h3, h4, h5, h6⟩

/-- What the run ends with. -/
def QC : PUnit × MemSt nD τ sig (Elt F) → Prop := fun r =>
  (∀ d : Dev nD, r.2.mem ((T d : Thread nD τ).loc main_v1_0) = adjRes m d ∧ r.2.mem ((T d : Thread nD τ).loc main_v2_0) = scoreRes m d
    ∧ r.2.mem ((T d : Thread nD τ).loc main_arg0) = m ((T d : Thread nD τ).loc main_arg0) ∧ r.2.mem ((T d : Thread nD τ).loc main_arg1) = m ((T d : Thread nD τ).loc main_arg1)
    ∧ r.2.mem ((T d : Thread nD τ).loc main_arg2) = m ((T d : Thread nD τ).loc main_arg2) ∧ r.2.mem ((T d : Thread nD τ).loc main_arg3) = m ((T d : Thread nD τ).loc main_arg3)
    ∧ r.2.mem ((T d : Thread nD τ).loc main_arg4) = m ((T d : Thread nD τ).loc main_arg4) ∧ r.2.mem ((T d : Thread nD τ).loc main_arg5) = m ((T d : Thread nD τ).loc main_arg5)
    ∧ r.2.mem ((T d : Thread nD τ).loc main_arg6) = m ((T d : Thread nD τ).loc main_arg6))
  ∧ r.2.sem = fun _ => 0

theorem run_main : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => iprop(dealt (F := F) 0 d ∗ dealt (F := F) 1 d)) (FIN m) (u₀ (F := F)) (sep_elim_left.trans (hu₀ m)) (hmain m ρ) (fq m) (hfin m) (QC m) (fun _ h hz => ⟨h, hz⟩)

end Cert.Proof.Idealized

end
-- ==== Proof.Value.Sums.lean ====
/- What the SparseCore call leaves, over the extended reals: a row's sixteen partial sums add up to the row's sum, and the
   smallest of the tiles' partial minima is the smallest score. -/
module

public import proofs.«01_k».proof.Proof.Idealized.Pass
public import Idealize.ShloMosaic.PureOps.Ideal.Laws

@[expose] public section

noncomputable section

namespace Cert.Proof.Value

open Cert.KernelIdeal Cert.KernelIdeal.Gen Cert.Proof.Idealized

open Idealize.ShloMosaic
open Idealize.ShloMosaic.ValueIdx (ix1 ix2 eq_ix1 eq_ix2)

theorem lit_zero : Ideal.ofBits .f32 0x00000000#32 = 0 := by simp [Ideal.ofBits, Ideal.ieee]
theorem lit_one : Ideal.ofBits .f32 0x3F800000#32 = 1 := by
  simp [Ideal.ofBits, Ideal.ieee]
  rw [← EReal.coe_mul]; norm_num <;> rfl
theorem lit_two : Ideal.ofBits .f32 0x40000000#32 = 2 := by
  simp [Ideal.ofBits, Ideal.ieee]
  rw [← EReal.coe_mul]; norm_num <;> rfl
theorem lit_neg_one : Ideal.ofBits .f32 0xBF800000#32 = -1 := by
  simp [Ideal.ofBits, Ideal.ieee]
  rw [← EReal.coe_mul]; norm_num <;> rfl
theorem lit_neg_two : Ideal.ofBits .f32 0xC0000000#32 = -2 := by
  simp [Ideal.ofBits, Ideal.ieee]
  rw [← EReal.coe_mul]; norm_num <;> rfl
theorem lit_inf : Ideal.ofBits .f32 0x7F800000#32 = ⊤ := by simp [Ideal.ofBits, Ideal.ieee]

/-- The score of one entry, before the smallest is taken off. -/
def gain (A M : FVec Ideal S4096x4096 .f32) (i : S4096x4096.Idx) : EReal := M i * (1 - 2 * A i)

theorem lanes_apply (X : FVec Ideal S4096x4096 .f32) (R k : ℕ) (l : Fin 16) (hR : R < 4096) (hk : k < 256) :
    lanes X R k (ix1 l) = X (ix2 ⟨R, hR⟩ ⟨l.val + 16 * k, by omega⟩) := by
  unfold lanes
  refine congrArg X (congrArg₂ ix2 (Fin.ext (Nat.mod_eq_of_lt hR)) (Fin.ext ?_))
  show (16 * k + l.val) % 4096 = l.val + 16 * k
  omega

theorem rowSum_eq (X : FVec Ideal S4096x4096 .f32) (R n : ℕ) (l : Fin 16) :
    rowSum X R n (ix1 l) = ∑ k ∈ Finset.range n, (lanes X R k (ix1 l) : EReal) := by
  induction n with
  | zero => rw [Finset.range_zero, Finset.sum_empty]; exact lit_zero
  | succ n ih => rw [Finset.sum_range_succ, ← ih]; rfl

/-- A row's partial sums add up to the sum of the row. -/
theorem sum_degG (X : FVec Ideal S4096x4096 .f32) (R : Fin 4096) :
    ∑ l : Fin 16, (degG X (ix2 R l) : EReal) = ∑ j : Fin 4096, X (ix2 R j) := by
  have e : ∑ j : Fin 4096, X (ix2 R j) = ∑ p : Fin 256 × Fin 16, X (ix2 R ⟨p.2.val + 16 * p.1.val, by have := p.1.isLt; have := p.2.isLt; omega⟩) :=
    (Equiv.sum_comp (finProdFinEquiv : Fin 256 × Fin 16 ≃ Fin (256 * 16)) (fun j : Fin 4096 => X (ix2 R j))).symm
  rw [e, Fintype.sum_prod_type_right]
  refine Finset.sum_congr rfl fun l _ => ?_
  show rowSum X R.val 256 (ix1 l) = _
  rw [rowSum_eq, Finset.sum_range]
  exact Finset.sum_congr rfl fun k _ => lanes_apply X R.val k.val l R.isLt k.isLt

/-- The score read off the lanes. -/
def laneGain (A M : FVec Ideal S4096x4096 .f32) (R k : ℕ) (l : Fin 16) : EReal :=
  lanes M R k (ix1 l) * (1 - 2 * lanes A R k (ix1 l))

theorem step_min (x y s : FVec Ideal S16 .f32) (z : FVec Ideal S16 .f32) (l : Fin 16) :
    (stepV x y (z, s)).2 (ix1 l) = min (s (ix1 l) : EReal) (y (ix1 l) * (1 - 2 * x (ix1 l))) := by
  show min (s (ix1 l) : EReal) (y (ix1 l) * (Ideal.ofBits .f32 0x3F800000#32 - Ideal.ofBits .f32 0x40000000#32 * x (ix1 l))) = _
  rw [lit_one, lit_two]

theorem le_rowMin (A M : FVec Ideal S4096x4096 .f32) (R n : ℕ) (mv : FVec Ideal S16 .f32) (l : Fin 16) (x : EReal) :
    x ≤ rowMin A M R mv n (ix1 l) ↔ x ≤ mv (ix1 l) ∧ ∀ k < n, x ≤ laneGain A M R k l := by
  induction n with
  | zero => exact ⟨fun h => ⟨h, fun k hk => absurd hk (Nat.not_lt_zero k)⟩, fun h => h.1⟩
  | succ n ih =>
    show x ≤ (stepV (lanes A R n) (lanes M R n) ((zero16 : FVec Ideal S16 .f32), rowMin A M R mv n)).2 (ix1 l) ↔ _
    rw [step_min, le_min_iff, ih]
    exact ⟨fun h => ⟨h.1.1, fun k hk => (Nat.lt_succ_iff_lt_or_eq.1 hk).elim (h.1.2 k) fun e => e ▸ h.2⟩,
      fun h => ⟨⟨h.1, fun k hk => h.2 k (Nat.lt_succ_of_lt hk)⟩, h.2 n (Nat.lt_succ_self n)⟩⟩

theorem le_tileMin (A M : FVec Ideal S4096x4096 .f32) (B n : ℕ) (l : Fin 16) (x : EReal) :
    x ≤ tileMin A M B n (ix1 l) ↔ ∀ r < n, ∀ k < 256, x ≤ laneGain A M (B + r) k l := by
  induction n with
  | zero =>
    refine ⟨fun _ r hr => absurd hr (Nat.not_lt_zero r), fun _ => ?_⟩
    show x ≤ Ideal.ofBits .f32 0x7F800000#32
    rw [lit_inf]; exact le_top
  | succ n ih =>
    show x ≤ rowMin A M (B + n) (tileMin A M B n) 256 (ix1 l) ↔ _
    rw [le_rowMin, ih]
    exact ⟨fun h r hr => (Nat.lt_succ_iff_lt_or_eq.1 hr).elim (h.1 r) fun e => e ▸ h.2,
      fun h => ⟨fun r hr => h r (Nat.lt_succ_of_lt hr), h n (Nat.lt_succ_self n)⟩⟩

/-- Below every partial minimum is below every score. -/
theorem le_pminG (A M : FVec Ideal S4096x4096 .f32) (x : EReal) :
    (∀ i : S32x16.Idx, x ≤ pminG A M i) ↔ ∀ i : S4096x4096.Idx, x ≤ gain A M i := by
  have lg : ∀ (R k : ℕ) (l : Fin 16) (hR : R < 4096) (hk : k < 256), laneGain A M R k l = gain A M (ix2 ⟨R, hR⟩ ⟨l.val + 16 * k, by omega⟩) := by
    intro R k l hR hk
    unfold laneGain gain
    rw [lanes_apply M R k l hR hk, lanes_apply A R k l hR hk]
  constructor
  · intro h i
    rw [eq_ix2 i]
    have hi : (i 0).val < 4096 := (i 0).isLt
    have hj : (i 1).val < 4096 := (i 1).isLt
    have h1 := h (ix2 ⟨(i 0).val / 128, by omega⟩ ⟨(i 1).val % 16, by omega⟩)
    have h2 := (le_tileMin A M (128 * ((i 0).val / 128)) 128 ⟨(i 1).val % 16, by omega⟩ x).1 h1 ((i 0).val % 128) (by omega) ((i 1).val / 16) (by omega)
    rw [lg _ _ _ (by omega) (by omega)] at h2
    refine h2.trans_eq (congrArg (gain A M) (congrArg₂ ix2 (Fin.ext ?_) (Fin.ext ?_)))
    · show 128 * ((i 0).val / 128) + (i 0).val % 128 = (i 0).val; omega
    · show (i 1).val % 16 + 16 * ((i 1).val / 16) = (i 1).val; omega
  · intro h i
    have hi : (i 0).val < 32 := (i 0).isLt
    show x ≤ tileMin A M (128 * (i 0).val) 128 (ix1 _)
    rw [le_tileMin]
    intro r hr k hk
    rw [lg _ _ _ (by omega) hk]
    exact h _

end Cert.Proof.Value

end
-- ==== Proof.Value.Payload.lean ====
/- The two TensorCore calls' blocks, entry by entry, over the extended reals. -/
module

public import proofs.«01_k».proof.Proof.Idealized.Blocks
public import proofs.«01_k».proof.Proof.Value.Sums
public import Idealize.ShloMosaic.Lib.ValueIdx

@[expose] public section

noncomputable section

namespace Cert.Proof.Value

open Cert.KernelIdeal Cert.KernelIdeal.Gen Cert.Proof.Idealized

open Idealize.ShloMosaic
open Idealize.ShloMosaic.ValueIdx (ix1 ix2 eq_ix1 eq_ix2)

/-- A value held between -1 and 1. -/
def clip1 (x : EReal) : EReal := min 1 (max (-1) x)

/-- A value held between 0 and 1. -/
def clip0 (x : EReal) : EReal := min 1 (max 0 x)

/-- One at one, else zero. -/
def isOne (x : EReal) : EReal := if x = 1 then 1 else 0

theorem word_eq (p b q : ℕ) (hp : p < 256) (hb : b < 16) (hq : q < 4096) :
    IntOp.cmpi .eq (IntOp.addi (BitVec.ofNat 32 p) (Scalar.muli (BitVec.ofNat 32 b) 256#32)) (BitVec.ofNat 32 q) = BitVec.ofBool (decide (p + 256 * b = q)) := by
  show BitVec.ofBool (BitVec.ofNat 32 p + BitVec.ofNat 32 b * 256#32 == BitVec.ofNat 32 q) = _
  congr 1
  rw [Bool.eq_iff_iff, beq_iff_eq, decide_eq_true_iff, ← BitVec.toNat_inj]
  simp only [BitVec.toNat_add, BitVec.toNat_mul, BitVec.toNat_ofNat]
  omega

theorem select_decide {α : Type} (P : Prop) [Decidable P] (a b : α) : Scalar.select (BitVec.ofBool (decide P)) a b = if P then a else b := by
  by_cases h : P <;> simp [h, Scalar.select]

theorem cast_col {n : ℕ} {α : Type} (x : (⟨1, ![n]⟩ : Shape).Idx → α) (h : (⟨1, ![n]⟩ : Shape).ShapeCasts ⟨2, ![n, 1]⟩) (p : Fin n) (z : Fin 1) :
    shapeCast ⟨2, ![n, 1]⟩ x h (ix2 p z) = x (ix1 p) :=
  shapeCast_apply x h _ _ (by
    rw [Shape.rowMajor_val_two, Shape.rowMajor_val_one]
    show p.val = p.val * 1 + z.val
    have := z.isLt; omega)

theorem cast_row {n : ℕ} {α : Type} (x : (⟨1, ![n]⟩ : Shape).Idx → α) (h : (⟨1, ![n]⟩ : Shape).ShapeCasts ⟨2, ![1, n]⟩) (z : Fin 1) (q : Fin n) :
    shapeCast ⟨2, ![1, n]⟩ x h (ix2 z q) = x (ix1 q) :=
  shapeCast_apply x h _ _ (by
    rw [Shape.rowMajor_val_two, Shape.rowMajor_val_one]
    show q.val = z.val * n + q.val
    have : z.val = 0 := by have := z.isLt; omega
    rw [this]; omega)

/-- One block of the modified adjacency. -/
theorem mod_apply (i : grid1.Coords) (v0 v1 : Vec Ideal S256x4096 .f32) (v2 : Vec Ideal S4096x256 .f32) (p : Fin 256) (q : Fin 4096) :
    k1_pay1 (F := Ideal) i v0 v1 v2 (ix2 p q)
      = clip0 (v0 (ix2 p q) + clip1 (if p.val + 256 * (i 0).val = q.val then 0 else v1 (ix2 p q) + v2 (ix2 q p))) := by
  have hb : (i 0).val < 16 := (i 0).isLt
  have ht : transpose S256x4096 [1, 0] v2 transposes_S4096x256_p1_0_S256x4096 (ix2 p q) = v2 (ix2 q p) :=
    transpose_apply _ _ _ _ _ (fun b => match b with | ⟨0, _⟩ => rfl | ⟨1, _⟩ => rfl)
  have hc : cmpi .eq (addi (iota .tc S256x4096 32 [0] iota_S256x4096_d0_w32) (broadcast S256x4096 (Scalar.muli (BitVec.ofNat 32 (i 0).val) 256#32)))
      (iota .tc S256x4096 32 [1] iota_S256x4096_d1_w32) (ix2 p q) = BitVec.ofBool (decide (p.val + 256 * (i 0).val = q.val)) := by
    show IntOp.cmpi .eq (IntOp.addi (iota .tc S256x4096 32 [0] iota_S256x4096_d0_w32 (ix2 p q)) (Scalar.muli (BitVec.ofNat 32 (i 0).val) 256#32)) (iota .tc S256x4096 32 [1] iota_S256x4096_d1_w32 (ix2 p q)) = _
    rw [iota_single_apply, iota_single_apply]
    exact word_eq p.val (i 0).val q.val p.isLt hb q.isLt
  unfold clip0 clip1
  rw [← select_decide, ← hc, ← ht, ← lit_neg_one, ← lit_one, ← lit_zero]
  rfl

theorem flag (x : EReal) : (FloatOps.sitofp (F := Ideal) .f32 ((FloatOps.cmpf (F := Ideal) (φ := .f32) .oeq x (Ideal.ofBits .f32 0x3F800000#32)).setWidth 32) : EReal) = isOne x := by
  rw [lit_one]
  show ((((BitVec.ofBool (decide (x = 1))).setWidth 32).toInt : ℝ) : EReal) = _
  unfold isOne
  by_cases h : x = 1 <;> simp [h]

theorem row_sum (n : ℕ) (x : FVec Ideal ⟨2, ![n, 16]⟩ .f32) (h : Shape.Reduces ⟨2, ![n, 16]⟩ [1] ⟨1, ![n]⟩) (hφ : FKind.Formats .f32)
    (hacc : (0x00000000#32 : BitVec 32) = FKind.add.neutral .f32 hφ) (q : Fin n) :
    multiReduction .add [1] ⟨1, ![n]⟩ x 0x00000000#32 h hφ hacc (ix1 q) = ∑ l : Fin 16, (x (ix2 q l) : EReal) := by
  rw [Ideal.multiReduction_add_single]
  refine Finset.sum_congr rfl fun l _ => congrArg x (funext fun d => ?_)
  match d with | ⟨0, _⟩ => rfl | ⟨1, _⟩ => rfl

/-- The mask of one block. -/
theorem mask_apply (v0 : Vec Ideal S256x4096 .f32) (v13 : Vec Ideal S4096x16 .f32) (v22 : Vec Ideal S256x16 .f32) (p : Fin 256) (q : Fin 4096) :
    k2_pay5 (F := Ideal) v0 v13 v22 (ix2 p q)
      = v0 (ix2 p q) * (isOne (∑ l : Fin 16, (v22 (ix2 p l) : EReal)) + isOne (∑ l : Fin 16, (v13 (ix2 q l) : EReal))) := by
  rw [← row_sum 256 v22 reduces_S256x16_S256 (.inl rfl) rfl p, ← row_sum 4096 v13 reduces_S4096x16_S4096 (.inl rfl) rfl q, ← flag, ← flag]
  unfold k2_pay5
  rw [shapeCast_self, shapeCast_self]
  refine congrArg (v0 (ix2 p q) * ·) (congrArg₂ (α := EReal) (· + ·) ?_ ?_)
  · exact (broadcastTo_apply _ _ _ (ix2 p (0 : Fin 1)) (fun a => match a with | ⟨0, _⟩ => rfl | ⟨1, _⟩ => rfl)).trans (cast_col _ _ p 0)
  · exact (broadcastTo_apply _ _ _ (ix2 (0 : Fin 1) q) (fun a => match a with | ⟨0, _⟩ => rfl | ⟨1, _⟩ => rfl)).trans (cast_row _ _ 0 q)

theorem gain_apply (v0 v1 : Vec Ideal S256x4096 .f32) (j : S256x4096.Idx) :
    k2_pay6 (F := Ideal) v0 v1 j = v1 j * (1 - 2 * v0 j : EReal) := by
  rw [← lit_one, ← lit_two]
  rfl

/-- Below the least entry is below every entry. -/
theorem least (w : FVec Ideal S1x32x16 .f32) (h : S1x32x16.Reduces [1, 2] S1) (hφ : FKind.Formats .f32)
    (hacc : (0x7F800000#32 : BitVec 32) = FKind.minimumf.neutral .f32 hφ) (x : EReal) :
    x ≤ multiReduction .minimumf [1, 2] S1 w 0x7F800000#32 h hφ hacc (ix1 0) ↔ ∀ i, x ≤ w i := by
  rw [multiReduction_minimumf_eq_fold]
  rw [Finset.filter_true_of_mem fun i _ => funext fun b => match b with | ⟨0, _⟩ => (show ∀ u v : Fin 1, u = v by decide) _ _]
  show x ≤ Finset.fold min (Ideal.ofBits .f32 0x7F800000#32) _ _ ↔ _
  rw [lit_inf, Finset.le_fold_min]
  exact ⟨fun h i => h.2 i (Finset.mem_univ _), fun h => ⟨le_top, fun i _ => h i⟩⟩

/-- Below the smallest partial minimum is below each of them. -/
theorem le_min (v7 : Vec Ideal S32x16 .f32) (j : S256x4096.Idx) (x : EReal) :
    x ≤ k2_pay7 (F := Ideal) v7 j ↔ ∀ i : S32x16.Idx, x ≤ v7 i := by
  have e : k2_pay7 (F := Ideal) v7 j = multiReduction .minimumf [1, 2] S1 (shapeCast S1x32x16 v7 shapeCasts_S32x16_S1x32x16) 0x7F800000#32 reduces_S1x32x16_S1 (.inl rfl) rfl (ix1 0) := by
    have one : ∀ (s : Shape) (i : s.Idx), s.numel = 1 → (s.rowMajor i).val = 0 := fun s i hs => by
      have := (s.rowMajor i).isLt; omega
    unfold k2_pay7
    simp only [extractAt, ValueIdx.broadcast_apply, shapeCast_self]
    exact shapeCast_apply _ _ _ (ix1 (0 : Fin 1)) ((one S1 _ (by decide)).trans (one S1x1x1 _ (by decide)).symm)
  rw [e]
  refine (least _ _ _ _ x).trans ⟨fun h i => ?_, fun h i => h _⟩
  exact (h ((Shape.reshapeEquiv shapeCasts_S32x16_S1x32x16).symm i)).trans_eq (congrArg v7 (Equiv.apply_symm_apply _ _))

end Cert.Proof.Value

end
-- ==== Proof.Value.Whole.lean ====
/- The two results of the idealized program, entry by entry: the blocks put together over the whole arrays. -/
module

public import proofs.«01_k».proof.Proof.Idealized.Run
public import proofs.«01_k».proof.Proof.Value.Payload

@[expose] public section

noncomputable section

namespace Cert.Proof.Value

open Cert.KernelIdeal Cert.KernelIdeal.Gen Cert.Proof.Idealized

open Idealize.ShloMosaic
open Idealize.ShloMosaic.ValueIdx (ix1 ix2 eq_ix1 eq_ix2)

open Idealize.ShloMosaic.SparseCore (T)

/-- The modified adjacency. -/
def adjAt (A C : FVec Ideal S4096x4096 .f32) : FVec Ideal S4096x4096 .f32 :=
  fun i => clip0 (A i + clip1 (if (i 0).val = (i 1).val then 0 else C i + C (ix2 (i 1) (i 0))))

/-- The smallest score. -/
def low (A M : FVec Ideal S4096x4096 .f32) : EReal := Finset.univ.fold min ⊤ (gain A M)

theorem le_low (A M : FVec Ideal S4096x4096 .f32) (x : EReal) : x ≤ low A M ↔ ∀ i, x ≤ gain A M i := by
  unfold low
  rw [Finset.le_fold_min]
  exact ⟨fun h i => h.2 i (Finset.mem_univ _), fun h => ⟨le_top, fun i _ => h i⟩⟩

/-- The sum of a row. -/
def deg (A : FVec Ideal S4096x4096 .f32) (R : Fin 4096) : EReal := ∑ j : Fin 4096, A (ix2 R j)

/-- The masked scores. -/
def scoreAt (A M : FVec Ideal S4096x4096 .f32) : FVec Ideal S4096x4096 .f32 :=
  fun i => (gain A M i - low A M) * (A i * (isOne (deg A (i 0)) + isOne (deg A (i 1))))

/-- The entry of the whole array at row `p` of block `t`. -/
def at1 (t : Fin cfg1.N) (p : Fin 256) (q : Fin 4096) : S4096x4096.Idx :=
  ix2 ⟨256 * t.val + p.val, by have : t.val < 16 := t.isLt; omega⟩ q

theorem index1 : ∀ t : Fin cfg1.N, (win1_0.index t 0 = t.val ∧ win1_0.index t 1 = 0) ∧ (win1_1.index t 0 = t.val ∧ win1_1.index t 1 = 0)
    ∧ (win1_2.index t 0 = 0 ∧ win1_2.index t 1 = t.val) ∧ (win1_3.index t 0 = t.val ∧ win1_3.index t 1 = 0) ∧ ((grid1.coords t) 0).val = t.val := by
  decide +kernel

theorem emb1_0 (t : Fin cfg1.N) (p : Fin 256) (q : Fin 4096) : ((cfg1.win 0).blk t).view.emb (ix2 p q) = at1 t p q := by
  funext a
  refine Fin.ext ?_
  refine (Pipeline.Window.rect_emb_val win1_0 t (ix2 p q) a rfl).trans ?_
  match a with
  | ⟨0, _⟩ => show win1_0.index t 0 * 256 + p.val = 256 * t.val + p.val; rw [(index1 t).1.1]; omega
  | ⟨1, _⟩ => show win1_0.index t 1 * 4096 + q.val = q.val; rw [(index1 t).1.2]; omega

theorem emb1_1 (t : Fin cfg1.N) (p : Fin 256) (q : Fin 4096) : ((cfg1.win 1).blk t).view.emb (ix2 p q) = at1 t p q := by
  funext a
  refine Fin.ext ?_
  refine (Pipeline.Window.rect_emb_val win1_1 t (ix2 p q) a rfl).trans ?_
  match a with
  | ⟨0, _⟩ => show win1_1.index t 0 * 256 + p.val = 256 * t.val + p.val; rw [(index1 t).2.1.1]; omega
  | ⟨1, _⟩ => show win1_1.index t 1 * 4096 + q.val = q.val; rw [(index1 t).2.1.2]; omega

theorem emb1_2 (t : Fin cfg1.N) (p : Fin 256) (q : Fin 4096) : ((cfg1.win 2).blk t).view.emb (ix2 q p) = ix2 (n0 := 4096) (n1 := 4096) q (at1 t p q 0) := by
  funext a
  refine Fin.ext ?_
  refine (Pipeline.Window.rect_emb_val win1_2 t (ix2 q p) a rfl).trans ?_
  match a with
  | ⟨0, _⟩ => show win1_2.index t 0 * 4096 + q.val = q.val; rw [(index1 t).2.2.1.1]; omega
  | ⟨1, _⟩ => show win1_2.index t 1 * 256 + p.val = 256 * t.val + p.val; rw [(index1 t).2.2.1.2]; omega

theorem emb1_3 (t : Fin cfg1.N) (p : Fin 256) (q : Fin 4096) : ((cfg1.win 3).blk t).view.emb (ix2 p q) = at1 t p q := by
  funext a
  refine Fin.ext ?_
  refine (Pipeline.Window.rect_emb_val win1_3 t (ix2 p q) a rfl).trans ?_
  match a with
  | ⟨0, _⟩ => show win1_3.index t 0 * 256 + p.val = 256 * t.val + p.val; rw [(index1 t).2.2.2.1.1]; omega
  | ⟨1, _⟩ => show win1_3.index t 1 * 4096 + q.val = q.val; rw [(index1 t).2.2.2.1.2]; omega

variable (m : (ℓ : Loc nD τ sig) → Buf (Elt Ideal) ℓ) (d : Dev nD)

/-- The first call's result. -/
theorem adjRes_eq : adjRes (F := Ideal) m d = adjAt (m ((T d : Thread nD τ).loc main_arg0)) (m ((T d : Thread nD τ).loc main_arg1)) := by
  refine (datA (heldA (heldM m)) d).arrAt_eq_of_cover 3 _ (fun t _ => ?_) (fun i => ?_)
  · funext j
    obtain ⟨p, q, rfl⟩ : ∃ (p : Fin 256) (q : Fin 4096), j = ix2 p q := ⟨j 0, j 1, eq_ix2 j⟩
    show k1_pay1 (F := Ideal) (grid1.coords t) (rowsA (heldA (heldM m)) d t) (rowsC (heldA (heldM m)) d t) (colsC (heldA (heldM m)) d t) (ix2 p q)
      = adjAt (m ((T d : Thread nD τ).loc main_arg0)) (m ((T d : Thread nD τ).loc main_arg1)) (((cfg1.win 3).blk t).view.emb (ix2 p q))
    rw [mod_apply, emb1_3, (index1 t).2.2.2.2]
    have h0 : rowsA (heldA (heldM m)) d t (ix2 p q) = m ((T d : Thread nD τ).loc main_arg0) (at1 t p q) :=
      congrArg (m ((T d : Thread nD τ).loc main_arg0)) (emb1_0 t p q)
    have h1 : rowsC (heldA (heldM m)) d t (ix2 p q) = m ((T d : Thread nD τ).loc main_arg1) (at1 t p q) :=
      congrArg (m ((T d : Thread nD τ).loc main_arg1)) (emb1_1 t p q)
    have h2 : colsC (heldA (heldM m)) d t (ix2 q p) = m ((T d : Thread nD τ).loc main_arg1) (ix2 (n0 := 4096) (n1 := 4096) q (at1 t p q 0)) :=
      congrArg (m ((T d : Thread nD τ).loc main_arg1)) (emb1_2 t p q)
    rw [h0, h1, h2]
    unfold adjAt
    refine congrArg (fun z : EReal => clip0 (_ + clip1 z)) (if_congr ?_ rfl rfl)
    show p.val + 256 * t.val = q.val ↔ 256 * t.val + p.val = q.val
    omega
  · obtain ⟨R, q, rfl⟩ : ∃ (R q : Fin 4096), i = ix2 R q := ⟨i 0, i 1, eq_ix2 i⟩
    have hR := R.isLt
    refine ⟨(⟨R.val / 256, by show R.val / 256 < 16; omega⟩ : Fin cfg1.N), flush1_3 _, ?_⟩
    have h := ((cfg1.win 3).blk (⟨R.val / 256, by show R.val / 256 < 16; omega⟩ : Fin cfg1.N)).view.emb_mem_set (ix2 (⟨R.val % 256, by omega⟩ : Fin 256) q)
    rw [emb1_3] at h
    have e : at1 (⟨R.val / 256, by show R.val / 256 < 16; omega⟩ : Fin cfg1.N) ⟨R.val % 256, by omega⟩ q = ix2 R q := by
      unfold at1
      refine congrArg (fun z => ix2 z q) (Fin.ext ?_)
      show 256 * (R.val / 256) + R.val % 256 = R.val
      omega
    rwa [e] at h

end Cert.Proof.Value

end
-- ==== Proof.Value.Scores.lean ====
/- The second result of the idealized program, entry by entry: the masked scores over the whole array. -/
module

public import proofs.«01_k».proof.Proof.Value.Whole

@[expose] public section

noncomputable section

namespace Cert.Proof.Value

open Cert.KernelIdeal Cert.KernelIdeal.Gen Cert.Proof.Idealized

open Idealize.ShloMosaic
open Idealize.ShloMosaic.ValueIdx (ix1 ix2 eq_ix1 eq_ix2)

open Idealize.ShloMosaic.SparseCore (T)

/-- The entry of the whole array at row `p` of block `t`. -/
def at2 (t : Fin cfg2.N) (p : Fin 256) (q : Fin 4096) : S4096x4096.Idx :=
  ix2 ⟨256 * t.val + p.val, by have : t.val < 16 := t.isLt; omega⟩ q

theorem index2 : ∀ t : Fin cfg2.N, (win2_0.index t 0 = t.val ∧ win2_0.index t 1 = 0) ∧ (win2_1.index t 0 = t.val ∧ win2_1.index t 1 = 0)
    ∧ (win2_2.index t 0 = 0 ∧ win2_2.index t 1 = 0) ∧ (win2_3.index t 0 = 0 ∧ win2_3.index t 1 = 0)
    ∧ (win2_4.index t 0 = t.val ∧ win2_4.index t 1 = 0) ∧ ((grid2.coords t) 0).val = t.val := by
  decide +kernel

theorem emb2_0 (t : Fin cfg2.N) (p : Fin 256) (q : Fin 4096) : ((cfg2.win 0).blk t).view.emb (ix2 p q) = at2 t p q := by
  funext a
  refine Fin.ext ?_
  refine (Pipeline.Window.rect_emb_val win2_0 t (ix2 p q) a rfl).trans ?_
  match a with
  | ⟨0, _⟩ => show win2_0.index t 0 * 256 + p.val = 256 * t.val + p.val; rw [(index2 t).1.1]; omega
  | ⟨1, _⟩ => show win2_0.index t 1 * 4096 + q.val = q.val; rw [(index2 t).1.2]; omega

theorem emb2_1 (t : Fin cfg2.N) (p : Fin 256) (q : Fin 4096) : ((cfg2.win 1).blk t).view.emb (ix2 p q) = at2 t p q := by
  funext a
  refine Fin.ext ?_
  refine (Pipeline.Window.rect_emb_val win2_1 t (ix2 p q) a rfl).trans ?_
  match a with
  | ⟨0, _⟩ => show win2_1.index t 0 * 256 + p.val = 256 * t.val + p.val; rw [(index2 t).2.1.1]; omega
  | ⟨1, _⟩ => show win2_1.index t 1 * 4096 + q.val = q.val; rw [(index2 t).2.1.2]; omega

theorem emb2_4 (t : Fin cfg2.N) (p : Fin 256) (q : Fin 4096) : ((cfg2.win 4).blk t).view.emb (ix2 p q) = at2 t p q := by
  funext a
  refine Fin.ext ?_
  refine (Pipeline.Window.rect_emb_val win2_4 t (ix2 p q) a rfl).trans ?_
  match a with
  | ⟨0, _⟩ => show win2_4.index t 0 * 256 + p.val = 256 * t.val + p.val; rw [(index2 t).2.2.2.2.1.1]; omega
  | ⟨1, _⟩ => show win2_4.index t 1 * 4096 + q.val = q.val; rw [(index2 t).2.2.2.2.1.2]; omega

theorem emb2_2 (t : Fin cfg2.N) (p : Fin 4096) (q : Fin 16) : ((cfg2.win 2).blk t).view.emb (ix2 p q) = ix2 (n0 := 4096) (n1 := 16) p q := by
  funext a
  refine Fin.ext ?_
  refine (Pipeline.Window.rect_emb_val win2_2 t (ix2 p q) a rfl).trans ?_
  match a with
  | ⟨0, _⟩ => show win2_2.index t 0 * 4096 + p.val = p.val; rw [(index2 t).2.2.1.1]; omega
  | ⟨1, _⟩ => show win2_2.index t 1 * 16 + q.val = q.val; rw [(index2 t).2.2.1.2]; omega

theorem emb2_3 (t : Fin cfg2.N) (p : Fin 32) (q : Fin 16) : ((cfg2.win 3).blk t).view.emb (ix2 p q) = ix2 (n0 := 32) (n1 := 16) p q := by
  funext a
  refine Fin.ext ?_
  refine (Pipeline.Window.rect_emb_val win2_3 t (ix2 p q) a rfl).trans ?_
  match a with
  | ⟨0, _⟩ => show win2_3.index t 0 * 32 + p.val = p.val; rw [(index2 t).2.2.2.1.1]; omega
  | ⟨1, _⟩ => show win2_3.index t 1 * 16 + q.val = q.val; rw [(index2 t).2.2.2.1.2]; omega

/-- The rows of the lane sums read for one block. -/
theorem ld_rows (i : grid2.Coords) (X : Vec Ideal S4096x16 .f32) (p : Fin 256) (l : Fin 16) (h : 256 * (i 0).val + p.val < 4096) :
    View.ld X (Rect.unit (s := S4096x16) (k2_off1 i) S256x16.size (k2_off1_inb i)) (ix2 p l) = X (ix2 ⟨256 * (i 0).val + p.val, h⟩ l) := by
  rw [View.ld_unit]
  refine extractStridedSlice_apply (k2_off1 i) X _ (ix2 p l) (ix2 ⟨256 * (i 0).val + p.val, h⟩ l) fun a => ?_
  have e := k2_off1_eq i
  match a with
  | ⟨0, _⟩ => exact (congrArg (· + p.val) (congrFun e 0)).symm
  | ⟨1, _⟩ => exact ((congrArg (· + l.val) (congrFun e 1)).trans (Nat.zero_add l.val)).symm

variable (m : (ℓ : Loc nD τ sig) → Buf (Elt Ideal) ℓ) (d : Dev nD)

theorem degsB_eq (t : Fin cfg2.N) (p : Fin 4096) (l : Fin 16) : degsB (heldN m) d t (ix2 p l) = degG (F := Ideal) (m (adjLoc d)) (ix2 p l) :=
  (congrArg (heldN m d main_v0_0) (emb2_2 t p l)).trans (congrFun (heldN_deg m d) (ix2 p l))

theorem minsB_eq (t : Fin cfg2.N) (i : S32x16.Idx) : minsB (heldN m) d t i = pminG (F := Ideal) (m (adjLoc d)) (m (mgLoc d)) i := by
  obtain ⟨p, l, rfl⟩ : ∃ (p : Fin 32) (l : Fin 16), i = ix2 p l := ⟨i 0, i 1, eq_ix2 i⟩
  exact (congrArg (heldN m d main_v0_1) (emb2_3 t p l)).trans (congrFun (heldN_pmn m d) (ix2 p l))

theorem rowsB_eq (t : Fin cfg2.N) (p : Fin 256) (q : Fin 4096) : rowsB (heldN m) d t (ix2 p q) = m (adjLoc d) (at2 t p q) :=
  (congrArg (heldN m d main_arg0) (emb2_0 t p q)).trans (congrFun (heldN_other m d main_arg0 (by decide) (by decide)) _)

theorem rowsM_eq (t : Fin cfg2.N) (p : Fin 256) (q : Fin 4096) : rowsM (heldN m) d t (ix2 p q) = m (mgLoc d) (at2 t p q) :=
  (congrArg (heldN m d main_arg2) (emb2_1 t p q)).trans (congrFun (heldN_other m d main_arg2 (by decide) (by decide)) _)

/-- The least of the partial minima is the smallest score. -/
theorem min_eq (t : Fin cfg2.N) (j : S256x4096.Idx) : k2_pay7 (F := Ideal) (minsB (heldN m) d t) j = low (m (adjLoc d)) (m (mgLoc d)) := by
  refine eq_of_forall_le_iff fun x => ?_
  rw [le_low, ← le_pminG]
  refine (le_min _ j x).trans (forall_congr' fun i => ?_)
  rw [minsB_eq]

/-- The second call's result. -/
theorem scoreRes_eq : scoreRes (F := Ideal) m d = scoreAt (m ((T d : Thread nD τ).loc main_arg0)) (m ((T d : Thread nD τ).loc main_arg2)) := by
  refine (datB (heldN m) d).arrAt_eq_of_cover 4 _ (fun t _ => ?_) (fun i => ?_)
  · funext j
    obtain ⟨p, q, rfl⟩ : ∃ (p : Fin 256) (q : Fin 4096), j = ix2 p q := ⟨j 0, j 1, eq_ix2 j⟩
    have ht : t.val < 16 := t.isLt
    have h16 : 256 * ((grid2.coords t) 0).val + p.val < 4096 := by rw [(index2 t).2.2.2.2.2]; omega
    have hd : ∀ r : Fin 4096, ∑ l : Fin 16, (degsB (heldN m) d t (ix2 r l) : EReal) = deg (m (adjLoc d)) r := fun r => by
      rw [Finset.sum_congr rfl fun l _ => degsB_eq m d t r l]
      exact sum_degG _ r
    have hr : ∑ l : Fin 16, (View.ld (degsB (heldN m) d t) (Rect.unit (s := S4096x16) (k2_off1 (grid2.coords t)) S256x16.size (k2_off1_inb (grid2.coords t))) (ix2 p l) : EReal)
        = deg (m (adjLoc d)) (at2 t p q 0) := by
      rw [Finset.sum_congr rfl fun l _ => ld_rows (grid2.coords t) (degsB (heldN m) d t) p l h16, hd]
      refine congrArg (deg (m (adjLoc d))) (Fin.ext ?_)
      show 256 * ((grid2.coords t) 0).val + p.val = 256 * t.val + p.val
      rw [(index2 t).2.2.2.2.2]
    have hm := mask_apply (rowsB (heldN m) d t) (degsB (heldN m) d t)
      (View.ld (degsB (heldN m) d t) (Rect.unit (s := S4096x16) (k2_off1 (grid2.coords t)) S256x16.size (k2_off1_inb (grid2.coords t)))) p q
    rw [hr, hd, rowsB_eq] at hm
    have hg := gain_apply (rowsB (heldN m) d t) (rowsM (heldN m) d t) (ix2 p q)
    rw [rowsB_eq, rowsM_eq] at hg
    have hl := min_eq m d t (ix2 p q)
    show (k2_pay6 (F := Ideal) (rowsB (heldN m) d t) (rowsM (heldN m) d t) (ix2 p q) - k2_pay7 (F := Ideal) (minsB (heldN m) d t) (ix2 p q))
        * k2_pay5 (F := Ideal) (rowsB (heldN m) d t) (degsB (heldN m) d t)
          (View.ld (degsB (heldN m) d t) (Rect.unit (s := S4096x16) (k2_off1 (grid2.coords t)) S256x16.size (k2_off1_inb (grid2.coords t)))) (ix2 p q)
      = scoreAt (m (adjLoc d)) (m (mgLoc d)) (((cfg2.win 4).blk t).view.emb (ix2 p q))
    rw [hm, hg, hl, emb2_4]
    rfl
  · obtain ⟨R, q, rfl⟩ : ∃ (R q : Fin 4096), i = ix2 R q := ⟨i 0, i 1, eq_ix2 i⟩
    have hR := R.isLt
    refine ⟨(⟨R.val / 256, by show R.val / 256 < 16; omega⟩ : Fin cfg2.N), flush2_4 _, ?_⟩
    have h := ((cfg2.win 4).blk (⟨R.val / 256, by show R.val / 256 < 16; omega⟩ : Fin cfg2.N)).view.emb_mem_set (ix2 (⟨R.val % 256, by omega⟩ : Fin 256) q)
    rw [emb2_4] at h
    have e : at2 (⟨R.val / 256, by show R.val / 256 < 16; omega⟩ : Fin cfg2.N) ⟨R.val % 256, by omega⟩ q = ix2 R q := by
      unfold at2
      refine congrArg (fun z => ix2 z q) (Fin.ext ?_)
      show 256 * (R.val / 256) + R.val % 256 = R.val
      omega
    rwa [e] at h

end Cert.Proof.Value

end
-- ==== Proof.Value.Reference.lean ====
/- The two results of the reference, entry by entry, over the extended reals. -/
module

public import proofs.«01_k».proof.Proof.Gen.ReferenceIdeal
public import proofs.«01_k».proof.Proof.Value.Whole
public import Idealize.ShloMosaic.Lib.IdealHost

@[expose] public section

noncomputable section

namespace Cert.Proof.Value

open Cert.ReferenceIdeal Cert.ReferenceIdeal.Gen

open Idealize.ShloMosaic
open Idealize.ShloMosaic.ValueIdx (ix1 ix2 eq_ix1 eq_ix2)

/-- The diagonal. -/
def onDiag : IVec S4096x4096 1 := cmpi .eq (iotaInDim S4096x4096 32 0) (iotaInDim S4096x4096 32 1)

/-- A constant over the whole array. -/
def splat (b : BitVec 32) : FVec Ideal S4096x4096 .f32 := broadcastInDim S4096x4096 ![] bcast_S_S4096x4096 (constant S_ .f32 b)

/-- The changes with the diagonal taken out. -/
def offDiag (C : FVec Ideal S4096x4096 .f32) : FVec Ideal S4096x4096 .f32 := subf C (select onDiag C (splat 0x00000000#32))

/-- The reference's modified adjacency. -/
def refAdj (A C : FVec Ideal S4096x4096 .f32) : FVec Ideal S4096x4096 .f32 :=
  minimumf (splat 0x3F800000#32) (maximumf (splat 0x00000000#32) (addf A (minimumf (splat 0x3F800000#32) (maximumf (splat 0xBF800000#32)
    (addf (offDiag C) (transpose S4096x4096 [1, 0] (offDiag C) transposes_S4096x4096_S4096x4096_1_0))))))

/-- The reference's scores. -/
def refGain (A M : FVec Ideal S4096x4096 .f32) : FVec Ideal S4096x4096 .f32 :=
  mulf M (addf (mulf (splat 0xC0000000#32) A) (splat 0x3F800000#32))

/-- The reference's smallest score. -/
def refLow (A M : FVec Ideal S4096x4096 .f32) : FVec Ideal S_ .f32 :=
  Host.reduce FloatOps.minimumf (refGain A M) (constant S_ .f32 0x7F800000#32) reducesTo_S4096x4096_S_d0_1 h_S_

/-- The scores above the smallest. -/
def refAbove (A M : FVec Ideal S4096x4096 .f32) : FVec Ideal S4096x4096 .f32 :=
  subf (refGain A M) (broadcastInDim S4096x4096 ![] bcast_S_S4096x4096 (refLow A M))

/-- Which columns sum to one. -/
def refFlag (A : FVec Ideal S4096x4096 .f32) : FVec Ideal S4096 .f32 :=
  uitofp .f32 (cmpf .oeq (Host.reduceAdd A (constant S_ .f32 0x00000000#32) reducesTo_S4096x4096_S4096_d0 h_S_)
    (broadcastInDim S4096 ![] bcast_S_S4096 (constant S_ .f32 0x3F800000#32)))

/-- The reference's masked scores. -/
def refScore (A M : FVec Ideal S4096x4096 .f32) : FVec Ideal S4096x4096 .f32 :=
  mulf (subf (refAbove A M) (select onDiag (refAbove A M) (splat 0x00000000#32)))
    (addf (mulf (broadcastInDim S4096x4096 ![0, 1] bcast_S1x4096_S4096x4096_0_1 (shapeCast _ (refFlag A) shapeCasts_S4096_S1x4096)) A)
      (mulf A (broadcastInDim S4096x4096 ![0, 1] bcast_S4096x1_S4096x4096_0_1 (shapeCast _ (refFlag A) shapeCasts_S4096_S4096x1))))

theorem onDiag_apply (p q : Fin 4096) : onDiag (ix2 p q) = BitVec.ofBool (decide (p = q)) := by
  show BitVec.ofBool (BitVec.ofNat 32 p.val == BitVec.ofNat 32 q.val) = _
  congr 1
  rw [Bool.eq_iff_iff, beq_iff_eq, decide_eq_true_iff, ← BitVec.toNat_inj]
  simp only [BitVec.toNat_ofNat]
  have hp := p.isLt
  have hq := q.isLt
  rw [Nat.mod_eq_of_lt (by omega), Nat.mod_eq_of_lt (by omega), Fin.ext_iff]

theorem offDiag_apply (C : FVec Ideal S4096x4096 .f32) (p q : Fin 4096) :
    offDiag C (ix2 p q) = (C (ix2 p q) - (if p = q then C (ix2 p q) else 0) : EReal) := by
  rw [← lit_zero, ← select_decide, ← onDiag_apply]
  rfl

theorem refAdj_apply (A C : FVec Ideal S4096x4096 .f32) (p q : Fin 4096) :
    refAdj A C (ix2 p q) = clip0 (A (ix2 p q) + clip1 (offDiag C (ix2 p q) + offDiag C (ix2 q p))) := by
  have ht : transpose S4096x4096 [1, 0] (offDiag C) transposes_S4096x4096_S4096x4096_1_0 (ix2 p q) = offDiag C (ix2 q p) :=
    transpose_apply [1, 0] (offDiag C) _ (ix2 p q) (ix2 q p) fun b => match b with | ⟨0, _⟩ => rfl | ⟨1, _⟩ => rfl
  rw [← ht]
  unfold clip0 clip1
  rw [← lit_neg_one, ← lit_one, ← lit_zero]
  rfl

theorem refGain_apply (A M : FVec Ideal S4096x4096 .f32) (i : S4096x4096.Idx) : refGain A M i = gain A M i := by
  have e : refGain A M i = (M i * (-2 * A i + 1) : EReal) := by
    rw [← lit_neg_two, ← lit_one]
    rfl
  rw [e]
  unfold gain
  rw [EReal.neg_mul, add_comm, ← sub_eq_add_neg]

theorem refLow_apply (A M : FVec Ideal S4096x4096 .f32) (j : S_.Idx) : refLow A M j = low A M := by
  unfold refLow
  rw [Host.reduce_eq_fold, Finset.filter_true_of_mem fun i _ => funext fun b => b.elim0, show refGain A M = gain A M from funext fun i => refGain_apply A M i]
  show Finset.fold min (Ideal.ofBits .f32 0x7F800000#32) (gain A M) Finset.univ = _
  rw [lit_inf]
  rfl

theorem refAbove_apply (A M : FVec Ideal S4096x4096 .f32) (i : S4096x4096.Idx) : refAbove A M i = (gain A M i - low A M : EReal) := by
  rw [← refGain_apply, ← refLow_apply A M (fun b => b.elim0)]
  exact congrArg (fun z : EReal => refGain A M i - z) (broadcastInDim_apply ![] bcast_S_S4096x4096 (refLow A M) i _ fun a => a.elim0)

/-- The sum of a column. -/
def colDeg (A : FVec Ideal S4096x4096 .f32) (q : Fin 4096) : EReal := ∑ k : Fin 4096, A (ix2 k q)

theorem refFlag_apply (A : FVec Ideal S4096x4096 .f32) (q : Fin 4096) : refFlag A (ix1 q) = isOne (colDeg A q) := by
  have hs : Host.reduceAdd A (constant S_ .f32 0x00000000#32) reducesTo_S4096x4096_S4096_d0 h_S_ (ix1 q) = colDeg A q := by
    rw [Idealize.ShloMosaic.ValueIdx.hostReduceAdd_apply, Ideal.hostReduceAdd_single _ (show S4096x4096.Reduces [0] S4096 by decide)]
    show Ideal.ofBits .f32 0x00000000#32 + _ = _
    rw [lit_zero, zero_add]
    refine Finset.sum_congr rfl fun k _ => congrArg A (funext fun d => ?_)
    match d with | ⟨0, _⟩ => rfl | ⟨1, _⟩ => rfl
  have e : refFlag A (ix1 q) = (((BitVec.ofBool (decide ((Host.reduceAdd A (constant S_ .f32 0x00000000#32) reducesTo_S4096x4096_S4096_d0 h_S_ (ix1 q) : EReal) = 1))).toNat : ℝ) : EReal) := by
    rw [← lit_one]
    rfl
  rw [e, hs]
  unfold isOne
  by_cases h : colDeg A q = 1 <;> simp [h]

theorem refScore_apply (A M : FVec Ideal S4096x4096 .f32) (p q : Fin 4096) :
    refScore A M (ix2 p q) = ((gain A M (ix2 p q) - low A M) - (if p = q then gain A M (ix2 p q) - low A M else 0))
      * (isOne (colDeg A q) * A (ix2 p q) + A (ix2 p q) * isOne (colDeg A p)) := by
  have hr : broadcastInDim S4096x4096 ![0, 1] bcast_S1x4096_S4096x4096_0_1 (shapeCast S1x4096 (refFlag A) shapeCasts_S4096_S1x4096) (ix2 p q) = isOne (colDeg A q) := by
    rw [broadcastInDim_apply ![0, 1] bcast_S1x4096_S4096x4096_0_1 _ (ix2 p q) (ix2 0 q) fun a => match a with | ⟨0, _⟩ => rfl | ⟨1, _⟩ => rfl]
    exact (cast_row (refFlag A) _ 0 q).trans (refFlag_apply A q)
  have hc : broadcastInDim S4096x4096 ![0, 1] bcast_S4096x1_S4096x4096_0_1 (shapeCast S4096x1 (refFlag A) shapeCasts_S4096_S4096x1) (ix2 p q) = isOne (colDeg A p) := by
    rw [broadcastInDim_apply ![0, 1] bcast_S4096x1_S4096x4096_0_1 _ (ix2 p q) (ix2 p 0) fun a => match a with | ⟨0, _⟩ => rfl | ⟨1, _⟩ => rfl]
    exact (cast_col (refFlag A) _ p 0).trans (refFlag_apply A p)
  rw [← hr, ← hc, ← refAbove_apply, ← lit_zero, ← select_decide, ← onDiag_apply]
  rfl

end Cert.Proof.Value

end
-- ==== Proof.Value.Equation.lean ====
/- For a symmetric adjacency with a zero diagonal the reference computes what the idealized program computes. -/
module

public import proofs.«01_k».proof.Pre_symmetric_zero_diagonal
public import proofs.«01_k».proof.Proof.Value.Reference

@[expose] public section

noncomputable section

namespace Cert.Proof.Value

open Cert.ReferenceIdeal

open Idealize.ShloMosaic
open Idealize.ShloMosaic.ValueIdx (ix1 ix2 eq_ix1 eq_ix2)

/-- An adjacency equal to its transpose and zero on the diagonal. -/
def Plain (A : FVec Ideal S4096x4096 .f32) : Prop :=
  (∀ p q : Fin 4096, (A (ix2 p q) : EReal) = A (ix2 q p)) ∧ ∀ p : Fin 4096, (A (ix2 p p) : EReal) = 0

theorem both (a b : BitVec 1) (h : a &&& b = 1#1) : a = 1#1 ∧ b = 1#1 := by
  revert a b
  decide

theorem of_true (P : Prop) [Decidable P] (h : BitVec.ofBool (decide P) = 1#1) : P := by
  by_contra hP
  simp [hP] at h

/-- The precondition read entry by entry. -/
theorem plain_of_pre [Cert.Pre_symmetric_zero_diagonal.Facts] (A C M : FVec Ideal S4096x4096 .f32) (w3 : FVec Ideal Cert.Pre_symmetric_zero_diagonal.S4096x128 .f32)
    (w4 : IVec Cert.Pre_symmetric_zero_diagonal.S4096 32) (w5 w6 : IVec Cert.Pre_symmetric_zero_diagonal.S512 32)
    (h : Cert.Pre_symmetric_zero_diagonal.fn (F := Ideal) A C M w3 w4 w5 w6 = fun _ => 1#1) : Plain A := by
  have hb : ∀ p q : Fin 4096, (A (ix2 p q) : EReal) = A (ix2 q p) ∧ (if p = q then A (ix2 p q) else (0 : EReal)) = 0 := fun p q => by
    have ht : transpose S4096x4096 [1, 0] A Cert.Pre_symmetric_zero_diagonal.Facts.transposes_S4096x4096_S4096x4096_1_0 (ix2 p q) = A (ix2 q p) :=
      transpose_apply [1, 0] A _ (ix2 p q) (ix2 q p) fun b => match b with | ⟨0, _⟩ => rfl | ⟨1, _⟩ => rfl
    obtain ⟨h1, h2⟩ := both _ _ (congrFun h (ix2 p q))
    refine ⟨?_, ?_⟩
    · rw [← ht]
      exact of_true _ h1
    · rw [← lit_zero, ← select_decide, ← onDiag_apply]
      exact of_true _ h2
  refine ⟨fun p q => (hb p q).1, fun p => ?_⟩
  have := (hb p p).2
  rwa [if_pos rfl] at this

variable {A : FVec Ideal S4096x4096 .f32} (hA : Plain A) (C M : FVec Ideal S4096x4096 .f32)

theorem clip1_zero : clip1 0 = 0 := by
  unfold clip1
  rw [max_eq_right (by rw [EReal.neg_le_zero]; exact zero_le_one), min_eq_right zero_le_one]

theorem clip1_nonpos (x : EReal) (h : x ≤ 0) : clip1 x ≤ 0 := by
  unfold clip1
  exact (min_le_right _ _).trans (max_le (by rw [EReal.neg_le_zero]; exact zero_le_one) h)

theorem clip0_nonpos (x : EReal) (h : x ≤ 0) : clip0 x = 0 := by
  unfold clip0
  rw [max_eq_left h, min_eq_right zero_le_one]

include hA in
/-- The modified adjacency. -/
theorem refAdj_eq : refAdj A C = adjAt A C := by
  funext i
  obtain ⟨p, q, rfl⟩ : ∃ (p q : Fin 4096), i = ix2 p q := ⟨i 0, i 1, eq_ix2 i⟩
  rw [refAdj_apply, offDiag_apply, offDiag_apply]
  show _ = clip0 (A (ix2 p q) + clip1 (if p.val = q.val then 0 else C (ix2 p q) + C (ix2 q p)))
  by_cases h : p = q
  · subst h
    rw [if_pos rfl, if_pos rfl, hA.2 p, clip1_zero, zero_add, zero_add]
    have hx : (C (ix2 p p) - C (ix2 p p) : EReal) ≤ 0 := EReal.sub_self_le_zero
    rw [clip0_nonpos _ (clip1_nonpos _ (add_nonpos hx hx)), clip0_nonpos 0 le_rfl]
  · rw [if_neg h, if_neg (Ne.symm h), if_neg (fun e => h (Fin.ext e)), sub_zero, sub_zero]

include hA in
theorem colDeg_eq (q : Fin 4096) : colDeg A q = deg A q :=
  Finset.sum_congr rfl fun k _ => hA.1 k q

theorem isOne_nonneg (x : EReal) : 0 ≤ isOne x := by
  unfold isOne
  split_ifs
  · exact zero_le_one
  · exact le_rfl

include hA in
/-- The masked scores. -/
theorem refScore_eq : refScore A M = scoreAt A M := by
  funext i
  obtain ⟨p, q, rfl⟩ : ∃ (p q : Fin 4096), i = ix2 p q := ⟨i 0, i 1, eq_ix2 i⟩
  rw [refScore_apply, colDeg_eq hA, colDeg_eq hA]
  show _ = (gain A M (ix2 p q) - low A M) * (A (ix2 p q) * (isOne (deg A p) + isOne (deg A q)))
  by_cases h : p = q
  · subst h
    rw [hA.2 p, mul_zero, zero_mul, zero_mul, zero_add, mul_zero, mul_zero]
  · rw [if_neg h, sub_zero, EReal.left_distrib_of_nonneg (isOne_nonneg _) (isOne_nonneg _), mul_comm (isOne (deg A q)) _, add_comm]

end Cert.Proof.Value

end
-- ==== Proof.Flip.Words.lean ====
/- Arithmetic of 32-bit words that hold numbers. The host code and the index maps of the flip divide words by
   4096, 8 and 128, rounding down: they divide rounding towards zero, and take one away when the signs differ and
   something is left over. On a word whose number is not negative nothing is taken away, and the quotient and the
   remainder are those of the natural numbers. -/
module

public import Idealize.ShloMosaic.Lib.WordArith
public import Idealize.ShloMosaic.PureOps

@[expose] public section

set_option maxRecDepth 4096

noncomputable section

namespace Cert.Proof.Flip

open Idealize.ShloMosaic

/-- A word below 2 ^ 31 has no sign bit. -/
theorem msb_of_lt (w : BitVec 32) (h : w.toNat < 2 ^ 31) : w.msb = false := by
  rw [BitVec.msb_eq_decide]; simp; omega

/-- Dividing a word that is not negative by a positive one is division of natural numbers. -/
theorem divsi_of_lt (u : ArithUnit) (w d : BitVec 32) (h : w.toNat < 2 ^ 31) (hd : d.toNat < 2 ^ 31) (h0 : d ≠ 0) :
    IntOp.divsi u w d = w / d := by
  have hw := msb_of_lt w h
  have hd' := msb_of_lt d hd
  unfold IntOp.divsi
  rw [if_neg (by
    rintro (e | ⟨e, -⟩)
    · exact h0 e
    · rw [e] at h; revert h; decide), BitVec.sdiv_eq, hw, hd']; rfl

/-- The remainder of such a division is that of natural numbers. -/
theorem remsi_of_lt (u : ArithUnit) (w d : BitVec 32) (h : w.toNat < 2 ^ 31) (hd : d.toNat < 2 ^ 31) (h0 : d ≠ 0) :
    IntOp.remsi u w d = w % d := by
  have hw := msb_of_lt w h
  have hd' := msb_of_lt d hd
  unfold IntOp.remsi
  rw [if_neg (by
    rintro (e | ⟨e, -⟩)
    · exact h0 e
    · rw [e] at h; revert h; decide), BitVec.srem_eq, hw, hd']

/-- The sign of a word, as the index maps compute it: one when it is positive, less one when it is negative. -/
def sign (w : BitVec 32) : BitVec 32 :=
  Scalar.subi (Scalar.extui (Scalar.cmpi .sgt w 0#32)) (Scalar.extui (Scalar.cmpi .slt w 0#32))

/-- The quotient rounded down, as the index maps compute it. -/
def floorDiv (w d : BitVec 32) : BitVec 32 :=
  Scalar.select (Scalar.andi (Scalar.cmpi .ne (sign w) (sign d)) (Scalar.cmpi .ne (Scalar.remsi w d) 0#32))
    (Scalar.subi (Scalar.divsi w d) 1#32) (Scalar.divsi w d)

/-- A positive word has sign one. -/
theorem sign_of_pos (w : BitVec 32) (h : w.toNat < 2 ^ 31) (h0 : w ≠ 0) : sign w = 1#32 := by
  have hw := msb_of_lt w h
  have hp : 0 < w.toNat := Nat.pos_of_ne_zero fun e => h0 (BitVec.eq_of_toNat_eq (by simpa using e))
  have hi : w.toInt = w.toNat := BitVec.toInt_eq_toNat_of_msb hw
  have h1 : BitVec.slt 0#32 w = true := by
    rw [BitVec.slt, decide_eq_true_eq, hi]; simp; omega
  have h2 : BitVec.slt w 0#32 = false := by
    rw [BitVec.slt, decide_eq_false_iff_not, hi]; simp
  unfold sign
  have e1 : Scalar.cmpi .sgt w 0#32 = 1#1 := by
    show BitVec.ofBool (BitVec.slt 0#32 w) = _; rw [h1]; rfl
  have e2 : Scalar.cmpi .slt w 0#32 = 0#1 := by
    show BitVec.ofBool (BitVec.slt w 0#32) = _; rw [h2]; rfl
  rw [e1, e2]; rfl

/-- A word compared with itself is not different. -/
theorem ne_self (w : BitVec 32) : Scalar.cmpi .ne w w = 0#1 := by
  show BitVec.ofBool (w != w) = _; simp

/-- On words that are not negative nothing is taken away: the quotient is that of natural numbers. -/
theorem floorDiv_of_lt (w d : BitVec 32) (h : w.toNat < 2 ^ 31) (hd : d.toNat < 2 ^ 31) (h0 : d ≠ 0) :
    floorDiv w d = w / d := by
  have q : Scalar.divsi w d = w / d := divsi_of_lt .scalar w d h hd h0
  have hc : Scalar.andi (Scalar.cmpi .ne (sign w) (sign d)) (Scalar.cmpi .ne (Scalar.remsi w d) 0#32) = 0#1 := by
    by_cases e : w = 0
    · have r : Scalar.remsi w d = 0#32 := (remsi_of_lt .scalar w d h hd h0).trans (by subst e; simp)
      rw [r, ne_self]
      show _ &&& 0#1 = 0#1
      exact BitVec.and_zero
    · rw [sign_of_pos w h e, sign_of_pos d hd h0, ne_self]
      show 0#1 &&& _ = 0#1
      exact BitVec.zero_and
  unfold floorDiv
  rw [hc, q]
  rfl

/-- The quotient rounded down, as the host code computes it. -/
def hostFloorDiv {s : Shape} (x d : IVec s 32) : IVec s 32 :=
  select (andi (cmpi .ne (signi x) (signi d)) (cmpi .ne (Host.remsi x d) (constantI s 32 0#32)))
    (subi (Host.divsi x d) (constantI s 32 1#32)) (Host.divsi x d)

/-- The remainder of that quotient, as the host code computes it. -/
def hostRem {s : Shape} (x d : IVec s 32) : IVec s 32 :=
  select
    (andi (cmpi .ne (cmpi .slt (Host.remsi x d) (constantI s 32 0#32)) (cmpi .slt d (constantI s 32 0#32)))
      (cmpi .ne (Host.remsi x d) (constantI s 32 0#32)))
    (addi (Host.remsi x d) d) (Host.remsi x d)

/-- The sign of a positive word, in the host code. -/
theorem signi_of_pos {s : Shape} (x : IVec s 32) (i : s.Idx) (h : (x i).toNat < 2 ^ 31) (h0 : x i ≠ 0) : signi x i = 1 := by
  unfold signi
  rw [if_neg h0, msb_of_lt _ h]
  rfl

/-- The host code's quotient of words that are not negative is that of natural numbers. -/
theorem hostFloorDiv_apply {s : Shape} (x d : IVec s 32) (i : s.Idx) (h : (x i).toNat < 2 ^ 31) (hd : (d i).toNat < 2 ^ 31)
    (h0 : d i ≠ 0) : hostFloorDiv x d i = x i / d i := by
  have q : Host.divsi x d i = x i / d i := divsi_of_lt _ _ _ h hd h0
  have r : Host.remsi x d i = x i % d i := remsi_of_lt _ _ _ h hd h0
  have hc : andi (cmpi .ne (signi x) (signi d)) (cmpi .ne (Host.remsi x d) (constantI s 32 0#32)) i = 0#1 := by
    show Scalar.cmpi .ne (signi x i) (signi d i) &&& Scalar.cmpi .ne (Host.remsi x d i) 0#32 = 0#1
    by_cases e : x i = 0
    · rw [r, e]
      have z : (0 : BitVec 32) % d i = 0#32 := by simp
      rw [z, ne_self]
      exact BitVec.and_zero
    · rw [signi_of_pos x i h e, signi_of_pos d i hd h0, ne_self]
      exact BitVec.zero_and
  show Scalar.select _ _ (Host.divsi x d i) = _
  rw [hc, q]
  rfl

/-- The host code's remainder of words that are not negative is that of natural numbers. -/
theorem hostRem_apply {s : Shape} (x d : IVec s 32) (i : s.Idx) (h : (x i).toNat < 2 ^ 31) (hd : (d i).toNat < 2 ^ 31)
    (h0 : d i ≠ 0) : hostRem x d i = x i % d i := by
  have r : Host.remsi x d i = x i % d i := remsi_of_lt _ _ _ h hd h0
  have nonneg : ∀ w : BitVec 32, w.toNat < 2 ^ 31 → Scalar.cmpi .slt w 0#32 = 0#1 := fun w hw => by
    have hi : w.toInt = w.toNat := BitVec.toInt_eq_toNat_of_msb (msb_of_lt w hw)
    have h2 : BitVec.slt w 0#32 = false := by
      rw [BitVec.slt, decide_eq_false_iff_not, hi]; simp
    show BitVec.ofBool (BitVec.slt w 0#32) = _; rw [h2]; rfl
  have lt : (x i % d i).toNat < 2 ^ 31 := by
    rw [BitVec.toNat_umod]
    exact lt_of_le_of_lt (Nat.mod_le _ _) h
  have hc : andi (cmpi .ne (cmpi .slt (Host.remsi x d) (constantI s 32 0#32)) (cmpi .slt d (constantI s 32 0#32)))
      (cmpi .ne (Host.remsi x d) (constantI s 32 0#32)) i = 0#1 := by
    show Scalar.cmpi .ne (Scalar.cmpi .slt (Host.remsi x d i) 0#32) (Scalar.cmpi .slt (d i) 0#32)
      &&& Scalar.cmpi .ne (Host.remsi x d i) 0#32 = 0#1
    rw [r, nonneg _ lt, nonneg _ hd]
    exact BitVec.zero_and
  show Scalar.select _ _ (Host.remsi x d i) = _
  rw [hc, r]
  rfl

end Cert.Proof.Flip

end
-- ==== Proof.Flip.Table.lean ====
/- The arrays the flip's host code hands its kernel: the two positions to change, as a table of two rows and two columns,
   the new value, and the array to change. -/
module

public import proofs.«01_k».proof.Proof.Gen.FlipIdeal.Frame
public import proofs.«01_k».proof.Proof.Flip.Words
public import Idealize.ShloMosaic.Lib.StableHlo.ReadAt
public import Idealize.ShloMosaic.Lib.ValueIdx
public import Idealize.ShloMosaic.Lib.Claim
public import Idealize.ShloMosaic.Lib.StableHlo.RunRead

@[expose] public section

set_option maxRecDepth 16384

noncomputable section

namespace Cert.Proof.FlipIdeal

open Cert.FlipIdeal Cert.FlipIdeal.Gen Cert.Proof.Flip
open Idealize.ShloMosaic Idealize.ShloMosaic.TcCoe Idealize.ShloMosaic.Tactic

variable {F : FTy → Type} [FloatOps F]
variable (m : (ℓ : Loc nD τ sig) → Buf (Elt F) ℓ)

/-- The selected position, as a scalar of the host code. -/
def flat (c : Dev nD) : IVec S_ 32 := shapeCast S_ (m ((c.tc : Thread nD τ).loc main_arg2) : IVec S1x1 32) shapeCasts_S1x1_S_

/-- The number of columns, as a scalar of the host code. -/
def cols : IVec S_ 32 := constantI S_ 32 4096#32

/-- The divisor the host code's remainder uses: the number of columns, since that is not zero. -/
theorem divisor_eq : select (cmpi .eq cols (constantI S_ 32 0#32)) (constantI S_ 32 1#32) cols = cols := by
  funext i
  rfl

set_option maxHeartbeats 1000000 in
/-- The row the host code computes. -/
theorem V_row (c : Dev nD) : V m c main_v1 = hostFloorDiv (flat m c) cols := by
  unfold V
  simp only [List.flatten_cons, List.flatten_nil, List.append_nil, List.cons_append, List.nil_append]
  after_reads_simp
  rfl

set_option maxHeartbeats 1000000 in
/-- The column the host code computes. -/
theorem V_col (c : Dev nD) : V m c main_v2
    = hostRem (flat m c) (select (cmpi .eq cols (constantI S_ 32 0#32)) (constantI S_ 32 1#32) cols) := by
  unfold V
  simp only [List.flatten_cons, List.flatten_nil, List.append_nil, List.cons_append, List.nil_append]
  after_reads_simp
  rfl

set_option maxHeartbeats 1000000 in
/-- The two positions the host code hands the kernel, from the row and the column. -/
theorem V_pos (c : Dev nD) : V m c main_v11 = concatenate S2x2 0
      [⟨S1x2, broadcastInDim S1x2 ![1] bcast_S2_S1x2_1 (concatenate S2 0
        [⟨S1, broadcastInDim S1 ![] bcast_S_S1 (V m c main_v1 : IVec S_ 32)⟩,
         ⟨S1, broadcastInDim S1 ![] bcast_S_S1 (V m c main_v2 : IVec S_ 32)⟩] concatenates_S1_S1_S2_d0)⟩,
       ⟨S1x2, broadcastInDim S1x2 ![1] bcast_S2_S1x2_1 (concatenate S2 0
        [⟨S1, broadcastInDim S1 ![] bcast_S_S1 (V m c main_v2 : IVec S_ 32)⟩,
         ⟨S1, broadcastInDim S1 ![] bcast_S_S1 (V m c main_v1 : IVec S_ 32)⟩] concatenates_S1_S1_S2_d0)⟩]
      concatenates_S1x2_S1x2_S2x2_d0 := by
  unfold V
  simp only [List.flatten_cons, List.flatten_nil, List.append_nil, List.cons_append, List.nil_append]
  after_reads_simp
  rfl

set_option maxHeartbeats 1000000 in
/-- The new value the host code hands the kernel. -/
theorem V_val (c : Dev nD) : V m c main_v16 = shapeCast S1x1
    (select (cmpf .ogt (shapeCast S_ (m ((c.tc : Thread nD τ).loc main_arg1) : FVec F S1x1 .f32) shapeCasts_S1x1_S_) (constant S_ .f32 0x00000000#32))
      (constant S_ .f32 0x00000000#32) (constant S_ .f32 0x3F800000#32) : FVec F S_ .f32) shapeCasts_S_S1x1 := by
  unfold V
  simp only [List.flatten_cons, List.flatten_nil, List.append_nil, List.cons_append, List.nil_append]
  after_reads_simp
  rfl

set_option maxHeartbeats 1000000 in
/-- The array the kernel writes into starts as a copy of the argument. -/
theorem V_copy (c : Dev nD) : V m c main_v17 = m ((c.tc : Thread nD τ).loc main_arg0) := by
  unfold V
  simp only [List.flatten_cons, List.flatten_nil, List.append_nil, List.cons_append, List.nil_append]
  after_reads_simp
  rfl

end Cert.Proof.FlipIdeal

end
-- ==== Proof.Flip.Place.lean ====
/- The blocks the flip's kernel works on. At each of its two grid points the kernel changes one entry: first the selected
   one, then the one mirrored across the diagonal. It reads and writes the block of 8 rows and 128 columns that holds the
   entry, and both blocks lie inside the array when the selected position does. -/
module

public import proofs.«01_k».proof.Proof.Flip.Table
public import Idealize.ShloMosaic.Lib.Pointwise

@[expose] public section

set_option maxRecDepth 16384

noncomputable section

namespace Cert.Proof.FlipIdeal

open Cert.FlipIdeal Cert.FlipIdeal.Gen Cert.Proof.Flip
open Idealize.ShloMosaic Idealize.ShloMosaic.TcCoe Idealize.ShloMosaic.Tactic

variable {F : FTy → Type} [FloatOps F]
variable (m : (ℓ : Loc nD τ sig) → Buf (Elt F) ℓ)

/-- The entries of the table: row and column of the selected position, then column and row. -/
theorem pos_entries (c : Dev nD) : (V m c main_v11 : IVec S2x2 32) (ix2 0 0) = (V m c main_v1 : IVec S_ 32) ix0
   ∧ (V m c main_v11 : IVec S2x2 32) (ix2 0 1) = (V m c main_v2 : IVec S_ 32) ix0
   ∧ (V m c main_v11 : IVec S2x2 32) (ix2 1 0) = (V m c main_v2 : IVec S_ 32) ix0
   ∧ (V m c main_v11 : IVec S2x2 32) (ix2 1 1) = (V m c main_v1 : IVec S_ 32) ix0 := by
  rw [V_pos]
  generalize (V m c main_v1 : IVec S_ 32) = a
  generalize (V m c main_v2 : IVec S_ 32) = b
  refine ⟨?_, ?_, ?_, ?_⟩ <;> pointwise

/-- The selected position, as a word. -/
def word (c : Dev nD) : BitVec 32 := (m ((c.tc : Thread nD τ).loc main_arg2) : IVec S1x1 32) (ix2 0 0)

/-- The scalar of the host code holds that word. -/
theorem flat_apply (c : Dev nD) : flat m c ix0 = word m c := by
  unfold flat word
  pointwise

/-- The row of the selected position. -/
def row (c : Dev nD) : ℕ := (word m c).toNat / 4096
/-- The column of the selected position. -/
def col (c : Dev nD) : ℕ := (word m c).toNat % 4096

/-- The selected position is a position of the array. -/
def Inside (c : Dev nD) : Prop := (word m c).toNat < 16777216

variable {m}

/-- The row the host code computes. -/
theorem row_word {c : Dev nD} (h : Inside m c) : (V m c main_v1 : IVec S_ 32) ix0 = BitVec.ofNat 32 (row m c) := by
  have h' : (flat m c ix0).toNat < 2 ^ 31 := by rw [flat_apply]; unfold Inside at h; omega
  rw [V_row, hostFloorDiv_apply _ _ _ h' (by decide) (by decide), flat_apply]
  unfold Inside at h
  refine BitVec.eq_of_toNat_eq ?_
  show (word m c / 4096#32).toNat = _
  rw [BitVec.toNat_udiv, BitVec.toNat_ofNat]
  unfold row
  simp
  omega

/-- The column the host code computes. -/
theorem col_word {c : Dev nD} (h : Inside m c) : (V m c main_v2 : IVec S_ 32) ix0 = BitVec.ofNat 32 (col m c) := by
  have h' : (flat m c ix0).toNat < 2 ^ 31 := by rw [flat_apply]; unfold Inside at h; omega
  rw [V_col, divisor_eq, hostRem_apply _ _ _ h' (by decide) (by decide), flat_apply]
  unfold Inside at h
  refine BitVec.eq_of_toNat_eq ?_
  show (word m c % 4096#32).toNat = _
  rw [BitVec.toNat_umod, BitVec.toNat_ofNat]
  unfold col
  simp
  omega

/-- The row is one of the array. -/
theorem row_lt {c : Dev nD} (h : Inside m c) : row m c < 4096 := by unfold Inside at h; unfold row; omega
/-- The column is one of the array. -/
theorem col_lt (c : Dev nD) : col m c < 4096 := Nat.mod_lt _ (by decide)

/-- The row of the entry that the grid point numbered `k` changes. -/
def rowAt (m : (ℓ : Loc nD τ sig) → Buf (Elt F) ℓ) (c : Dev nD) (k : Fin 2) : ℕ := if k = 0 then row m c else col m c
/-- The column of that entry. -/
def colAt (m : (ℓ : Loc nD τ sig) → Buf (Elt F) ℓ) (c : Dev nD) (k : Fin 2) : ℕ := if k = 0 then col m c else row m c

/-- That row is one of the array. -/
theorem rowAt_lt {c : Dev nD} (h : Inside m c) (k : Fin 2) : rowAt m c k < 4096 := by
  have := row_lt h; have := col_lt (m := m) c; unfold rowAt; split <;> assumption
/-- That column is one of the array. -/
theorem colAt_lt {c : Dev nD} (h : Inside m c) (k : Fin 2) : colAt m c k < 4096 := by
  have := row_lt h; have := col_lt (m := m) c; unfold colAt; split <;> assumption

/-- The table holds that row. -/
theorem tbl_row (h : Inside m 0) (k : Fin 2) : (tbl m 0 : IVec S2x2 32) (ix2 k 0) = BitVec.ofNat 32 (rowAt m 0 k) := by
  obtain ⟨h0, -, h1, -⟩ := pos_entries m 0
  match k with
  | 0 => exact h0.trans (row_word h)
  | 1 => exact h1.trans (col_word h)

/-- The table holds that column. -/
theorem tbl_col (h : Inside m 0) (k : Fin 2) : (tbl m 0 : IVec S2x2 32) (ix2 k 1) = BitVec.ofNat 32 (colAt m 0 k) := by
  obtain ⟨-, h0, -, h1⟩ := pos_entries m 0
  match k with
  | 0 => exact h0.trans (col_word h)
  | 1 => exact h1.trans (row_word h)

/-- The number of a grid point. -/
def point (i : grid0.Coords) : Fin 2 := i 0

/-- The entry of the table that a grid point's index map reads for the row. -/
theorem first_row (i : grid0.Coords) : (Rect.unit (s := S2x2) (k0_off1 i) S1x1.size (k0_off1_inb i)).emb
    (Shape.Idx.first (numel1_S1x1.symm ▸ Nat.one_pos)) = ix2 (point i) 0 := by
  have hi : (i 0).val < 2 := (i 0).isLt
  funext a
  refine Fin.ext ?_
  match a with
  | 0 =>
    show (BitVec.ofNat 32 (i 0).val).toNat + 1 * 0 = (i 0).val
    rw [BitVec.toNat_ofNat]; omega
  | 1 => rfl

/-- The entry of the table that a grid point's index map reads for the column. -/
theorem first_col (i : grid0.Coords) : (Rect.unit (s := S2x2) (k0_off2 i) S1x1.size (k0_off2_inb i)).emb
    (Shape.Idx.first (numel1_S1x1.symm ▸ Nat.one_pos)) = ix2 (point i) 1 := by
  have hi : (i 0).val < 2 := (i 0).isLt
  funext a
  refine Fin.ext ?_
  match a with
  | 0 =>
    show (BitVec.ofNat 32 (i 0).val).toNat + 1 * 0 = (i 0).val
    rw [BitVec.toNat_ofNat]; omega
  | 1 => rfl

/-- The index map divides the row by 8 and the column by 128. -/
theorem transform_eq (pf : pre0.Contents (Elt F)) (i : grid0.Coords) :
    cc0_transform_1 k0_off1_inb numel1_S1x1 k0_off2_inb pf i
      = ![(floorDiv ((pf 0 : IVec S2x2 32) (ix2 (point i) 0)) 8#32).toNat, (floorDiv ((pf 0 : IVec S2x2 32) (ix2 (point i) 1)) 128#32).toNat] := by
  exact congrArg₂ (fun a b => ![(floorDiv a 8#32).toNat, (floorDiv b 128#32).toNat])
    (congrArg (pf 0 : IVec S2x2 32) (first_row i)) (congrArg (pf 0 : IVec S2x2 32) (first_col i))

/-- The result has the same index map as the array read. -/
theorem transform_eq' (pf : pre0.Contents (Elt F)) (i : grid0.Coords) :
    cc0_transform_2 k0_off1_inb numel1_S1x1 k0_off2_inb pf i = cc0_transform_1 k0_off1_inb numel1_S1x1 k0_off2_inb pf i := rfl

/-- The quotient of two words that hold numbers holds the quotient of the numbers. -/
theorem floorDiv_ofNat (n d : ℕ) (hn : n < 2 ^ 31) (hd : d < 2 ^ 31) (h0 : 0 < d) :
    floorDiv (BitVec.ofNat 32 n) (BitVec.ofNat 32 d) = BitVec.ofNat 32 (n / d) := by
  have hn' : (BitVec.ofNat 32 n).toNat = n := by rw [BitVec.toNat_ofNat]; omega
  have hd' : (BitVec.ofNat 32 d).toNat = d := by rw [BitVec.toNat_ofNat]; omega
  rw [floorDiv_of_lt _ _ (by omega) (by omega) (fun e => by rw [e] at hd'; simp at hd'; omega)]
  refine BitVec.eq_of_toNat_eq ?_
  have := Nat.div_le_self n d
  rw [BitVec.toNat_udiv, hn', hd', BitVec.toNat_ofNat]
  exact (Nat.mod_eq_of_lt (by omega)).symm

/-- The block of grid point `i`: that of the entry it changes. -/
theorem block_eq (h : Inside m 0) (i : grid0.Coords) :
    cc0_transform_1 k0_off1_inb numel1_S1x1 k0_off2_inb (tbl m) i = ![rowAt m 0 (point i) / 8, colAt m 0 (point i) / 128] := by
  have hr := rowAt_lt h (point i)
  have hc := colAt_lt h (point i)
  rw [transform_eq, tbl_row h, tbl_col h, floorDiv_ofNat _ 8 (by omega) (by omega) (by omega),
    floorDiv_ofNat _ 128 (by omega) (by omega) (by omega), BitVec.toNat_ofNat, BitVec.toNat_ofNat]
  congr 1
  · omega
  · congr 1; omega

/-- The block of a grid point lies inside the array. -/
theorem inside_block (h : Inside m 0) (i : grid0.Coords) (a : Fin 2) :
    (cc0_transform_1 k0_off1_inb numel1_S1x1 k0_off2_inb (tbl m) i a + 1) * S8x128.size a ≤ S4096x4096.size a := by
  have hr := rowAt_lt h (point i)
  have hc := colAt_lt h (point i)
  rw [block_eq h]
  match a with
  | 0 => show (rowAt m 0 (point i) / 8 + 1) * 8 ≤ 4096; omega
  | 1 => show (colAt m 0 (point i) / 128 + 1) * 128 ≤ 4096; omega

/-- The array read and the array written are one: no block is fetched after it has been written back. -/
theorem aliased (h : Inside m 0) : Pipeline.WinSpec.Aliased (G := grid0) spec0 (ix0 (tbl m)) 1 2 where
  isIn := rfl
  isOut := rfl
  rank := rfl
  size a a' e := by obtain rfl : a = a' := Fin.ext e; rfl
  index c a a' e := by obtain rfl : a = a' := Fin.ext e; rfl
  ordered u u' hu hf hw e := by
    have hne : ¬ u.val = 0 := by omega
    have hN : grid0.N = 2 := N_0
    have hu0 : u'.val = u.val - 1 := by have := u.isLt; omega
    have hlt : u.val - 1 < grid0.N := by have := u.isLt; omega
    obtain rfl : u' = ⟨u.val - 1, hlt⟩ := Fin.ext hu0
    unfold Pipeline.WinSpec.fetchAt at hf
    simp only [Bool.and_eq_true, Bool.or_eq_true, decide_eq_true_eq, hne, false_or] at hf
    obtain ⟨_, _, hx⟩ := hf
    exact hx e.symm

/-- Where the selected position is one of the array, the run has what it needs. -/
theorem ok (h : Inside m 0) : Ok m :=
  ⟨fun i => ⟨inside_block h i, Or.inl rfl⟩, fun i => ⟨inside_block h i, Or.inl rfl⟩, aliased h⟩

end Cert.Proof.FlipIdeal

end
-- ==== Proof.Flip.Entry.lean ====
/- The block the flip's kernel leaves at a grid point, entry by entry: the new value where the entry is the selected one or
   its mirror image, and elsewhere what the block held. -/
module

public import proofs.«01_k».proof.Proof.Flip.Place
public import Idealize.ShloMosaic.Lib.Pointwise
public import Idealize.ShloMosaic.Lib.Pipeline.ValueKit

@[expose] public section

set_option maxRecDepth 16384

noncomputable section

namespace Cert.Proof.FlipIdeal

open Cert.FlipIdeal Cert.FlipIdeal.Gen Cert.Proof.Flip
open Idealize.ShloMosaic Idealize.ShloMosaic.TcCoe Idealize.ShloMosaic.Tactic

variable {F : FTy → Type} [FloatOps F]
variable {m : (ℓ : Loc nD τ sig) → Buf (Elt F) ℓ}

/-- Comparing two words for equality, as a truth value. -/
theorem cmpi_eq_decide (x y : BitVec 32) : Scalar.cmpi .eq x y = BitVec.ofBool (decide (x = y)) := rfl

/-- Words of numbers below 2 ^ 32 are equal just when the numbers are. -/
theorem ofNat_eq_iff (x y : ℕ) (hx : x < 2 ^ 32) (hy : y < 2 ^ 32) : BitVec.ofNat 32 x = BitVec.ofNat 32 y ↔ x = y := by
  constructor
  · intro e
    have := congrArg BitVec.toNat e
    rw [BitVec.toNat_ofNat, BitVec.toNat_ofNat] at this
    omega
  · rintro rfl; rfl

/-- A choice on one of two pairs of truth values. -/
theorem select_or_and (P Q R S : Prop) [Decidable P] [Decidable Q] [Decidable R] [Decidable S] {α : Type} (x y : α) :
    Scalar.select ((BitVec.ofBool (decide P) &&& BitVec.ofBool (decide Q)) ||| (BitVec.ofBool (decide R) &&& BitVec.ofBool (decide S))) x y
      = if (P ∧ Q) ∨ (R ∧ S) then x else y := by
  by_cases h1 : P <;> by_cases h2 : Q <;> by_cases h3 : R <;> by_cases h4 : S <;> simp [h1, h2, h3, h4, Scalar.select]

/-- What the body stores, entry by entry: the new value at the selected position and at its mirror image, and
    elsewhere what the block held. -/
theorem pay_apply (A B r q : ℕ) (hA : A < 4096) (hB : B < 4096) (hr : r < 4096) (hq : q < 4096) (x : Elt F .f32) (y : Vec F S8x128 .f32)
    (a : Fin 8) (b : Fin 128) :
    k0_pay1 (BitVec.ofNat 32 A) (BitVec.ofNat 32 B) (BitVec.ofNat 32 r) (BitVec.ofNat 32 q) x y (ix2 a b)
      = if (A + a.val = r ∧ B + b.val = q) ∨ (A + a.val = q ∧ B + b.val = r) then x else y (ix2 a b) := by
  have ha := a.isLt
  have hb := b.isLt
  show Scalar.select
    ((Scalar.cmpi .eq (iota .tc S8x128 32 [0] iota_S8x128_d0_w32 (ix2 a b) + BitVec.ofNat 32 A) (BitVec.ofNat 32 r)
        &&& Scalar.cmpi .eq (iota .tc S8x128 32 [1] iota_S8x128_d1_w32 (ix2 a b) + BitVec.ofNat 32 B) (BitVec.ofNat 32 q))
      ||| (Scalar.cmpi .eq (iota .tc S8x128 32 [0] iota_S8x128_d0_w32 (ix2 a b) + BitVec.ofNat 32 A) (BitVec.ofNat 32 q)
        &&& Scalar.cmpi .eq (iota .tc S8x128 32 [1] iota_S8x128_d1_w32 (ix2 a b) + BitVec.ofNat 32 B) (BitVec.ofNat 32 r))) x (y (ix2 a b)) = _
  rw [iota_single_apply, iota_single_apply]
  show Scalar.select
    ((Scalar.cmpi .eq (BitVec.ofNat 32 a.val + BitVec.ofNat 32 A) (BitVec.ofNat 32 r)
        &&& Scalar.cmpi .eq (BitVec.ofNat 32 b.val + BitVec.ofNat 32 B) (BitVec.ofNat 32 q))
      ||| (Scalar.cmpi .eq (BitVec.ofNat 32 a.val + BitVec.ofNat 32 A) (BitVec.ofNat 32 q)
        &&& Scalar.cmpi .eq (BitVec.ofNat 32 b.val + BitVec.ofNat 32 B) (BitVec.ofNat 32 r))) x (y (ix2 a b)) = _
  simp only [← BitVec.ofNat_add, cmpi_eq_decide]
  rw [Nat.add_comm A, Nat.add_comm B, decide_eq_decide.mpr (ofNat_eq_iff (a.val + A) r (by omega) (by omega)), decide_eq_decide.mpr (ofNat_eq_iff (b.val + B) q (by omega) (by omega)),
    decide_eq_decide.mpr (ofNat_eq_iff (a.val + A) q (by omega) (by omega)), decide_eq_decide.mpr (ofNat_eq_iff (b.val + B) r (by omega) (by omega))]
  exact select_or_and _ _ _ _ _ _

/-- What the body stores depends on nothing but the values it reads. -/
theorem pay_congr {a a' b b' d d' e e' : BitVec 32} {f f' : Elt F .f32} {g g' : Vec F S8x128 .f32} (ha : a = a') (hb : b = b') (hd : d = d') (he : e = e')
    (hf : f = f') (hg : g = g') (j : S8x128.Idx) : k0_pay1 a b d e f g j = k0_pay1 a' b' d' e' f' g' j := by
  subst ha hb hd he hf hg; rfl

/-- What the body leaves at grid point `t`, entry by entry. -/
theorem out_apply (h : Inside m 0) (hO : Ok m) (c : Dev nD) (t : Fin (cfgM m hO).N) (a : Fin 8) (b : Fin 128) :
   outsAt0 m hO c t (ix2 a b)
     = if (rowAt m 0 (point (grid0.coords t)) / 8 * 8 + a.val = row m 0 ∧ colAt m 0 (point (grid0.coords t)) / 128 * 128 + b.val = col m 0)
          ∨ (rowAt m 0 (point (grid0.coords t)) / 8 * 8 + a.val = col m 0 ∧ colAt m 0 (point (grid0.coords t)) / 128 * 128 + b.val = row m 0)
        then (iblk m hO c 0 t : Vec F S1x1 .f32) (ix2 0 0) else (iblk m hO c 1 t : Vec F S8x128 .f32) (ix2 a b) := by
  have hr := rowAt_lt h (point (grid0.coords t))
  have hc := colAt_lt h (point (grid0.coords t))
  refine Eq.trans ?_ (pay_apply (rowAt m 0 (point (grid0.coords t)) / 8 * 8) (colAt m 0 (point (grid0.coords t)) / 128 * 128) (row m 0) (col m 0)
    (by omega) (by omega) (row_lt h) (col_lt 0) _ _ a b)
  unfold outsAt0
  frame_out
  refine pay_congr ?_ ?_ ?_ ?_ ?_ ?_ _
  · generalize hw : View.readAt (Elt F) (View.whole main_v11) (Rect.unit (s := S2x2) (k0_off1 (grid0.coords t)) ![1, 1] _).toLoadRect (tbl m 0) (Shape.Idx.first _) = w
    have e : w = BitVec.ofNat 32 (rowAt m 0 (point (grid0.coords t))) :=
      hw.symm.trans ((congrArg (tbl m 0 : IVec S2x2 32) (first_row (grid0.coords t))).trans (tbl_row h _))
    clear hw
    subst e
    refine (?_ : Scalar.muli (floorDiv (BitVec.ofNat 32 (rowAt m 0 (point (grid0.coords t)))) (BitVec.ofNat 32 8)) (BitVec.ofNat 32 8) = _)
    rw [floorDiv_ofNat _ 8 (by omega) (by omega) (by omega)]
    exact (BitVec.ofNat_mul ..).symm
  · generalize hw : View.readAt (Elt F) (View.whole main_v11) (Rect.unit (s := S2x2) (k0_off2 (grid0.coords t)) ![1, 1] _).toLoadRect (tbl m 0) (Shape.Idx.first _) = w
    have e : w = BitVec.ofNat 32 (colAt m 0 (point (grid0.coords t))) :=
      hw.symm.trans ((congrArg (tbl m 0 : IVec S2x2 32) (first_col (grid0.coords t))).trans (tbl_col h _))
    clear hw
    subst e
    refine (?_ : Scalar.muli (floorDiv (BitVec.ofNat 32 (colAt m 0 (point (grid0.coords t)))) (BitVec.ofNat 32 128)) (BitVec.ofNat 32 128) = _)
    rw [floorDiv_ofNat _ 128 (by omega) (by omega) (by omega)]
    exact (BitVec.ofNat_mul ..).symm
  · exact (congrArg (tbl m 0 : IVec S2x2 32) (by funext k; match k with | 0 => rfl | 1 => rfl)).trans (tbl_row h 0)
  · exact (congrArg (tbl m 0 : IVec S2x2 32) (by funext k; match k with | 0 => rfl | 1 => rfl)).trans (tbl_col h 0)
  · exact (congrFun ((hs0_0 m hO t).read_unread _) _).trans (congrArg (iblk m hO c 0 t : Vec F S1x1 .f32) (by funext k; match k with | 0 => rfl | 1 => rfl))
  · exact (hs0_1 m hO t).read_unread _

end Cert.Proof.FlipIdeal

end
-- ==== Proof.Flip.Array.lean ====
/- The array the flip's kernel leaves. The two blocks are two readings of one array, so that each entry of the result is that
   array's: inside a block that is written back by the block's value, and outside because the array starts as a copy of the
   argument. When the two entries lie in one block, only the last grid point writes it back, and that is enough. -/
module

public import proofs.«01_k».proof.Proof.Flip.Entry
public import Idealize.ShloMosaic.Lib.Pointwise
public import Idealize.ShloMosaic.Lib.Pipeline.ValueKit

@[expose] public section

set_option maxRecDepth 16384

noncomputable section

namespace Cert.Proof.FlipIdeal

open Cert.FlipIdeal Cert.FlipIdeal.Gen Cert.Proof.Flip
open Idealize.ShloMosaic Idealize.ShloMosaic.TcCoe Idealize.ShloMosaic.Tactic

variable {F : FTy → Type} [FloatOps F]
variable {m : (ℓ : Loc nD τ sig) → Buf (Elt F) ℓ}

/-- The place in the array of a block's entry. -/
def place (hO : Ok m) (t : Fin (cfgM m hO).N) (y : S8x128.Idx) : S4096x4096.Idx := (((cfgM m hO).win 2).blk t).view.emb y

/-- The row of a block's entry. -/
theorem place_row (h : Inside m 0) (hO : Ok m) (t : Fin (cfgM m hO).N) (y : S8x128.Idx) :
    (place hO t y 0).val = rowAt m 0 (point (grid0.coords t)) / 8 * 8 + (y 0).val := by
  refine (Pipeline.Window.rect_emb_val ((cfgM m hO).win 2) t y (0 : Fin 2) rfl).trans ?_
  exact congrArg (fun n => n * 8 + (y 0).val) (congrFun (block_eq h (grid0.coords t)) 0)

/-- The column of a block's entry. -/
theorem place_col (h : Inside m 0) (hO : Ok m) (t : Fin (cfgM m hO).N) (y : S8x128.Idx) :
    (place hO t y 1).val = colAt m 0 (point (grid0.coords t)) / 128 * 128 + (y 1).val := by
  refine (Pipeline.Window.rect_emb_val ((cfgM m hO).win 2) t y (1 : Fin 2) rfl).trans ?_
  exact congrArg (fun n => n * 128 + (y 1).val) (congrFun (block_eq h (grid0.coords t)) 1)

/-- The block the body reads at a grid point, entry by entry. -/
theorem block_apply (hO : Ok m) (c : Dev nD) (t : Fin (cfgM m hO).N) (y : S8x128.Idx) :
    (iblk m hO c 1 t : Vec F S8x128 .f32) y = (m ((c.tc : Thread nD τ).loc main_arg0) : Vec F S4096x4096 .f32) (place hO t y) :=
  congrFun (V_main_arg0 m c) (place hO t y)

/-- An array of one entry has one index. -/
theorem one_index (x y : S1x1.Idx) : x = y := by
  funext k
  match k with
  | 0 => exact Subsingleton.elim (α := Fin 1) _ _
  | 1 => exact Subsingleton.elim (α := Fin 1) _ _

/-- The new value the body reads at a grid point. -/
theorem value_apply (hO : Ok m) (c : Dev nD) (t : Fin (cfgM m hO).N) :
    (iblk m hO c 0 t : Vec F S1x1 .f32) (ix2 0 0) = (V m c main_v16 : Vec F S1x1 .f32) (ix2 0 0) :=
  congrArg (V m c main_v16 : Vec F S1x1 .f32) (one_index _ _)

/-- The array after the run: the new value at the selected position and at its mirror image. -/
def flipped (m : (ℓ : Loc nD τ sig) → Buf (Elt F) ℓ) (c : Dev nD) : Vec F S4096x4096 .f32 := fun i =>
  if ((i 0).val = row m c ∧ (i 1).val = col m c) ∨ ((i 0).val = col m c ∧ (i 1).val = row m c)
    then (V m c main_v16 : Vec F S1x1 .f32) (ix2 0 0) else (m ((c.tc : Thread nD τ).loc main_arg0) : Vec F S4096x4096 .f32) i

/-- The block a grid point leaves is a reading of the changed array. -/
theorem flushed_eq (h : Inside m 0) (hO : Ok m) (t : Fin (cfgM m hO).N) :
    (dats m hO 0 0).flushed 2 t = (((cfgM m hO).win 2).blk t).view.read (Elt F) (flipped m 0) := by
  refine funext fun y => ?_
  change S8x128.Idx at y
  obtain ⟨a, b, rfl⟩ : ∃ (a : Fin 8) (b : Fin 128), y = ix2 a b := ⟨y 0, y 1, by funext k; match k with | 0 => rfl | 1 => rfl⟩
  refine (?_ : outsAt0 m hO 0 t (ix2 a b) = flipped m 0 (place hO t (ix2 a b)))
  rw [out_apply h, block_apply, value_apply]
  unfold flipped
  rw [place_row h, place_col h]
  rfl

/-- An entry whose block is that of grid point `t` lies in the block. -/
theorem mem_block (h : Inside m 0) (hO : Ok m) (t : Fin (cfgM m hO).N) (i : S4096x4096.Idx)
    (hr : (i 0).val / 8 = rowAt m 0 (point (grid0.coords t)) / 8) (hc : (i 1).val / 128 = colAt m 0 (point (grid0.coords t)) / 128) :
    i ∈ (((cfgM m hO).win 2).blk t).view.set := by
  have e : place hO t (ix2 (⟨(i 0).val % 8, Nat.mod_lt _ (by decide)⟩ : Fin 8) (⟨(i 1).val % 128, Nat.mod_lt _ (by decide)⟩ : Fin 128)) = i := by
    funext k
    refine Fin.ext ?_
    match k with
    | 0 =>
      refine (place_row h hO t _).trans ?_
      show rowAt m 0 (point (grid0.coords t)) / 8 * 8 + (i 0).val % 8 = (i 0).val
      rw [← hr]; omega
    | 1 =>
      refine (place_col h hO t _).trans ?_
      show colAt m 0 (point (grid0.coords t)) / 128 * 128 + (i 1).val % 128 = (i 1).val
      rw [← hc]; omega
  rw [← e]
  exact View.emb_mem_set _ _

/-- The last grid point writes its block back. -/
theorem flush_last (hO : Ok m) : ((cfgM m hO).win 2).flush (t0_1 : Fin grid0.N) = true := by
  unfold Pipeline.Window.flush
  rfl

/-- The block number of the result window at a grid point. -/
theorem index_eq (hO : Ok m) (t : Fin grid0.N) :
    ((cfgM m hO).win 2).index t = cc0_transform_2 k0_off1_inb numel1_S1x1 k0_off2_inb (tbl m) (grid0.coords t) := rfl

/-- The first grid point writes its block back, unless the last one works on the same block. -/
theorem flush_first (h : Inside m 0) (hO : Ok m) :
    ((cfgM m hO).win 2).flush (t0_0 : Fin grid0.N) = true ∨ (rowAt m 0 0 / 8 = rowAt m 0 1 / 8 ∧ colAt m 0 0 / 128 = colAt m 0 1 / 128) := by
  by_cases e : cc0_transform_2 k0_off1_inb numel1_S1x1 k0_off2_inb (tbl m) (grid0.coords t0_1)
      = cc0_transform_2 k0_off1_inb numel1_S1x1 k0_off2_inb (tbl m) (grid0.coords t0_0)
  · rw [transform_eq', transform_eq', block_eq h, block_eq h] at e
    exact Or.inr ⟨(congrFun e 0).symm, (congrFun e 1).symm⟩
  · refine Or.inl ?_
    unfold Pipeline.Window.flush
    rw [Bool.and_eq_true, Bool.or_eq_true]
    exact ⟨rfl, Or.inr (decide_eq_true ⟨t0_1.isLt, fun e' => e ((index_eq hO t0_1).symm.trans (e'.trans (index_eq hO t0_0)))⟩)⟩

/-- Every entry the flip changes lies in a block that is written back. -/
theorem changed_mem (h : Inside m 0) (hO : Ok m) (i : S4096x4096.Idx)
    (hi : ((i 0).val = row m 0 ∧ (i 1).val = col m 0) ∨ ((i 0).val = col m 0 ∧ (i 1).val = row m 0)) :
    ∃ t : Fin (cfgM m hO).N, ((cfgM m hO).win 2).flush t = true ∧ i ∈ (((cfgM m hO).win 2).blk t).view.set := by
  rcases hi with ⟨h0, h1⟩ | ⟨h0, h1⟩
  · rcases flush_first h hO with hf | ⟨e0, e1⟩
    · exact ⟨t0_0, hf, mem_block h hO t0_0 i (congrArg (· / 8) h0) (congrArg (· / 128) h1)⟩
    · exact ⟨t0_1, flush_last hO, mem_block h hO t0_1 i ((congrArg (· / 8) h0).trans e0) ((congrArg (· / 128) h1).trans e1)⟩
  · exact ⟨t0_1, flush_last hO, mem_block h hO t0_1 i (congrArg (· / 8) h0) (congrArg (· / 128) h1)⟩

/-- The result array after the run. -/
theorem result_eq (h : Inside m 0) (hO : Ok m) : (dats m hO 0 0).arrAt 2 (cfgM m hO).N = flipped m 0 := by
  refine funext fun i => ?_
  change S4096x4096.Idx at i
  by_cases hb : ∃ t : Fin (cfgM m hO).N, ((cfgM m hO).win 2).flush t = true ∧ i ∈ (((cfgM m hO).win 2).blk t).view.set
  · obtain ⟨t, hf, hi⟩ := hb
    exact (dats m hO 0 0).arrAt_apply_of_mem 2 (flipped m 0) (fun t _ => flushed_eq h hO t) _ t i t.isLt hf hi
  · have hn : ¬(((i 0).val = row m 0 ∧ (i 1).val = col m 0) ∨ ((i 0).val = col m 0 ∧ (i 1).val = row m 0)) := fun hi => hb (changed_mem h hO i hi)
    refine ((dats m hO 0 0).arrAt_apply_of_forall_not_mem 2 _ i (fun t _ hf hi => hb ⟨t, hf, hi⟩)).trans ?_
    rw [A_eq]
    refine (congrFun (V_copy m 0) i).trans ?_
    exact (if_neg hn).symm

end Cert.Proof.FlipIdeal

end
-- ==== Proof.Flip.ReferenceRun.lean ====
/- The run of the flip's reference. Its code is a line of whole-array operations: the first part splits the selected
   position into a row and a column, the second computes the new value, the third sets the two entries. What each part
   leaves is read off by itself, from whatever the part before it left. -/
module

public import proofs.«01_k».proof.Proof.Gen.FlipReferenceIdeal
public import proofs.«01_k».proof.Proof.Flip.Words
public import Idealize.ShloMosaic.Lib.StableHlo.Run
public import Idealize.ShloMosaic.Lib.StableHlo.RunRead

@[expose] public section

set_option maxRecDepth 16384

noncomputable section

namespace Cert.Proof.FlipReference

open Cert.FlipReferenceIdeal Cert.FlipReferenceIdeal.Gen Cert.Proof.Flip
open Idealize.ShloMosaic Idealize.ShloMosaic.TcCoe Idealize.SL.Sem Idealize.ShloMosaic.StableHlo

variable {F : FTy → Type} [FloatOps F]

/-- The selected position, as a scalar. -/
def flat (x : IVec S1x1 32) : IVec S_ 32 := shapeCast S_ x shapeCasts_S1x1_S_

/-- The number of columns, as a scalar. -/
def cols : IVec S_ 32 := constantI S_ 32 4096#32

/-- The row, as a scalar. -/
def rowOf (x : IVec S1x1 32) : IVec S_ 32 := hostFloorDiv (flat x) cols

/-- The column, as a scalar. -/
def colOf (x : IVec S1x1 32) : IVec S_ 32 :=
  hostRem (flat x) (select (cmpi .eq cols (constantI S_ 32 0#32)) (constantI S_ 32 1#32) cols)

/-- An index counted from the end when it is negative. -/
def wrap (v : IVec S_ 32) : IVec S_ 32 := select (cmpi .slt v (constantI S_ 32 0#32)) (addi v (constantI S_ 32 4096#32)) v

/-- Two indices, as a vector. -/
def pair (a b : IVec S_ 32) : IVec S2 32 :=
  concatenate S2 0 [⟨S1, broadcastInDim S1 ![] bcast_S_S1 a⟩, ⟨S1, broadcastInDim S1 ![] bcast_S_S1 b⟩] concatenates_S1_S1_S2_d0

/-- The new value: the distance of the entry read from one. -/
def newValue (adj : FVec F S4096x4096 .f32) (a b : IVec S_ 32) : FVec F S_ .f32 :=
  Host.absf (subf (shapeCast S_ (Host.dynamicSlice S1x1 adj (fun k => ((![a, b] : Fin 2 → IVec S_ 32) k (Shape.Idx.first h_S_)).toInt)
    sliceFits_S4096x4096_S1x1) shapeCasts_S1x1_S_) (constant S_ .f32 0x3F800000#32))

/-- One entry of an array set to a value. -/
def set (adj : FVec F S4096x4096 .f32) (a b : IVec S_ 32) (v : FVec F S_ .f32) : FVec F S4096x4096 .f32 :=
  Host.scatter scatter_S4096x4096_S2_S__n_01_01_0 (fun _ b => b) adj (pair a b) v

/-- The array the reference returns, from its arguments. -/
def changed (adj : FVec F S4096x4096 .f32) (x : IVec S1x1 32) : FVec F S4096x4096 .f32 :=
  set (set adj (wrap (rowOf x)) (wrap (colOf x)) (newValue adj (wrap (rowOf x)) (wrap (colOf x))))
    (wrap (colOf x)) (wrap (rowOf x)) (newValue adj (wrap (rowOf x)) (wrap (colOf x)))

/-- Two vectors of one index each, joined. -/
def join : (⟨S1, .i32⟩ : BufTy).Contents (Elt F) → (⟨S1, .i32⟩ : BufTy).Contents (Elt F) → (⟨S2, .i32⟩ : BufTy).Contents (Elt F) :=
  fun a b => concatenate S2 0 [⟨S1, a⟩, ⟨S1, b⟩] concatenates_S1_S1_S2_d0

/-- The part that splits the selected position into a row and a column. -/
abbrev splitOps : List (HloOp τ sig (Elt F)) :=
  [ reshape main_arg2 main_v0 (rfl : (.i32 : EltTy) = .i32) shapeCasts_S1x1_S_,
    nullary main_c (constantI S_ 32 4096#32),
    TRef.unary (TRef.of (T := ⟨S_, .i32⟩) main_c) (TRef.of (T := ⟨S_, .i32⟩) main_call0_v0) id,
    TRef.binary (TRef.of (T := ⟨S_, .i32⟩) main_v0) (TRef.of (T := ⟨S_, .i32⟩) main_call0_v0) (TRef.of (T := ⟨S_, .i32⟩)
      main_call0_v1) Host.divsi,
    TRef.unary (TRef.of (T := ⟨S_, .i32⟩) main_v0) (TRef.of (T := ⟨S_, .i32⟩) main_call0_v2) signi,
    TRef.unary (TRef.of (T := ⟨S_, .i32⟩) main_call0_v0) (TRef.of (T := ⟨S_, .i32⟩) main_call0_v3) signi,
    TRef.binary (TRef.of (T := ⟨S_, .i32⟩) main_call0_v2) (TRef.of (T := ⟨S_, .i32⟩) main_call0_v3) (TRef.of (T := ⟨S_,
      .i1⟩) main_call0_v4) (cmpi .ne),
    TRef.binary (TRef.of (T := ⟨S_, .i32⟩) main_v0) (TRef.of (T := ⟨S_, .i32⟩) main_call0_v0) (TRef.of (T := ⟨S_, .i32⟩)
      main_call0_v5) Host.remsi,
    TRef.nullary (TRef.of (T := ⟨S_, .i32⟩) main_call0_c) (constantI S_ 32 0#32),
    TRef.binary (TRef.of (T := ⟨S_, .i32⟩) main_call0_v5) (TRef.of (T := ⟨S_, .i32⟩) main_call0_c) (TRef.of (T := ⟨S_,
      .i1⟩) main_call0_v6) (cmpi .ne),
    TRef.binary (TRef.of (T := ⟨S_, .i1⟩) main_call0_v4) (TRef.of (T := ⟨S_, .i1⟩) main_call0_v6) (TRef.of (T := ⟨S_, .i1⟩)
      main_call0_v7) andi,
    TRef.nullary (TRef.of (T := ⟨S_, .i32⟩) main_call0_c_0) (constantI S_ 32 1#32),
    TRef.binary (TRef.of (T := ⟨S_, .i32⟩) main_call0_v1) (TRef.of (T := ⟨S_, .i32⟩) main_call0_c_0) (TRef.of (T := ⟨S_,
      .i32⟩) main_call0_v8) subi,
    TRef.ternary (TRef.of (T := ⟨S_, .i1⟩) main_call0_v7) (TRef.of (T := ⟨S_, .i32⟩) main_call0_v8) (TRef.of (T := ⟨S_,
      .i32⟩) main_call0_v1) (TRef.of (T := ⟨S_, .i32⟩) main_v1) select,
    nullary main_c_0 (constantI S_ 32 4096#32),
    TRef.unary (TRef.of (T := ⟨S_, .i32⟩) main_c_0) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_,
      .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_,
      .i32⟩) main_call1_v0) (TRef.of (T := ⟨S_, .i32⟩) main_call1_v2) select,
    TRef.binary (TRef.of (T := ⟨S_, .i32⟩) main_v0) (TRef.of (T := ⟨S_, .i32⟩) main_call1_v2) (TRef.of (T := ⟨S_, .i32⟩)
      main_call1_v3) Host.remsi,
    TRef.nullary (TRef.of (T := ⟨S_, .i32⟩) main_call1_c_1) (constantI S_ 32 0#32),
    TRef.binary (TRef.of (T := ⟨S_, .i32⟩) main_call1_v3) (TRef.of (T := ⟨S_, .i32⟩) main_call1_c_1) (TRef.of (T := ⟨S_,
      .i1⟩) main_call1_v4) (cmpi .ne),
    TRef.nullary (TRef.of (T := ⟨S_, .i32⟩) main_call1_c_2) (constantI S_ 32 0#32),
    TRef.binary (TRef.of (T := ⟨S_, .i32⟩) main_call1_v3) (TRef.of (T := ⟨S_, .i32⟩) main_call1_c_2) (TRef.of (T := ⟨S_,
      .i1⟩) main_call1_v5) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_,
      .i1⟩) main_call1_v6) (cmpi .slt),
    TRef.binary (TRef.of (T := ⟨S_, .i1⟩) main_call1_v5) (TRef.of (T := ⟨S_, .i1⟩) main_call1_v6) (TRef.of (T := ⟨S_, .i1⟩)
      main_call1_v7) (cmpi .ne),
    TRef.binary (TRef.of (T := ⟨S_, .i1⟩) main_call1_v7) (TRef.of (T := ⟨S_, .i1⟩) main_call1_v4) (TRef.of (T := ⟨S_, .i1⟩)
      main_call1_v8) andi,
    TRef.binary (TRef.of (T := ⟨S_, .i32⟩) main_call1_v3) (TRef.of (T := ⟨S_, .i32⟩) main_call1_v2) (TRef.of (T := ⟨S_,
      .i32⟩) main_call1_v9) addi,
    TRef.ternary (TRef.of (T := ⟨S_, .i1⟩) main_call1_v8) (TRef.of (T := ⟨S_, .i32⟩) main_call1_v9) (TRef.of (T := ⟨S_,
      .i32⟩) main_call1_v3) (TRef.of (T := ⟨S_, .i32⟩) main_v2) select ]

/-- The part that computes the new value. -/
abbrev valueOps : List (HloOp τ sig (Elt F)) :=
  [ nullary main_c_1 (constantI S_ 32 0#32),
    binary main_v1 main_c_1 main_v3 (cmpi .slt : (⟨S_, .i32⟩ : BufTy).Contents (Elt F) → (⟨S_, .i32⟩ : BufTy).Contents (Elt
      F) → (⟨S_, .i1⟩ : BufTy).Contents (Elt F)),
    nullary main_c_2 (constantI S_ 32 4096#32),
    binary main_v1 main_c_2 main_v4 (addi : (⟨S_, .i32⟩ : BufTy).Contents (Elt F) → (⟨S_, .i32⟩ : BufTy).Contents (Elt F) →
      (⟨S_, .i32⟩ : BufTy).Contents (Elt F)),
    ternary main_v3 main_v4 main_v1 main_v5 (select : (⟨S_, .i1⟩ : BufTy).Contents (Elt F) → (⟨S_, .i32⟩ : BufTy).Contents
      (Elt F) → (⟨S_, .i32⟩ : BufTy).Contents (Elt F) → (⟨S_, .i32⟩ : BufTy).Contents (Elt F)),
    nullary main_c_3 (constantI S_ 32 0#32),
    binary main_v2 main_c_3 main_v6 (cmpi .slt : (⟨S_, .i32⟩ : BufTy).Contents (Elt F) → (⟨S_, .i32⟩ : BufTy).Contents (Elt
      F) → (⟨S_, .i1⟩ : BufTy).Contents (Elt F)),
    nullary main_c_4 (constantI S_ 32 4096#32),
    binary main_v2 main_c_4 main_v7 (addi : (⟨S_, .i32⟩ : BufTy).Contents (Elt F) → (⟨S_, .i32⟩ : BufTy).Contents (Elt F) →
      (⟨S_, .i32⟩ : BufTy).Contents (Elt F)),
    ternary main_v6 main_v7 main_v2 main_v8 (select : (⟨S_, .i1⟩ : BufTy).Contents (Elt F) → (⟨S_, .i32⟩ : BufTy).Contents
      (Elt F) → (⟨S_, .i32⟩ : BufTy).Contents (Elt F) → (⟨S_, .i32⟩ : BufTy).Contents (Elt F)),
    unaryIndexed main_arg0 ![main_v5, main_v8] ⟨S_, .i32⟩ main_v9 ((fun x i => Host.dynamicSlice S1x1 x (fun k => (i k
      (Shape.Idx.first h_S_)).toInt) sliceFits_S4096x4096_S1x1) : (⟨S4096x4096, .f32⟩ : BufTy).Contents (Elt F) → (Fin
      2 → (⟨S_, .i32⟩ : BufTy).Contents (Elt F)) → (⟨S1x1, .f32⟩ : BufTy).Contents (Elt F)),
    reshape main_v9 main_v10 (rfl : (.f32 : EltTy) = .f32) shapeCasts_S1x1_S_,
    nullary main_cst (constant S_ .f32 0x3F800000#32),
    binary main_v10 main_cst main_v11 (subf : (⟨S_, .f32⟩ : BufTy).Contents (Elt F) → (⟨S_, .f32⟩ : BufTy).Contents (Elt F)
      → (⟨S_, .f32⟩ : BufTy).Contents (Elt F)),
    unary main_v11 main_v12 (Host.absf : (⟨S_, .f32⟩ : BufTy).Contents (Elt F) → (⟨S_, .f32⟩ : BufTy).Contents (Elt F)) ]

/-- The part that sets the two entries. -/
abbrev setOps : List (HloOp τ sig (Elt F)) :=
  [ nullary main_c_5 (constantI S_ 32 0#32),
    binary main_v1 main_c_5 main_v13 (cmpi .slt : (⟨S_, .i32⟩ : BufTy).Contents (Elt F) → (⟨S_, .i32⟩ : BufTy).Contents
      (Elt F) → (⟨S_, .i1⟩ : BufTy).Contents (Elt F)),
    nullary main_c_6 (constantI S_ 32 4096#32),
    binary main_v1 main_c_6 main_v14 (addi : (⟨S_, .i32⟩ : BufTy).Contents (Elt F) → (⟨S_, .i32⟩ : BufTy).Contents (Elt F)
      → (⟨S_, .i32⟩ : BufTy).Contents (Elt F)),
    ternary main_v13 main_v14 main_v1 main_v15 (select : (⟨S_, .i1⟩ : BufTy).Contents (Elt F) → (⟨S_, .i32⟩ :
      BufTy).Contents (Elt F) → (⟨S_, .i32⟩ : BufTy).Contents (Elt F) → (⟨S_, .i32⟩ : BufTy).Contents (Elt F)),
    nullary main_c_7 (constantI S_ 32 0#32),
    binary main_v2 main_c_7 main_v16 (cmpi .slt : (⟨S_, .i32⟩ : BufTy).Contents (Elt F) → (⟨S_, .i32⟩ : BufTy).Contents
      (Elt F) → (⟨S_, .i1⟩ : BufTy).Contents (Elt F)),
    nullary main_c_8 (constantI S_ 32 4096#32),
    binary main_v2 main_c_8 main_v17 (addi : (⟨S_, .i32⟩ : BufTy).Contents (Elt F) → (⟨S_, .i32⟩ : BufTy).Contents (Elt F)
      → (⟨S_, .i32⟩ : BufTy).Contents (Elt F)),
    ternary main_v16 main_v17 main_v2 main_v18 (select : (⟨S_, .i1⟩ : BufTy).Contents (Elt F) → (⟨S_, .i32⟩ :
      BufTy).Contents (Elt F) → (⟨S_, .i32⟩ : BufTy).Contents (Elt F) → (⟨S_, .i32⟩ : BufTy).Contents (Elt F)),
    unary main_v15 main_v19 (broadcastInDim S1 ![] bcast_S_S1 : (⟨S_, .i32⟩ : BufTy).Contents (Elt F) → (⟨S1, .i32⟩ :
      BufTy).Contents (Elt F)),
    unary main_v18 main_v20 (broadcastInDim S1 ![] bcast_S_S1 : (⟨S_, .i32⟩ : BufTy).Contents (Elt F) → (⟨S1, .i32⟩ :
      BufTy).Contents (Elt F)),
    binary main_v19 main_v20 main_v21 (join (F := F)),
    ternary main_arg0 main_v21 main_v12 main_v22 ((fun x i u => Host.scatter scatter_S4096x4096_S2_S__n_01_01_0 (fun _ b =>
      b) x i u) : (⟨S4096x4096, .f32⟩ : BufTy).Contents (Elt F) → (⟨S2, .i32⟩ : BufTy).Contents (Elt F) → (⟨S_, .f32⟩ :
      BufTy).Contents (Elt F) → (⟨S4096x4096, .f32⟩ : BufTy).Contents (Elt F)),
    nullary main_c_9 (constantI S_ 32 0#32),
    binary main_v2 main_c_9 main_v23 (cmpi .slt : (⟨S_, .i32⟩ : BufTy).Contents (Elt F) → (⟨S_, .i32⟩ : BufTy).Contents
      (Elt F) → (⟨S_, .i1⟩ : BufTy).Contents (Elt F)),
    nullary main_c_10 (constantI S_ 32 4096#32),
    binary main_v2 main_c_10 main_v24 (addi : (⟨S_, .i32⟩ : BufTy).Contents (Elt F) → (⟨S_, .i32⟩ : BufTy).Contents (Elt F)
      → (⟨S_, .i32⟩ : BufTy).Contents (Elt F)),
    ternary main_v23 main_v24 main_v2 main_v25 (select : (⟨S_, .i1⟩ : BufTy).Contents (Elt F) → (⟨S_, .i32⟩ :
      BufTy).Contents (Elt F) → (⟨S_, .i32⟩ : BufTy).Contents (Elt F) → (⟨S_, .i32⟩ : BufTy).Contents (Elt F)),
    nullary main_c_11 (constantI S_ 32 0#32),
    binary main_v1 main_c_11 main_v26 (cmpi .slt : (⟨S_, .i32⟩ : BufTy).Contents (Elt F) → (⟨S_, .i32⟩ : BufTy).Contents
      (Elt F) → (⟨S_, .i1⟩ : BufTy).Contents (Elt F)),
    nullary main_c_12 (constantI S_ 32 4096#32),
    binary main_v1 main_c_12 main_v27 (addi : (⟨S_, .i32⟩ : BufTy).Contents (Elt F) → (⟨S_, .i32⟩ : BufTy).Contents (Elt F)
      → (⟨S_, .i32⟩ : BufTy).Contents (Elt F)),
    ternary main_v26 main_v27 main_v1 main_v28 (select : (⟨S_, .i1⟩ : BufTy).Contents (Elt F) → (⟨S_, .i32⟩ :
      BufTy).Contents (Elt F) → (⟨S_, .i32⟩ : BufTy).Contents (Elt F) → (⟨S_, .i32⟩ : BufTy).Contents (Elt F)),
    unary main_v25 main_v29 (broadcastInDim S1 ![] bcast_S_S1 : (⟨S_, .i32⟩ : BufTy).Contents (Elt F) → (⟨S1, .i32⟩ :
      BufTy).Contents (Elt F)),
    unary main_v28 main_v30 (broadcastInDim S1 ![] bcast_S_S1 : (⟨S_, .i32⟩ : BufTy).Contents (Elt F) → (⟨S1, .i32⟩ :
      BufTy).Contents (Elt F)),
    binary main_v29 main_v30 main_v31 (join (F := F)),
    ternary main_v22 main_v31 main_v12 main_v32 ((fun x i u => Host.scatter scatter_S4096x4096_S2_S__n_01_01_0 (fun _ b =>
      b) x i u) : (⟨S4096x4096, .f32⟩ : BufTy).Contents (Elt F) → (⟨S2, .i32⟩ : BufTy).Contents (Elt F) → (⟨S_, .f32⟩ :
      BufTy).Contents (Elt F) → (⟨S4096x4096, .f32⟩ : BufTy).Contents (Elt F)) ]

/-- The whole line. -/
abbrev ops : List (HloOp τ sig (Elt F)) := splitOps ++ (valueOps ++ setOps)

set_option maxHeartbeats 4000000 in
/-- The reference's code is that line. -/
theorem main_eq (c : Dev nD) : main (F := F) c = seq ops := rfl

/-- No buffer and no semaphore of the reference is scoped. -/
theorem scopedRefs_eq : (Finset.univ.filter fun b : Ref sig .tc => b.isScoped) = ∅ := by decide
@[inherit_doc scopedRefs_eq]
theorem scopedSems_eq : (Finset.univ.filter fun sm : SemLoc sig => sm.isScoped .tc) = ∅ := by decide

/-- The operations of each part touch the main memory's buffers only. -/
theorem split_sub : (splitOps : List (HloOp τ sig (Elt F))).Forall fun op => op.bufs ⊆ tcRefs τ sig :=
  ⟨reshape_bufs_sub .., nullary_bufs_sub .., unary_bufs_sub .., binary_bufs_sub .., unary_bufs_sub .., unary_bufs_sub
    .., binary_bufs_sub .., binary_bufs_sub .., nullary_bufs_sub .., binary_bufs_sub .., binary_bufs_sub ..,
    nullary_bufs_sub .., binary_bufs_sub .., ternary_bufs_sub .., nullary_bufs_sub .., unary_bufs_sub ..,
    nullary_bufs_sub .., binary_bufs_sub .., nullary_bufs_sub .., ternary_bufs_sub .., binary_bufs_sub ..,
    nullary_bufs_sub .., binary_bufs_sub .., nullary_bufs_sub .., binary_bufs_sub .., nullary_bufs_sub ..,
    binary_bufs_sub .., binary_bufs_sub .., binary_bufs_sub .., binary_bufs_sub .., ternary_bufs_sub ..⟩
@[inherit_doc split_sub]
theorem value_sub : (valueOps : List (HloOp τ sig (Elt F))).Forall fun op => op.bufs ⊆ tcRefs τ sig :=
  ⟨nullary_bufs_sub .., binary_bufs_sub .., nullary_bufs_sub .., binary_bufs_sub .., ternary_bufs_sub ..,
    nullary_bufs_sub .., binary_bufs_sub .., nullary_bufs_sub .., binary_bufs_sub .., ternary_bufs_sub ..,
    unaryIndexed_bufs_sub .., reshape_bufs_sub .., nullary_bufs_sub .., binary_bufs_sub .., unary_bufs_sub ..⟩
@[inherit_doc split_sub]
theorem set_sub : (setOps : List (HloOp τ sig (Elt F))).Forall fun op => op.bufs ⊆ tcRefs τ sig :=
  ⟨nullary_bufs_sub .., binary_bufs_sub .., nullary_bufs_sub .., binary_bufs_sub .., ternary_bufs_sub ..,
    nullary_bufs_sub .., binary_bufs_sub .., nullary_bufs_sub .., binary_bufs_sub .., ternary_bufs_sub ..,
    unary_bufs_sub .., unary_bufs_sub .., binary_bufs_sub .., ternary_bufs_sub .., nullary_bufs_sub ..,
    binary_bufs_sub .., nullary_bufs_sub .., binary_bufs_sub .., ternary_bufs_sub .., nullary_bufs_sub ..,
    binary_bufs_sub .., nullary_bufs_sub .., binary_bufs_sub .., ternary_bufs_sub .., unary_bufs_sub ..,
    unary_bufs_sub .., binary_bufs_sub .., ternary_bufs_sub ..⟩

/-- The operations of the whole line touch the main memory's buffers only. -/
theorem ops_sub : (ops : List (HloOp τ sig (Elt F))).Forall fun op => op.bufs ⊆ tcRefs τ sig :=
  List.forall_append.2 ⟨split_sub, List.forall_append.2 ⟨value_sub, set_sub⟩⟩

/-- Every operation determines its result. -/
theorem ops_fresh : ∀ op ∈ (ops : List (HloOp τ sig (Elt F))), op.fresh = ∅ := by
  intro op h
  rcases List.mem_append.1 h with h | h
  · (repeat (cases h with | head => rfl | tail _ h => ?_)); exact nomatch h
  rcases List.mem_append.1 h with h | h
  · (repeat (cases h with | head => rfl | tail _ h => ?_)); exact nomatch h
  · (repeat (cases h with | head => rfl | tail _ h => ?_)); exact nomatch h

/-- Two lines run one after the other. -/
theorem after_join : ∀ (l₁ l₂ : List (HloOp τ sig (Elt F))) (W : Valuation τ sig (Elt F)), after (l₁ ++ l₂) W = after l₂ (after l₁ W)
  | [], _, _ => rfl
  | op :: l₁, l₂, W => after_join l₁ l₂ (op.result W)

variable (W : Valuation τ sig (Elt F))

set_option maxHeartbeats 1000000 in
/-- What the first part leaves: the row and the column, and the arguments as they were. -/
theorem split_reads :
    after splitOps W (Proc.devRef .tc main_v1) = rowOf (W (Proc.devRef .tc main_arg2))
    ∧ after splitOps W (Proc.devRef .tc main_v2) = colOf (W (Proc.devRef .tc main_arg2))
    ∧ after splitOps W (Proc.devRef .tc main_arg0) = W (Proc.devRef .tc main_arg0)
    ∧ after splitOps W (Proc.devRef .tc main_arg1) = W (Proc.devRef .tc main_arg1)
    ∧ after splitOps W (Proc.devRef .tc main_arg2) = W (Proc.devRef .tc main_arg2) := by
  refine ⟨?_, ?_, ?_, ?_, ?_⟩
  · after_reads_simp; rfl
  · after_reads_simp; rfl
  · after_reads_simp
  · after_reads_simp
  · after_reads_simp

set_option maxHeartbeats 1000000 in
/-- What the second part leaves: the new value, and the row, the column and the arguments as they were. -/
theorem value_reads :
    after valueOps W (Proc.devRef .tc main_v12)
      = newValue (W (Proc.devRef .tc main_arg0)) (wrap (W (Proc.devRef .tc main_v1))) (wrap (W (Proc.devRef .tc main_v2)))
    ∧ after valueOps W (Proc.devRef .tc main_v1) = W (Proc.devRef .tc main_v1)
    ∧ after valueOps W (Proc.devRef .tc main_v2) = W (Proc.devRef .tc main_v2)
    ∧ after valueOps W (Proc.devRef .tc main_arg0) = W (Proc.devRef .tc main_arg0)
    ∧ after valueOps W (Proc.devRef .tc main_arg1) = W (Proc.devRef .tc main_arg1)
    ∧ after valueOps W (Proc.devRef .tc main_arg2) = W (Proc.devRef .tc main_arg2) := by
  refine ⟨?_, ?_, ?_, ?_, ?_, ?_⟩
  · after_reads_simp
    unfold newValue wrap
    refine congrArg Host.absf (congrArg₂ subf (congrArg (fun g => shapeCast S_ (Host.dynamicSlice S1x1 _ g _) _) ?_) rfl)
    funext k
    fin_cases k
    · refine congrArg (fun v : IVec S_ 32 => (v _).toInt) ?_
      show after _ W (Proc.devRef .tc main_v5) = _
      after_reads_simp
      try rfl
    · refine congrArg (fun v : IVec S_ 32 => (v _).toInt) ?_
      show after _ W (Proc.devRef .tc main_v8) = _
      after_reads_simp
      try rfl
  · after_reads_simp
  · after_reads_simp
  · after_reads_simp
  · after_reads_simp
  · after_reads_simp

set_option maxHeartbeats 1000000 in
/-- What the third part leaves: the array with the two entries set, and the arguments as they were. -/
theorem set_reads :
    after setOps W (Proc.devRef .tc main_v32)
      = set (set (W (Proc.devRef .tc main_arg0)) (wrap (W (Proc.devRef .tc main_v1))) (wrap (W (Proc.devRef .tc main_v2)))
            (W (Proc.devRef .tc main_v12)))
          (wrap (W (Proc.devRef .tc main_v2))) (wrap (W (Proc.devRef .tc main_v1))) (W (Proc.devRef .tc main_v12))
    ∧ after setOps W (Proc.devRef .tc main_arg0) = W (Proc.devRef .tc main_arg0)
    ∧ after setOps W (Proc.devRef .tc main_arg1) = W (Proc.devRef .tc main_arg1)
    ∧ after setOps W (Proc.devRef .tc main_arg2) = W (Proc.devRef .tc main_arg2) := by
  refine ⟨?_, ?_, ?_, ?_⟩
  · after_reads_simp; rfl
  · after_reads_simp
  · after_reads_simp
  · after_reads_simp

/-- What the whole line leaves. -/
theorem ops_reads :
    after ops W (Proc.devRef .tc main_v32) = changed (W (Proc.devRef .tc main_arg0)) (W (Proc.devRef .tc main_arg2))
    ∧ after ops W (Proc.devRef .tc main_arg0) = W (Proc.devRef .tc main_arg0)
    ∧ after ops W (Proc.devRef .tc main_arg1) = W (Proc.devRef .tc main_arg1)
    ∧ after ops W (Proc.devRef .tc main_arg2) = W (Proc.devRef .tc main_arg2) := by
  have e : after ops W = after setOps (after valueOps (after splitOps W)) := by
    rw [after_join, after_join]
  obtain ⟨a1, a2, a3, a4, a5⟩ := split_reads W
  obtain ⟨b1, b2, b3, b4, b5, b6⟩ := value_reads (after splitOps W)
  obtain ⟨c1, c2, c3, c4⟩ := set_reads (after valueOps (after splitOps W))
  refine ⟨(congrFun e _).trans ?_, (congrFun e _).trans (c2.trans (b4.trans a3)), (congrFun e _).trans (c3.trans (b5.trans a4)),
    (congrFun e _).trans (c4.trans (b6.trans a5))⟩
  refine c1.trans ?_
  rw [b1, b2, b3, b4, a1, a2, a3]
  rfl

/-- The reference's run: it ends, its result is the changed array, and its arguments are as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
        = changed (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨e0, e1, e2, e3⟩ := ops_reads (launchContents m c)
    exact ⟨(h c main_v32).trans e0, (h c main_arg0).trans e1, (h c main_arg1).trans e2, (h c main_arg2).trans e3⟩)
    (run_seq scopedRefs_eq scopedSems_eq defs main (fun _ => ops) main_eq (fun _ => ops_sub) m ρ (fun _ => ops_fresh))

end Cert.Proof.FlipReference

end
-- ==== Proof.Flip.Reference.lean ====
/- The array the flip's reference computes, entry by entry. The reference splits the selected position into a row and
   a column, reads the entry there, and sets that entry and the one mirrored across the diagonal to the distance of
   the entry read from one. -/
module

public import proofs.«01_k».proof.Proof.Flip.ReferenceRun
public import Idealize.ShloMosaic.Lib.Pointwise
public import Idealize.ShloMosaic.Lib.DynamicIndex
public import Idealize.ShloMosaic.Lib.ValueIdx

@[expose] public section

set_option maxRecDepth 16384

noncomputable section

namespace Cert.Proof.FlipReference

open Cert.FlipReferenceIdeal Cert.FlipReferenceIdeal.Gen Cert.Proof.Flip
open Idealize.ShloMosaic Idealize.ShloMosaic.TcCoe Idealize.ShloMosaic.Tactic

variable {F : FTy → Type} [FloatOps F]

/-- Entries of a vector of two indices. -/
theorem pair_apply (a b : IVec S_ 32) : pair a b (ix1 0) = a ix0 ∧ pair a b (ix1 1) = b ix0 := by
  unfold pair
  refine ⟨?_, ?_⟩ <;> pointwise

/-- A word that holds a number of a row or a column, read signed. -/
theorem toInt_small (r : ℕ) (h : r < 4096) : (BitVec.ofNat 32 r).toInt = r := by
  rw [BitVec.toInt_eq_toNat_cond, BitVec.toNat_ofNat]
  omega

/-- An index that is not negative is taken as it is. -/
theorem wrap_apply (v : IVec S_ 32) (r : ℕ) (h : r < 4096) (e : v ix0 = BitVec.ofNat 32 r) : wrap v ix0 = BitVec.ofNat 32 r := by
  unfold wrap
  rw [select_slt_zero_of_nonneg _ _ _ _ (by rw [e, toInt_small r h]; omega), e]

/-- Setting one entry leaves the others. -/
theorem set_apply (adj : FVec F S4096x4096 .f32) (a b : IVec S_ 32) (v : FVec F S_ .f32) (r c : ℕ) (hr : r < 4096) (hc : c < 4096)
    (ea : a ix0 = BitVec.ofNat 32 r) (eb : b ix0 = BitVec.ofNat 32 c) (i : S4096x4096.Idx) :
    set adj a b v i = if (i 0).val = r ∧ (i 1).val = c then v ix0 else adj i := by
  have hs : ∀ j : S_.Idx, scatter_S4096x4096_S2_S__n_01_01_0.resultIdx? j (pair a b) = some (ix2 ⟨r, hr⟩ ⟨c, hc⟩) := by
    intro j
    have s0 : scatter_S4096x4096_S2_S__n_01_01_0.start j (pair a b) 0 = r := by
      have : scatter_S4096x4096_S2_S__n_01_01_0.start j (pair a b) 0 = (pair a b (ix1 0)).toInt := by
        refine congrArg (fun k => (pair a b k).toInt) ?_
        funext k; fin_cases k; rfl
      rw [this, (pair_apply a b).1, ea, toInt_small r hr]
    have s1 : scatter_S4096x4096_S2_S__n_01_01_0.start j (pair a b) 1 = c := by
      have : scatter_S4096x4096_S2_S__n_01_01_0.start j (pair a b) 1 = (pair a b (ix1 1)).toInt := by
        refine congrArg (fun k => (pair a b k).toInt) ?_
        funext k; fin_cases k; rfl
      rw [this, (pair_apply a b).2, eb, toInt_small c hc]
    have w0 : ∀ k, scatter_S4096x4096_S2_S__n_01_01_0.window j k = 0 := by
      intro k; fin_cases k <;> rfl
    unfold ScatterDims.resultIdx?
    rw [dif_pos (by
      intro k
      rw [w0 k]
      fin_cases k
      · show 0 ≤ scatter_S4096x4096_S2_S__n_01_01_0.start j (pair a b) 0 + _ ∧ scatter_S4096x4096_S2_S__n_01_01_0.start j (pair a b) 0 + _ < (4096 : ℤ)
        rw [s0]; omega
      · show 0 ≤ scatter_S4096x4096_S2_S__n_01_01_0.start j (pair a b) 1 + _ ∧ scatter_S4096x4096_S2_S__n_01_01_0.start j (pair a b) 1 + _ < (4096 : ℤ)
        rw [s1]; omega)]
    refine congrArg some ?_
    funext k
    refine Fin.ext ?_
    show (scatter_S4096x4096_S2_S__n_01_01_0.start j (pair a b) k + scatter_S4096x4096_S2_S__n_01_01_0.window j k).toNat = _
    rw [w0 k]
    fin_cases k
    · show (scatter_S4096x4096_S2_S__n_01_01_0.start j (pair a b) 0 + _).toNat = r
      rw [s0]; omega
    · show (scatter_S4096x4096_S2_S__n_01_01_0.start j (pair a b) 1 + _).toNat = c
      rw [s1]; omega
  have hn : List.finRange S_.numel = [⟨0, h_S_⟩] := rfl
  unfold set Host.scatter
  rw [hn, List.foldl_cons, List.foldl_nil, hs]
  show (if i = ix2 ⟨r, hr⟩ ⟨c, hc⟩ then v _ else adj i) = _
  have hv : S_.rowMajor.symm ⟨0, h_S_⟩ = ix0 := by funext k; exact k.elim0
  rw [hv]
  by_cases h : (i 0).val = r ∧ (i 1).val = c
  · rw [if_pos h, if_pos]
    funext k
    fin_cases k
    · exact Fin.ext h.1
    · exact Fin.ext h.2
  · rw [if_neg h, if_neg]
    rintro rfl
    exact h ⟨rfl, rfl⟩

/-- The new value, from the entry read. -/
theorem newValue_apply (adj : FVec F S4096x4096 .f32) (a b : IVec S_ 32) (r c : ℕ) (hr : r < 4096) (hc : c < 4096)
    (ea : a ix0 = BitVec.ofNat 32 r) (eb : b ix0 = BitVec.ofNat 32 c) :
    newValue adj a b ix0 = FloatOps.hostAbsf (FloatOps.subf (adj (ix2 ⟨r, hr⟩ ⟨c, hc⟩)) (FloatOps.ofBits .f32 0x3F800000#32)) := by
  have hf : Shape.Idx.first h_S_ = ix0 := by funext k; exact k.elim0
  have hoff : S4096x4096.Slices ![r, c] S1x1 := ⟨rfl, fun k => by
    fin_cases k
    · show r + 1 ≤ 4096; omega
    · show c + 1 ≤ 4096; omega⟩
  unfold newValue
  rw [Host.dynamicSlice_eq_extractStridedSlice S1x1 adj _ ![r, c] _ hoff (fun k => by
    rw [hf]
    fin_cases k
    · show (a ix0).toInt = (r : ℤ); rw [ea, toInt_small r hr]
    · show (b ix0).toInt = (c : ℤ); rw [eb, toInt_small c hc])]
  pointwise

/-- The row of the selected position, where that is one of the array. -/
theorem row_word (x : IVec S1x1 32) (h : (x (ix2 0 0)).toNat < 16777216) : rowOf x ix0 = BitVec.ofNat 32 ((x (ix2 0 0)).toNat / 4096) := by
  have e : flat x ix0 = x (ix2 0 0) := by unfold flat; pointwise
  unfold rowOf
  rw [hostFloorDiv_apply _ _ _ (by rw [e]; omega) (by decide) (by decide), e]
  refine BitVec.eq_of_toNat_eq ?_
  show (x (ix2 0 0) / 4096#32).toNat = _
  rw [BitVec.toNat_udiv, BitVec.toNat_ofNat]
  simp
  omega

/-- The column of the selected position, where that is one of the array. -/
theorem col_word (x : IVec S1x1 32) (h : (x (ix2 0 0)).toNat < 16777216) : colOf x ix0 = BitVec.ofNat 32 ((x (ix2 0 0)).toNat % 4096) := by
  have e : flat x ix0 = x (ix2 0 0) := by unfold flat; pointwise
  have d : select (cmpi .eq cols (constantI S_ 32 0#32)) (constantI S_ 32 1#32) cols = cols := by funext i; rfl
  unfold colOf
  rw [d, hostRem_apply _ _ _ (by rw [e]; omega) (by decide) (by decide), e]
  refine BitVec.eq_of_toNat_eq ?_
  show (x (ix2 0 0) % 4096#32).toNat = _
  rw [BitVec.toNat_umod, BitVec.toNat_ofNat]
  simp
  omega

/-- An entry of the reference's array: at the selected position and at the one mirrored across the diagonal the
    distance of the selected entry from one, elsewhere the argument's. -/
theorem changed_apply (adj : FVec F S4096x4096 .f32) (x : IVec S1x1 32) (h : (x (ix2 0 0)).toNat < 16777216) (i : S4096x4096.Idx) :
    changed adj x i
      = if ((i 0).val = (x (ix2 0 0)).toNat / 4096 ∧ (i 1).val = (x (ix2 0 0)).toNat % 4096)
            ∨ ((i 0).val = (x (ix2 0 0)).toNat % 4096 ∧ (i 1).val = (x (ix2 0 0)).toNat / 4096) then
          FloatOps.hostAbsf (FloatOps.subf (adj (ix2 ⟨(x (ix2 0 0)).toNat / 4096, by omega⟩ ⟨(x (ix2 0 0)).toNat % 4096, by omega⟩))
            (FloatOps.ofBits .f32 0x3F800000#32))
        else adj i := by
  have hr : (x (ix2 0 0)).toNat / 4096 < 4096 := by omega
  have hc : (x (ix2 0 0)).toNat % 4096 < 4096 := by omega
  have er := wrap_apply _ _ hr (row_word x h)
  have ec := wrap_apply _ _ hc (col_word x h)
  unfold changed
  rw [set_apply _ _ _ _ _ _ hc hr ec er, set_apply _ _ _ _ _ _ hr hc er ec, newValue_apply _ _ _ _ _ hr hc er ec]
  by_cases h1 : (i 0).val = (x (ix2 0 0)).toNat % 4096 ∧ (i 1).val = (x (ix2 0 0)).toNat / 4096
  · rw [if_pos h1, if_pos (Or.inr h1)]
  · rw [if_neg h1]
    by_cases h2 : (i 0).val = (x (ix2 0 0)).toNat / 4096 ∧ (i 1).val = (x (ix2 0 0)).toNat % 4096
    · rw [if_pos h2, if_pos (Or.inl h2)]
    · rw [if_neg h2, if_neg (by rintro (g | g); exacts [h2 g, h1 g])]

end Cert.Proof.FlipReference

end
-- ==== Proof.Flip.Selected.lean ====
/- The precondition of the flip, read: the selected position is one of the array, and the entry there is one if its
   score is positive, and zero otherwise. -/
module

public import proofs.«01_k».proof.Proof.Gen.Pre_selected_entry
public import proofs.«01_k».proof.Proof.Value.Sums
public import Idealize.ShloMosaic.Lib.Pointwise
public import Idealize.ShloMosaic.Lib.WordArith

@[expose] public section

set_option maxRecDepth 16384

noncomputable section

namespace Cert.Proof.FlipSelected

open Cert.Pre_selected_entry Idealize.ShloMosaic Idealize.ShloMosaic.Tactic

/-- Where two truth values are both true, each is. -/
theorem and_true (a b : BitVec 1) (h : a &&& b = 1#1) : a = 1#1 ∧ b = 1#1 := by
  revert a b
  decide

/-- A comparison that comes out true. -/
theorem ofBool_true (b : Bool) (h : BitVec.ofBool b = 1#1) : b = true := by
  revert b
  decide

/-- A disjunction whose second part is the negation of something true. -/
theorem or_not_true (a b : BitVec 1) (h : a ||| ~~~b = 1#1) (hb : b = 1#1) : a = 1#1 := by
  revert a b
  decide

variable {F : FTy → Type} [FloatOps F] [Facts]

/-- The two parts of the precondition at an entry of the array. -/
theorem parts (adj : FVec F S4096x4096 .f32) (v : FVec F S1x1 .f32) (x : IVec S1x1 32) (h : fn (F := F) adj v x = fun _ => 1#1)
    (r c : Fin 4096) :
    (BitVec.sle 0#32 (x (ix2 0 0)) = true ∧ BitVec.slt (x (ix2 0 0)) 16777216#32 = true)
    ∧ (BitVec.ofNat 32 r.val * 4096#32 + BitVec.ofNat 32 c.val = x (ix2 0 0) →
        FloatOps.cmpf .oeq (adj (ix2 r c)) (Scalar.select (FloatOps.cmpf .ogt (v (ix2 0 0)) (FloatOps.ofBits .f32 0x00000000#32))
          (FloatOps.ofBits .f32 0x3F800000#32) (FloatOps.ofBits .f32 0x00000000#32)) = 1#1) := by
  have hx : ∀ i : S_.Idx, shapeCast S_ x Facts.shapeCasts_S1x1_S_ i = x (ix2 0 0) := by
    intro i; have : i = ix0 := by funext k; exact k.elim0
    subst this; pointwise
  have hv : ∀ i : S_.Idx, shapeCast S_ v Facts.shapeCasts_S1x1_S_ i = v (ix2 0 0) := by
    intro i; have : i = ix0 := by funext k; exact k.elim0
    subst this; pointwise
  obtain ⟨h1, h2⟩ := and_true _ _ (congrFun h (ix2 r c))
  obtain ⟨h3, h4⟩ := and_true _ _ h1
  refine ⟨⟨?_, ?_⟩, fun e => ?_⟩
  · have := ofBool_true _ h3
    rwa [hx] at this
  · have := ofBool_true _ h4
    rwa [hx] at this
  · have := or_not_true _ _ h2 (by
      show BitVec.ofBool (BitVec.ofNat 32 r.val * 4096#32 + BitVec.ofNat 32 c.val == shapeCast S_ x Facts.shapeCasts_S1x1_S_ _) = 1#1
      rw [hx, e]
      simp)
    have t : FloatOps.cmpf .oeq (adj (ix2 r c)) (Scalar.select (FloatOps.cmpf .ogt (shapeCast S_ v Facts.shapeCasts_S1x1_S_ ix0) (FloatOps.ofBits .f32 0x00000000#32))
          (FloatOps.ofBits .f32 0x3F800000#32) (FloatOps.ofBits .f32 0x00000000#32)) = 1#1 := by
      refine Eq.trans ?_ this
      refine congrArg (FloatOps.cmpf .oeq (adj (ix2 r c))) ?_
      show select (cmpf .ogt (shapeCast S_ v Facts.shapeCasts_S1x1_S_) (constant S_ .f32 0x00000000#32)) (constant S_ .f32 0x3F800000#32) (constant S_ .f32 0x00000000#32) ix0
        = select (cmpf .ogt (shapeCast S_ v Facts.shapeCasts_S1x1_S_) (constant S_ .f32 0x00000000#32)) (constant S_ .f32 0x3F800000#32) (constant S_ .f32 0x00000000#32) _
      refine congrArg _ ?_
      funext k; exact k.elim0
    rwa [hv] at t

/-- The selected position is one of the array. -/
theorem inside (adj : FVec F S4096x4096 .f32) (v : FVec F S1x1 .f32) (x : IVec S1x1 32) (h : fn (F := F) adj v x = fun _ => 1#1) :
    (x (ix2 0 0)).toNat < 16777216 := by
  obtain ⟨⟨h0, h1⟩, -⟩ := parts adj v x h 0 0
  exact WordArith.toNat_lt_of_zero_sle_of_slt_ofNat _ _ (by decide) h0 h1

/-- The selected entry, where floats are extended reals: one if its score is positive, and zero otherwise. -/
theorem entry (adj : FVec Ideal S4096x4096 .f32) (v : FVec Ideal S1x1 .f32) (x : IVec S1x1 32) (h : fn (F := Ideal) adj v x = fun _ => 1#1)
    (r c : Fin 4096) (hr : r.val = (x (ix2 0 0)).toNat / 4096) (hc : c.val = (x (ix2 0 0)).toNat % 4096) :
    (adj (ix2 r c) : EReal) = if (0 : EReal) < v (ix2 0 0) then 1 else 0 := by
  have hx := inside adj v x h
  have e : BitVec.ofNat 32 r.val * 4096#32 + BitVec.ofNat 32 c.val = x (ix2 0 0) := by
    refine BitVec.eq_of_toNat_eq ?_
    rw [BitVec.toNat_add, BitVec.toNat_mul, BitVec.toNat_ofNat, BitVec.toNat_ofNat, BitVec.toNat_ofNat, hr, hc]
    omega
  have t := (parts adj v x h r c).2 e
  have t' : (adj (ix2 r c) : EReal) = Scalar.select (BitVec.ofBool (decide (Ideal.ofBits .f32 0x00000000#32 < v (ix2 0 0))))
      (Ideal.ofBits .f32 0x3F800000#32) (Ideal.ofBits .f32 0x00000000#32) := of_decide_eq_true (ofBool_true _ t)
  rw [t', Value.lit_zero, Value.lit_one]
  by_cases g : (0 : EReal) < v (ix2 0 0)
  · rw [if_pos g, decide_eq_true g]; rfl
  · rw [if_neg g, decide_eq_false g]; rfl

end Cert.Proof.FlipSelected

end
-- ==== Proof.Flip.Equation.lean ====
/- The array the flip's kernel leaves is the one its reference computes. The kernel takes the new value from the score:
   zero if it is positive, and one otherwise. The reference takes the distance of the selected entry from one. By the
   precondition the entry is one where the score is positive, and zero otherwise, so that the two agree. -/
module

public import proofs.«01_k».proof.Proof.Flip.Array
public import proofs.«01_k».proof.Proof.Flip.Reference
public import proofs.«01_k».proof.Proof.Flip.Selected

@[expose] public section

set_option maxRecDepth 16384

noncomputable section

namespace Cert.Proof.FlipValue

open Cert.FlipIdeal Cert.FlipIdeal.Gen Cert.Proof.FlipIdeal
open Idealize.ShloMosaic Idealize.ShloMosaic.TcCoe Idealize.ShloMosaic.Tactic

/-- The new value, from the score. -/
theorem value_eq (v : FVec Ideal S1x1 .f32) : (shapeCast S1x1
    (select (cmpf .ogt (shapeCast S_ v shapeCasts_S1x1_S_) (constant S_ .f32 0x00000000#32))
      (constant S_ .f32 0x00000000#32) (constant S_ .f32 0x3F800000#32) : FVec Ideal S_ .f32) shapeCasts_S_S1x1 (ix2 0 0) : EReal)
      = if (0 : EReal) < v (ix2 0 0) then (0 : EReal) else 1 := by
  have hv : shapeCast S_ v shapeCasts_S1x1_S_ ix0 = v (ix2 0 0) := by pointwise
  have hw : ∀ w : FVec Ideal S_ .f32, shapeCast S1x1 w shapeCasts_S_S1x1 (ix2 0 0) = w ix0 := fun w => by pointwise
  refine (hw _).trans ?_
  refine Eq.trans (b := Scalar.select (BitVec.ofBool (decide (Ideal.ofBits .f32 0x00000000#32 < v (ix2 0 0))))
    (Ideal.ofBits .f32 0x00000000#32) (Ideal.ofBits .f32 0x3F800000#32)) ?_ ?_
  · rw [← hv]; rfl
  · rw [Value.lit_zero, Value.lit_one]
    by_cases g : (0 : EReal) < v (ix2 0 0)
    · rw [if_pos g, decide_eq_true g]; rfl
    · rw [if_neg g, decide_eq_false g]; rfl

/-- The score, as an extended real. -/
def score (m : (ℓ : Loc nD τ sig) → Buf (Elt Ideal) ℓ) (c : Dev nD) : EReal :=
  (m ((c.tc : Thread nD τ).loc main_arg1) : FVec Ideal S1x1 .f32) (ix2 0 0)

/-- The new value of the kernel. -/
theorem kernel_value (m : (ℓ : Loc nD τ sig) → Buf (Elt Ideal) ℓ) (c : Dev nD) :
    (V m c main_v16 : FVec Ideal S1x1 .f32) (ix2 0 0) = (if (0 : EReal) < score m c then (0 : EReal) else 1 : EReal) :=
  (congrFun (V_val m c) (ix2 0 0)).trans (value_eq _)

/-- The distance from one of one is zero, and that of zero is one. -/
theorem distance (P : Prop) [Decidable P] : max ((if P then (1 : EReal) else 0) - 1) (-((if P then (1 : EReal) else 0) - 1)) = if P then 0 else 1 := by
  have h1 : (1 : EReal) - 1 = 0 := by
    rw [← EReal.coe_one, ← EReal.coe_sub, sub_self]; rfl
  have h2 : (0 : EReal) - 1 = -1 := zero_sub 1
  have h3 : max (-1 : EReal) 1 = 1 := max_eq_right (by
    rw [← EReal.coe_one, ← EReal.coe_neg]
    exact EReal.coe_le_coe_iff.2 (by norm_num))
  by_cases h : P
  · rw [if_pos h, if_pos h, h1, neg_zero, max_self]
  · rw [if_neg h, if_neg h, h2, neg_neg, h3]

/-- Under the precondition the two arrays are one. -/
theorem arrays_eq (m : (ℓ : Loc nD τ sig) → Buf (Elt Ideal) ℓ)
    (h : Cert.Pre_selected_entry.fn (F := Ideal) (m (((0 : Dev nD).tc : Thread nD τ).loc main_arg0)) (m (((0 : Dev nD).tc : Thread nD τ).loc main_arg1))
      (m (((0 : Dev nD).tc : Thread nD τ).loc main_arg2)) = fun _ => 1#1) :
    FlipReference.changed (F := Ideal) (m (((0 : Dev nD).tc : Thread nD τ).loc main_arg0)) (m (((0 : Dev nD).tc : Thread nD τ).loc main_arg2)) = flipped m 0 := by
  have hx : (word m 0).toNat < 16777216 := FlipSelected.inside _ _ _ h
  refine funext fun i => ?_
  refine (FlipReference.changed_apply _ _ hx i).trans ?_
  refine if_congr Iff.rfl ?_ rfl
  refine Eq.trans ?_ (kernel_value m 0).symm
  refine Eq.trans ?_ (distance _)
  have e := FlipSelected.entry _ _ _ h ⟨_, (by omega : (word m 0).toNat / 4096 < 4096)⟩ ⟨_, (by omega : (word m 0).toNat % 4096 < 4096)⟩ rfl rfl
  refine (congrArg (fun a : EReal => max (a - Ideal.ofBits .f32 0x3F800000#32) (-(a - Ideal.ofBits .f32 0x3F800000#32))) e).trans ?_
  rw [Value.lit_one]
  rfl

end Cert.Proof.FlipValue

end
-- ==== Proof.lean ====
/- The certificate: the frames of the kernel, its idealization and the reference, and the equality of their two results; and
   the same for the flip, a program of its own. -/
module

public import proofs.«01_k».proof.Proof.Gen.ReferenceIdeal.Run
public import proofs.«01_k».proof.Defs
public import proofs.«01_k».proof.Proof.Printed.Run
public import proofs.«01_k».proof.Proof.Idealized.Run
public import proofs.«01_k».proof.Proof.Value.Scores
public import proofs.«01_k».proof.Proof.Value.Equation
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Flip.Frame
public import proofs.«01_k».proof.Proof.Gen.FlipIdeal.Frame
public import proofs.«01_k».proof.Proof.Flip.PrintedPlace
public import proofs.«01_k».proof.Proof.Flip.Equation
public import proofs.«01_k».proof.Proof.Gen.Pre_selected_entry
public import proofs.«01_k».proof.Proof.Gen.Pre_symmetric_zero_diagonal
public import Idealize.ShloMosaic.Adequacy
public import Idealize.ShloMosaic.Init

@[expose] public section

noncomputable section

namespace Cert.Proof

open Idealize.ShloMosaic Idealize.SL.Sem Cert.Kernel

/-- The side conditions of the precondition. -/
theorem pre_facts : Cert.Pre_symmetric_zero_diagonal.Facts := ⟨by decide, by decide⟩

/-- The kernel runs, leaves its arguments alone and every counter at zero. -/
theorem frame_kernel : Cert.quiescent_Kernel (hKernel := Cert.Kernel.Gen.facts) := fun m ρ _ =>
  (θ_run Cert.Kernel.defs _ _).mono (fun _ h => ⟨fun c => (h.1 c).2.2, h.2⟩) (Cert.Proof.Printed.run_main (F := Bits) m ρ)

/-- So does its idealization. -/
theorem frame_ideal : Cert.quiescent_KernelIdeal (hKernelIdeal := Cert.KernelIdeal.Gen.facts) := fun m ρ _ =>
  (θ_run Cert.KernelIdeal.defs _ _).mono (fun _ h => ⟨fun c => (h.1 c).2.2, h.2⟩) (Cert.Proof.Idealized.run_main (F := Ideal) m ρ)

/-- So does the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- With a symmetric adjacency and a zero diagonal the idealized program and the reference end with the same two results. -/
theorem same_results : Cert.algebraic_KernelIdeal_ReferenceIdeal_pre_symmetric_zero_diagonal (hKernelIdeal := Cert.KernelIdeal.Gen.facts)
    (hReferenceIdeal := Cert.ReferenceIdeal.Gen.facts) (hPre_symmetric_zero_diagonal := pre_facts) := fun m ρ m' ρ' hpre hargs => by
  refine ⟨fun c => Cert.Proof.Idealized.adjRes (F := Ideal) m c, fun c => Cert.Proof.Idealized.scoreRes (F := Ideal) m c,
    (θ_run Cert.KernelIdeal.defs _ _).mono (fun _ h => h.1) (Cert.Proof.Idealized.run_main (F := Ideal) m ρ),
    (θ_run Cert.ReferenceIdeal.defs _ _).mono (fun r h c => ?_) (Cert.ReferenceIdeal.Value.run (F := Ideal) m' ρ')⟩
  obtain ⟨h0, h1, h2, -⟩ := hargs c
  have hA := @Cert.Proof.Value.plain_of_pre pre_facts _ _ _ _ _ _ _ (hpre c)
  exact ⟨(h c).1.trans ((congrArg₂ Cert.Proof.Value.refAdj h0 h1).trans ((Cert.Proof.Value.refAdj_eq hA _).trans (Cert.Proof.Value.adjRes_eq m c).symm)),
    (h c).2.1.trans ((congrArg₂ Cert.Proof.Value.refScore h0 h2).trans ((Cert.Proof.Value.refScore_eq hA _).trans (Cert.Proof.Value.scoreRes_eq m c).symm)), (h c).2.2⟩

/-- The flip runs, leaves its arguments alone and every counter at zero. -/
theorem frame_flip : Cert.quiescent_Flip (hFlip := Cert.Flip.Gen.facts) (hPre_selected_entry := Cert.Pre_selected_entry.Gen.facts) := fun m ρ h =>
  Cert.Flip.Gen.frame m ρ (Cert.Proof.FlipPrinted.ok (Cert.Proof.FlipSelected.inside _ _ _ (h 0)))

/-- So does its idealization. -/
theorem frame_flip_ideal : Cert.quiescent_FlipIdeal (hFlipIdeal := Cert.FlipIdeal.Gen.facts)
    (hPre_selected_entry := Cert.Pre_selected_entry.Gen.facts) := fun m ρ h =>
  Cert.FlipIdeal.Gen.frame m ρ (Cert.Proof.FlipIdeal.ok (Cert.Proof.FlipSelected.inside _ _ _ (h 0)))

/-- So does its reference. -/
theorem frame_flip_reference : Cert.quiescent_FlipReferenceIdeal (hFlipReferenceIdeal := Cert.FlipReferenceIdeal.Gen.facts) := fun m ρ _ =>
  (θ_run Cert.FlipReferenceIdeal.defs _ _).mono (fun r h => ⟨fun c => (h c).2, sem_eq_zero_of_no_sems (by decide) r.2⟩)
    (Cert.Proof.FlipReference.run (F := Ideal) m ρ)

/-- From the selected position and its score the idealized flip and its reference end with the same array. -/
theorem same_flip : Cert.algebraic_FlipIdeal_FlipReferenceIdeal (hFlipIdeal := Cert.FlipIdeal.Gen.facts)
    (hFlipReferenceIdeal := Cert.FlipReferenceIdeal.Gen.facts) (hPre_selected_entry := Cert.Pre_selected_entry.Gen.facts) :=
  fun m ρ m' ρ' hpre hargs => by
  have hin : Cert.Proof.FlipIdeal.Inside m 0 := Cert.Proof.FlipSelected.inside _ _ _ (hpre 0)
  have hO := Cert.Proof.FlipIdeal.ok hin
  refine ⟨fun c => Cert.Proof.FlipIdeal.flipped (F := Ideal) m c,
    (θ_run Cert.FlipIdeal.defs _ _).mono (fun r h c => ?_) (θ_run_and (Cert.FlipIdeal.Gen.unchanged m ρ hO) (Cert.FlipIdeal.Gen.run_main m ρ hO)),
    (θ_run Cert.FlipReferenceIdeal.defs _ _).mono (fun r h c => ?_) (Cert.Proof.FlipReference.run (F := Ideal) m' ρ')⟩
  · obtain rfl : c = 0 := Subsingleton.elim _ _
    exact ⟨((h.2 0).1 2).trans (Cert.Proof.FlipIdeal.result_eq hin hO), h.1 0⟩
  · obtain rfl : c = 0 := Subsingleton.elim _ _
    obtain ⟨h0, -, h2⟩ := hargs 0
    exact ⟨(h 0).1.trans ((congrArg₂ Cert.Proof.FlipReference.changed h0 h2).trans (Cert.Proof.FlipValue.arrays_eq m (hpre 0))), (h 0).2⟩

theorem claim : Cert.Claim := ⟨Cert.Kernel.Gen.facts, Cert.KernelIdeal.Gen.facts, Cert.ReferenceIdeal.Gen.facts, Cert.Flip.Gen.facts,
  Cert.FlipIdeal.Gen.facts, Cert.FlipReferenceIdeal.Gen.facts, pre_facts, Cert.Pre_selected_entry.Gen.facts,
  frame_kernel, frame_ideal, fun m ρ _ => frame_ideal m ρ trivial, frame_reference, fun m ρ _ => frame_reference m ρ trivial,
  frame_flip, frame_flip_ideal, frame_flip_reference, fun m ρ _ => frame_flip_reference m ρ trivial, trivial, same_results, trivial, same_flip⟩

end Cert.Proof

end
